-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v110)) (v1 : (c : Dev Cert.Kernel3Ideal.nD) → Buf (Elt Ideal) ((c.tc : Thread Cert.Kernel3Ideal.nD Cert.Kernel3Ideal.τ).loc Cert.Kernel3Ideal.main_v111)) (v2 : (c : Dev Cert.Kernel3Ideal.nD) → Buf (Elt Ideal) ((c.tc : Thread Cert.Kernel3Ideal.nD Cert.Kernel3Ideal.τ).loc Cert.Kernel3Ideal.main_v113)) (v3 : (c : Dev Cert.Kernel3Ideal.nD) → Buf (Elt Ideal) ((c.tc : Thread Cert.Kernel3Ideal.nD Cert.Kernel3Ideal.τ).loc Cert.Kernel3Ideal.main_v114)) (v4 : (c : Dev Cert.Kernel3Ideal.nD) → Buf (Elt Ideal) ((c.tc : Thread Cert.Kernel3Ideal.nD Cert.Kernel3Ideal.τ).loc Cert.Kernel3Ideal.main_v115)) (v5 : (c : Dev Cert.Kernel3Ideal.nD) → Buf (Elt Ideal) ((c.tc : Thread Cert.Kernel3Ideal.nD Cert.Kernel3Ideal.τ).loc Cert.Kernel3Ideal.main_v117)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v110) = v0 c
          ∧ r.2.mem ((c.tc : Thread Cert.Kernel3Ideal.nD Cert.Kernel3Ideal.τ).loc Cert.Kernel3Ideal.main_v111) = v1 c
          ∧ r.2.mem ((c.tc : Thread Cert.Kernel3Ideal.nD Cert.Kernel3Ideal.τ).loc Cert.Kernel3Ideal.main_v113) = v2 c
          ∧ r.2.mem ((c.tc : Thread Cert.Kernel3Ideal.nD Cert.Kernel3Ideal.τ).loc Cert.Kernel3Ideal.main_v114) = v3 c
          ∧ r.2.mem ((c.tc : Thread Cert.Kernel3Ideal.nD Cert.Kernel3Ideal.τ).loc Cert.Kernel3Ideal.main_v115) = v4 c
          ∧ r.2.mem ((c.tc : Thread Cert.Kernel3Ideal.nD Cert.Kernel3Ideal.τ).loc Cert.Kernel3Ideal.main_v117) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v140) = v0 c
          ∧ r.2.mem ((c.tc : Thread Cert.Reference3Ideal.nD Cert.Reference3Ideal.τ).loc Cert.Reference3Ideal.main_v141) = v1 c
          ∧ r.2.mem ((c.tc : Thread Cert.Reference3Ideal.nD Cert.Reference3Ideal.τ).loc Cert.Reference3Ideal.main_v142) = v2 c
          ∧ r.2.mem ((c.tc : Thread Cert.Reference3Ideal.nD Cert.Reference3Ideal.τ).loc Cert.Reference3Ideal.main_v143) = v3 c
          ∧ r.2.mem ((c.tc : Thread Cert.Reference3Ideal.nD Cert.Reference3Ideal.τ).loc Cert.Reference3Ideal.main_v144) = v4 c
          ∧ r.2.mem ((c.tc : Thread Cert.Reference3Ideal.nD Cert.Reference3Ideal.τ).loc Cert.Reference3Ideal.main_v145) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v108)) (v1 : (c : Dev Cert.Kernel4Ideal.nD) → Buf (Elt Ideal) ((c.tc : Thread Cert.Kernel4Ideal.nD Cert.Kernel4Ideal.τ).loc Cert.Kernel4Ideal.main_v109)) (v2 : (c : Dev Cert.Kernel4Ideal.nD) → Buf (Elt Ideal) ((c.tc : Thread Cert.Kernel4Ideal.nD Cert.Kernel4Ideal.τ).loc Cert.Kernel4Ideal.main_v111)) (v3 : (c : Dev Cert.Kernel4Ideal.nD) → Buf (Elt Ideal) ((c.tc : Thread Cert.Kernel4Ideal.nD Cert.Kernel4Ideal.τ).loc Cert.Kernel4Ideal.main_v112)) (v4 : (c : Dev Cert.Kernel4Ideal.nD) → Buf (Elt Ideal) ((c.tc : Thread Cert.Kernel4Ideal.nD Cert.Kernel4Ideal.τ).loc Cert.Kernel4Ideal.main_v113)) (v5 : (c : Dev Cert.Kernel4Ideal.nD) → Buf (Elt Ideal) ((c.tc : Thread Cert.Kernel4Ideal.nD Cert.Kernel4Ideal.τ).loc Cert.Kernel4Ideal.main_v115)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v108) = v0 c
          ∧ r.2.mem ((c.tc : Thread Cert.Kernel4Ideal.nD Cert.Kernel4Ideal.τ).loc Cert.Kernel4Ideal.main_v109) = v1 c
          ∧ r.2.mem ((c.tc : Thread Cert.Kernel4Ideal.nD Cert.Kernel4Ideal.τ).loc Cert.Kernel4Ideal.main_v111) = v2 c
          ∧ r.2.mem ((c.tc : Thread Cert.Kernel4Ideal.nD Cert.Kernel4Ideal.τ).loc Cert.Kernel4Ideal.main_v112) = v3 c
          ∧ r.2.mem ((c.tc : Thread Cert.Kernel4Ideal.nD Cert.Kernel4Ideal.τ).loc Cert.Kernel4Ideal.main_v113) = v4 c
          ∧ r.2.mem ((c.tc : Thread Cert.Kernel4Ideal.nD Cert.Kernel4Ideal.τ).loc Cert.Kernel4Ideal.main_v115) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v138) = v0 c
          ∧ r.2.mem ((c.tc : Thread Cert.Reference4Ideal.nD Cert.Reference4Ideal.τ).loc Cert.Reference4Ideal.main_v139) = v1 c
          ∧ r.2.mem ((c.tc : Thread Cert.Reference4Ideal.nD Cert.Reference4Ideal.τ).loc Cert.Reference4Ideal.main_v140) = v2 c
          ∧ r.2.mem ((c.tc : Thread Cert.Reference4Ideal.nD Cert.Reference4Ideal.τ).loc Cert.Reference4Ideal.main_v141) = v3 c
          ∧ r.2.mem ((c.tc : Thread Cert.Reference4Ideal.nD Cert.Reference4Ideal.τ).loc Cert.Reference4Ideal.main_v142) = v4 c
          ∧ r.2.mem ((c.tc : Thread Cert.Reference4Ideal.nD Cert.Reference4Ideal.τ).loc Cert.Reference4Ideal.main_v143) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_scores_finite : Cert.Pre_scores_finite.Facts) (hPre_tables_in_range : Cert.Pre_tables_in_range.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_scores_finite.lean ====
abbrev S4x2048x8x128 : Shape := ⟨4, ![4, 2048, 8, 128]⟩
abbrev S4x8x2048 : Shape := ⟨3, ![4, 8, 2048]⟩
abbrev S_ : Shape := ⟨0, ![]⟩

class Facts : Prop where
  bcast_S_S4x2048x8x128 : S_.BroadcastsInDim S4x2048x8x128 (![] : Fin 0 → Fin S4x2048x8x128.rank)
  reducesTo_S4x2048x8x128_S_d0_1_2_3 : S4x2048x8x128.ReducesTo [0, 1, 2, 3] S_
  h_S_ : 0 < S_.numel
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn {F : FTy → Type} [FloatOps F] (main_arg0 : FVec F S4x2048x8x128 .f32) (main_arg1 : FVec F S4x2048x8x128 .f32) (main_arg2 : FVec F S4x2048x8x128 .f32) (main_arg3 : FVec F S4x8x2048 .f32) : IVec S_ 1 :=
  let main_v0 : FVec F S4x2048x8x128 .f32 := Host.absf main_arg0
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_c : IVec S_ 1 := constantI S_ 1 1#1
  let main_v3 : IVec S_ 1 := (fun x v => Host.reduce IntOp.andi x v reducesTo_S4x2048x8x128_S_d0_1_2_3 h_S_) main_v2 main_c
  let main_v4 : FVec F S4x2048x8x128 .f32 := Host.absf main_arg1
  let main_cst_0 : FVec F S_ .f32 := constant S_ .f32 0x7F800000#32
  let main_v5 : FVec F S4x2048x8x128 .f32 := broadcastInDim S4x2048x8x128 ![] bcast_S_S4x2048x8x128 main_cst_0
  let main_v6 : IVec S4x2048x8x128 1 := cmpf .olt main_v4 main_v5
  let main_c_1 : IVec S_ 1 := constantI S_ 1 1#1
  let main_v7 : IVec S_ 1 := (fun x v => Host.reduce IntOp.andi x v reducesTo_S4x2048x8x128_S_d0_1_2_3 h_S_) main_v6 main_c_1
  let main_v8 : IVec S_ 1 := andi main_v3 main_v7
  let main_v9 : FVec F S4x8x2048 .f32 := Host.absf main_arg3
  let main_cst_2 : FVec F S_ .f32 := constant S_ .f32 0x7F800000#32
  let main_v10 : FVec F S4x8x2048 .f32 := broadcastInDim S4x8x2048 ![] bcast_S_S4x8x2048 main_cst_2
  let main_v11 : IVec S4x8x2048 1 := cmpf .olt main_v9 main_v10
  let main_c_3 : IVec S_ 1 := constantI S_ 1 1#1
  let main_v12 : IVec S_ 1 := (fun x v => Host.reduce IntOp.andi x v reducesTo_S4x8x2048_S_d0_1_2 h_S_) main_v11 main_c_3
  let main_v13 : IVec S_ 1 := andi main_v8 main_v12
  main_v13
-- ==== Pre_tables_in_range.lean ====
abbrev S97 : Shape := ⟨1, ![97]⟩
abbrev S1 : Shape := ⟨1, ![1]⟩
abbrev S24832x2048 : Shape := ⟨2, ![24832, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S97 : S_.BroadcastsInDim S97 (![] : Fin 0 → Fin S97.rank)
  reducesTo_S97_S_d0 : S97.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S97 32) (main_arg1 : IVec S1 32) (main_arg2 : FVec F S24832x2048 .f32) (main_arg3 : FVec F S32x2048x512 .f32) (main_arg4 : FVec F S32x2048x512 .f32) (main_arg5 : FVec F S32x512x2048 .f32) : IVec S_ 1 :=
  let main_c : IVec S_ 32 := constantI S_ 32 0#32
  let main_v0 : IVec S97 32 := broadcastInDim S97 ![] bcast_S_S97 main_c
  let main_v1 : IVec S97 1 := cmpi .sge main_arg0 main_v0
  let main_c_0 : IVec S_ 32 := constantI S_ 32 32#32
  let main_v2 : IVec S97 32 := broadcastInDim S97 ![] bcast_S_S97 main_c_0
  let main_v3 : IVec S97 1 := cmpi .slt main_arg0 main_v2
  let main_v4 : IVec S97 1 := andi main_v1 main_v3
  let main_c_1 : IVec S_ 1 := constantI S_ 1 1#1
  let main_v5 : IVec S_ 1 := (fun x v => Host.reduce IntOp.andi x v reducesTo_S97_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S4x2048x8x128 : Shape := ⟨4, ![4, 2048, 8, 128]⟩
abbrev S4x8x2048 : Shape := ⟨3, ![4, 8, 2048]⟩
abbrev S4x2048x1024 : Shape := ⟨3, ![4, 2048, 1024]⟩
abbrev S4x8x4x1x512 : Shape := ⟨5, ![4, 8, 4, 1, 512]⟩
abbrev S1x512x128 : Shape := ⟨3, ![1, 512, 128]⟩
abbrev S1x2048x128 : Shape := ⟨3, ![1, 2048, 128]⟩
abbrev S1x1x4x1x512 : Shape := ⟨5, ![1, 1, 4, 1, 512]⟩
abbrev S512x2048 : Shape := ⟨2, ![512, 2048]⟩
abbrev S512x128 : Shape := ⟨2, ![512, 128]⟩
abbrev S512x512 : Shape := ⟨2, ![512, 512]⟩
abbrev S1x1x1x1x512 : Shape := ⟨5, ![1, 1, 1, 1, 512]⟩
abbrev S1x512 : Shape := ⟨2, ![1, 512]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x8x2048, .f32⟩
  | .hbm, ⟨4, _⟩ => ⟨S4x2048x8x128, .bf16⟩
  | .hbm, ⟨5, _⟩ => ⟨S4x2048x1024, .bf16⟩
  | .hbm, ⟨6, _⟩ => ⟨S4x2048x8x128, .bf16⟩
  | .hbm, ⟨7, _⟩ => ⟨S4x2048x1024, .bf16⟩
  | .hbm, ⟨8, _⟩ => ⟨S4x2048x8x128, .bf16⟩
  | .hbm, ⟨9, _⟩ => ⟨S4x2048x1024, .bf16⟩
  | .hbm, ⟨10, _⟩ => ⟨S4x8x4x1x512, .f32⟩
  | .hbm, ⟨11, _⟩ => ⟨S4x2048x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x4x1x512, .f32⟩
  | .local _ .vmem, ⟨7, _⟩ => ⟨S1x1x4x1x512, .f32⟩
  | .local _ .vmem, ⟨8, _⟩ => ⟨S1x512x128, .bf16⟩
  | .local _ .vmem, ⟨9, _⟩ => ⟨S1x512x128, .bf16⟩
  | .local _ .vmem, ⟨10, _⟩ => ⟨S512x2048, .f32⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_2 : BitVec 32 := 0#32
  let v8 : BitVec 1 := Scalar.cmpi .ne v7 c0_i32_2
  v8

def k0_cond2 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def k0_cond3 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_4 : BitVec 32 := 0#32
  let v14 : BitVec 1 := Scalar.cmpi .ne v13 c0_i32_4
  v14

def k0_cond4 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_5 : BitVec 32 := 0#32
  let v17 : BitVec 1 := Scalar.cmpi .ne v16 c0_i32_5
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x2048x8x128 : Shape := ⟨4, ![4, 2048, 8, 128]⟩
abbrev S4x8x2048 : Shape := ⟨3, ![4, 8, 2048]⟩
abbrev S2048 : Shape := ⟨1, ![2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩
abbrev S4x2048x1024 : Shape := ⟨3, ![4, 2048, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x8x2048, .f32⟩
  | .hbm, ⟨4, _⟩ => ⟨S2048, .i32⟩
  | .hbm, ⟨5, _⟩ => ⟨S4x8x2048x2048, .f32⟩
  | .hbm, ⟨6, _⟩ => ⟨S_, .f32⟩
  | .hbm, ⟨7, _⟩ => ⟨S4x8x2048x2048, .f32⟩
  | .hbm, ⟨8, _⟩ => ⟨S4x8x2048x2048, .f32⟩
  | .hbm, ⟨9, _⟩ => ⟨S4x8x2048x1, .f32⟩
  | .hbm, ⟨10, _⟩ => ⟨S4x8x2048x2048, .f32⟩
  | .hbm, ⟨11, _⟩ => ⟨S4x8x2048x2048, .f32⟩
  | .hbm, ⟨12, _⟩ => ⟨S4x8x1x2048, .f32⟩
  | .hbm, ⟨13, _⟩ => ⟨S4x8x2048x2048, .f32⟩
  | .hbm, ⟨14, _⟩ => ⟨S4x8x2048x2048, .f32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S_, .f32⟩
  | .hbm, ⟨28, _⟩ => ⟨S4x8x2048, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x128x2048, .f32⟩
  | .hbm, ⟨40, _⟩ => ⟨S4x2048x8x128, .f32⟩
  | .hbm, ⟨41, _⟩ => ⟨S4x2048x1024, .f32⟩
  | .hbm, ⟨42, _⟩ => ⟨S4x2048x1024, .bf16⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel2.lean ====
abbrev S97 : Shape := ⟨1, ![97]⟩
abbrev S1 : Shape := ⟨1, ![1]⟩
abbrev S24832x2048 : Shape := ⟨2, ![24832, 2048]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S24832x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S24832x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S97, .i32⟩
  | .local _ .smem, ⟨1, _⟩ => ⟨S1, .i32⟩
  | _, _ => ⟨S24832x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![97], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S97 : Shape := ⟨1, ![97]⟩
abbrev S1 : Shape := ⟨1, ![1]⟩
abbrev S24832x2048 : Shape := ⟨2, ![24832, 2048]⟩
abbrev S32x2048x512 : Shape := ⟨3, ![32, 2048, 512]⟩
abbrev S32x512x2048 : Shape := ⟨3, ![32, 512, 2048]⟩
abbrev S97x1 : Shape := ⟨2, ![97, 1]⟩
abbrev S97x256 : Shape := ⟨2, ![97, 256]⟩
abbrev S24832 : Shape := ⟨1, ![24832]⟩
abbrev S_ : Shape := ⟨0, ![]⟩
abbrev S24832x1 : Shape := ⟨2, ![24832, 1]⟩
abbrev S1x32 : Shape := ⟨2, ![1, 32]⟩
abbrev S24832x32 : Shape := ⟨2, ![24832, 32]⟩
abbrev S24832x32x512 : Shape := ⟨3, ![24832, 32, 512]⟩
abbrev S24832x32x1 : Shape := ⟨3, ![24832, 32, 1]⟩

abbrev nBuf : Space → Nat
  | .hbm => 44
  | .vmem => 0
  | .smem => 0
  | _ => 0

abbrev bufTy : (tb : Table) → Fin (tcTables nBuf tb) → BufTy
  | .hbm, ⟨0, _⟩ => ⟨S97, .i32⟩
  | .hbm, ⟨1, _⟩ => ⟨S1, .i32⟩
  | .hbm, ⟨2, _⟩ => ⟨S24832x2048, .f32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S97x1, .i32⟩
  | .hbm, ⟨7, _⟩ => ⟨S97x256, .i32⟩
  | .hbm, ⟨8, _⟩ => ⟨S24832, .i32⟩
  | .hbm, ⟨9, _⟩ => ⟨S97, .i32⟩
  | .hbm, ⟨10, _⟩ => ⟨S_, .i32⟩
  | .hbm, ⟨11, _⟩ => ⟨S97, .i32⟩
  | .hbm, ⟨12, _⟩ => ⟨S97, .i1⟩
  | .hbm, ⟨13, _⟩ => ⟨S97x1, .i1⟩
  | .hbm, ⟨14, _⟩ => ⟨S97x256, .i1⟩
  | .hbm, ⟨15, _⟩ => ⟨S24832, .i1⟩
  | .hbm, ⟨16, _⟩ => ⟨S24832x1, .i1⟩
  | .hbm, ⟨17, _⟩ => ⟨S24832x1, .i32⟩
  | .hbm, ⟨18, _⟩ => ⟨S1x32, .i32⟩
  | .hbm, ⟨19, _⟩ => ⟨S24832x32, .i32⟩
  | .hbm, ⟨20, _⟩ => ⟨S24832x32, .i32⟩
  | .hbm, ⟨21, _⟩ => ⟨S24832x32, .i1⟩
  | .hbm, ⟨22, _⟩ => ⟨S24832x32, .f32⟩
  | .hbm, ⟨23, _⟩ => ⟨S_, .f32⟩
  | .hbm, ⟨24, _⟩ => ⟨S_, .f32⟩
  | .hbm, ⟨25, _⟩ => ⟨S24832x32, .i1⟩
  | .hbm, ⟨26, _⟩ => ⟨S24832x32, .f32⟩
  | .hbm, ⟨27, _⟩ => ⟨S24832x32, .f32⟩
  | .hbm, ⟨28, _⟩ => ⟨S24832x32x512, .f32⟩
  | .hbm, ⟨29, _⟩ => ⟨S24832x32x512, .f32⟩
  | .hbm, ⟨30, _⟩ => ⟨S24832x32x512, .f32⟩
  | .hbm, ⟨31, _⟩ => ⟨S24832x32x512, .f32⟩
  | .hbm, ⟨32, _⟩ => ⟨S_, .f32⟩
  | .hbm, ⟨33, _⟩ => ⟨S24832x32x512, .f32⟩
  | .hbm, ⟨34, _⟩ => ⟨S24832x32x512, .f32⟩
  | .hbm, ⟨35, _⟩ => ⟨S_, .f32⟩
  | .hbm, ⟨36, _⟩ => ⟨S24832x32x512, .f32⟩
  | .hbm, ⟨37, _⟩ => ⟨S24832x32x512, .f32⟩
  | .hbm, ⟨38, _⟩ => ⟨S24832x32x512, .f32⟩
  | .hbm, ⟨39, _⟩ => ⟨S24832x32x512, .f32⟩
  | .hbm, ⟨40, _⟩ => ⟨S24832x32x1, .f32⟩
  | .hbm, ⟨41, _⟩ => ⟨S24832x32x512, .f32⟩
  | .hbm, ⟨42, _⟩ => ⟨S24832x32x512, .f32⟩
  | .hbm, ⟨43, _⟩ => ⟨S24832x2048, .f32⟩
  | _, _ => ⟨S97, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x2048 : Shape := ⟨2, ![4, 2048]⟩
abbrev S32x2048 : Shape := ⟨2, ![32, 2048]⟩
abbrev S1x2048x5720 : Shape := ⟨3, ![1, 2048, 5720]⟩
abbrev S1x8 : Shape := ⟨2, ![1, 8]⟩
abbrev S1x128 : Shape := ⟨2, ![1, 128]⟩
abbrev S1x2048x12288 : Shape := ⟨3, ![1, 2048, 12288]⟩
abbrev S1x12288 : Shape := ⟨2, ![1, 12288]⟩
abbrev S_ : Shape := ⟨0, ![]⟩
abbrev S40x2048 : Shape := ⟨2, ![40, 2048]⟩
abbrev S2048x12288 : Shape := ⟨2, ![2048, 12288]⟩
abbrev S12288 : Shape := ⟨1, ![12288]⟩
abbrev S40x12288 : Shape := ⟨2, ![40, 12288]⟩
abbrev S2048x1024 : Shape := ⟨2, ![2048, 1024]⟩
abbrev S1x1024 : Shape := ⟨2, ![1, 1024]⟩
abbrev S40x1024 : Shape := ⟨2, ![40, 1024]⟩
abbrev S4x1x2048 : Shape := ⟨3, ![4, 1, 2048]⟩
abbrev S2048x5720 : Shape := ⟨2, ![2048, 5720]⟩
abbrev S2048x8 : Shape := ⟨2, ![2048, 8]⟩
abbrev S2048x256 : Shape := ⟨2, ![2048, 256]⟩
abbrev S2048x64 : Shape := ⟨2, ![2048, 64]⟩
abbrev S2048x16 : Shape := ⟨2, ![2048, 16]⟩
abbrev S2048x0 : Shape := ⟨2, ![2048, 0]⟩
abbrev S2048x40 : Shape := ⟨2, ![2048, 40]⟩
abbrev S2048x128 : Shape := ⟨2, ![2048, 128]⟩
abbrev S8 : Shape := ⟨1, ![8]⟩
abbrev S1 : Shape := ⟨1, ![1]⟩
abbrev S2 : Shape := ⟨1, ![2]⟩
abbrev S128 : Shape := ⟨1, ![128]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x2048x1x64 : Shape := ⟨4, ![1, 2048, 1, 64]⟩
abbrev S1x2048x2x64 : Shape := ⟨4, ![1, 2048, 2, 64]⟩
abbrev S8192x2048 : Shape := ⟨2, ![8192, 2048]⟩
abbrev S8192x1024 : Shape := ⟨2, ![8192, 1024]⟩
abbrev S256x2048 : Shape := ⟨2, ![256, 2048]⟩
abbrev S1x1x2048 : Shape := ⟨3, ![1, 1, 2048]⟩
abbrev S256x1024 : Shape := ⟨2, ![256, 1024]⟩
abbrev S256 : Shape := ⟨1, ![256]⟩
abbrev S256x1 : Shape := ⟨2, ![256, 1]⟩
abbrev S1x2048 : Shape := ⟨2, ![1, 2048]⟩
abbrev S256x128 : Shape := ⟨2, ![256, 128]⟩
abbrev S8192x256 : Shape := ⟨2, ![8192, 256]⟩
abbrev S8192x128 : Shape := ⟨2, ![8192, 128]⟩
abbrev S256x256 : Shape := ⟨2, ![256, 256]⟩
abbrev S1x4x2048x8x128 : Shape := ⟨5, ![1, 4, 2048, 8, 128]⟩
abbrev S8192x8 : Shape := ⟨2, ![8192, 8]⟩
abbrev S1x4x2048x8 : Shape := ⟨4, ![1, 4, 2048, 8]⟩
abbrev S1x4x2048x2x128 : Shape := ⟨5, ![1, 4, 2048, 2, 128]⟩
abbrev S8192x64 : Shape := ⟨2, ![8192, 64]⟩
abbrev S1x4x2048x64 : Shape := ⟨4, ![1, 4, 2048, 64]⟩

abbrev nBuf : Space → Nat
  | .hbm => 151
  | .vmem => 68
  | .smem => 0
  | _ => 0

abbrev hbmTy0_0 (i : Nat) : BufTy := match i % 128 with
  | 0 => ⟨S4x2048x2048, .f32⟩
  | 1 => ⟨S4x2048, .f32⟩
  | 2 => ⟨S32x2048, .f32⟩
  | 3 => ⟨S1x2048x5720, .f32⟩
  | 4 => ⟨S1x8, .f32⟩
  | 5 => ⟨S1x128, .f32⟩
  | 6 => ⟨S1x128, .f32⟩
  | 7 => ⟨S1x128, .f32⟩
  | 8 => ⟨S1x128, .f32⟩
  | 9 => ⟨S1x2048x12288, .f32⟩
  | 10 => ⟨S1x12288, .f32⟩
  | 11 => ⟨S_, .f32⟩
  | 12 => ⟨S4x2048, .f32⟩
  | 13 => ⟨S40x2048, .f32⟩
  | 14 => ⟨S2048x12288, .f32⟩
  | 15 => ⟨S12288, .f32⟩
  | 16 => ⟨S1x12288, .f32⟩
  | 17 => ⟨S40x12288, .f32⟩
  | 18 => ⟨S40x2048, .f32⟩
  | 19 => ⟨S40x2048, .f32⟩
  | 20 => ⟨S40x2048, .f32⟩
  | 21 => ⟨S40x2048, .f32⟩
  | 22 => ⟨S40x2048, .f32⟩
  | 23 => ⟨S40x2048, .f32⟩
  | 24 => ⟨S4x2048, .f32⟩
  | 25 => ⟨S4x1x2048, .f32⟩
  | 26 => ⟨S4x2048, .f32⟩
  | 27 => ⟨S4x1x2048, .f32⟩
  | 28 => ⟨S4x2048, .f32⟩
  | 29 => ⟨S4x1x2048, .f32⟩
  | 30 => ⟨S4x2048, .f32⟩
  | 31 => ⟨S4x1x2048, .f32⟩
  | 32 => ⟨S4x2048, .f32⟩
  | 33 => ⟨S4x1x2048, .f32⟩
  | 34 => ⟨S4x2048, .f32⟩
  | 35 => ⟨S4x1x2048, .f32⟩
  | 36 => ⟨S2048x5720, .f32⟩
  | 37 => ⟨S2048x1024, .f32⟩
  | 38 => ⟨S2048x1024, .bf16⟩
  | 39 => ⟨S2048x1024, .f32⟩
  | 40 => ⟨S2048x1024, .bf16⟩
  | 41 => ⟨S2048x1024, .f32⟩
  | 42 => ⟨S2048x1024, .bf16⟩
  | 43 => ⟨S2048x8, .f32⟩
  | 44 => ⟨S2048x1024, .f32⟩
  | 45 => ⟨S2048x1024, .bf16⟩
  | 46 => ⟨S2048x256, .f32⟩
  | 47 => ⟨S2048x256, .bf16⟩
  | 48 => ⟨S2048x256, .f32⟩
  | 49 => ⟨S2048x256, .bf16⟩
  | 50 => ⟨S2048x1024, .f32⟩
  | 51 => ⟨S2048x64, .f32⟩
  | 52 => ⟨S2048x16, .f32⟩
  | 53 => ⟨S_, .f32⟩
  | 54 => ⟨S2048x0, .f32⟩
  | 55 => ⟨S_, .f32⟩
  | 56 => ⟨S2048x40, .f32⟩
  | 57 => ⟨S2048x128, .f32⟩
  | 58 => ⟨S_, .f32⟩
  | 59 => ⟨S1x128, .f32⟩
  | 60 => ⟨S8, .f32⟩
  | 61 => ⟨S_, .i32⟩
  | 62 => ⟨S1, .i32⟩
  | 63 => ⟨S_, .i32⟩
  | 64 => ⟨S1, .i32⟩
  | 65 => ⟨S2, .i32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S2048, .i32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S2048, .f32⟩
  | 85 => ⟨S2048x1, .f32⟩
  | 86 => ⟨S1x64, .f32⟩
  | 87 => ⟨S2048x64, .f32⟩
  | 88 => ⟨S2048x64, .f32⟩
  | 89 => ⟨S2048x64, .f32⟩
  | 90 => ⟨S2048x64, .f32⟩
  | 91 => ⟨S2048x64, .f32⟩
  | 92 => ⟨S2048x128, .f32⟩
  | 93 => ⟨S1x2048x1x128, .f32⟩
  | 94 => ⟨S1x2048x1x128, .f32⟩
  | 95 => ⟨S2048x128, .f32⟩
  | 96 => ⟨S2048x64, .f32⟩
  | 97 => ⟨S2048x128, .f32⟩
  | 98 => ⟨S1x2048x1x128, .f32⟩
  | 99 => ⟨S1x2048x1x128, .f32⟩
  | 100 => ⟨S2048x128, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S2048, .f32⟩
  | 110 => ⟨S2048x1, .f32⟩
  | 111 => ⟨S1x32, .f32⟩
  | 112 => ⟨S2048x32, .f32⟩
  | 113 => ⟨S2048x32, .f32⟩
  | 114 => ⟨S2048x32, .f32⟩
  | 115 => ⟨S2048x32, .f32⟩
  | 116 => ⟨S2048x32, .f32⟩
  | 117 => ⟨S2048x64, .f32⟩
  | 118 => ⟨S1x2048x1x64, .f32⟩
  | 119 => ⟨S1x2048x2x64, .f32⟩
  | 120 => ⟨S2048x128, .f32⟩
  | 121 => ⟨S2048x32, .f32⟩
  | 122 => ⟨S2048x64, .f32⟩
  | 123 => ⟨S1x2048x1x64, .f32⟩
  | 124 => ⟨S1x2048x2x64, .f32⟩
  | 125 => ⟨S2048x128, .f32⟩
  | 126 => ⟨S8192x2048, .f32⟩
  | 127 => ⟨S8192x1024, .bf16⟩
  | _ => ⟨S4x2048x2048, .f32⟩

abbrev hbmTy0_1 (i : Nat) : BufTy := match i % 128 with
  | 0 => ⟨S8192x1024, .bf16⟩
  | 1 => ⟨S8192x1024, .bf16⟩
  | 2 => ⟨S8192x1024, .f32⟩
  | 3 => ⟨S8192x1024, .f32⟩
  | 4 => ⟨S2048x1024, .bf16⟩
  | 5 => ⟨S2048x128, .bf16⟩
  | 6 => ⟨S8192x1024, .bf16⟩
  | 7 => ⟨S8192x256, .bf16⟩
  | 8 => ⟨S8192x256, .bf16⟩
  | 9 => ⟨S8192x1024, .bf16⟩
  | 10 => ⟨S8192x128, .bf16⟩
  | 11 => ⟨S8192x128, .bf16⟩
  | 12 => ⟨S8192x256, .f32⟩
  | 13 => ⟨S8192x256, .f32⟩
  | 14 => ⟨S8192x128, .f32⟩
  | 15 => ⟨S1x4x2048x8x128, .f32⟩
  | 16 => ⟨S1x4x2048x8x128, .f32⟩
  | 17 => ⟨S8192x8, .f32⟩
  | 18 => ⟨S1x4x2048x8, .f32⟩
  | 19 => ⟨S1x4x2048x2x128, .f32⟩
  | 20 => ⟨S1x4x2048x2x128, .f32⟩
  | 21 => ⟨S8192x64, .f32⟩
  | 22 => ⟨S1x4x2048x64, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | .local _ .vmem, ⟨0, _⟩ => ⟨S40x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | .local _ .vmem, ⟨7, _⟩ => ⟨S256x2048, .f32⟩
  | .local _ .vmem, ⟨8, _⟩ => ⟨S256x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1x128, .f32⟩
  | .local _ .vmem, ⟨17, _⟩ => ⟨S1x128, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x2048, .f32⟩
  | .local _ .vmem, ⟨29, _⟩ => ⟨S256x2048, .f32⟩
  | .local _ .vmem, ⟨30, _⟩ => ⟨S1x1x2048, .f32⟩
  | .local _ .vmem, ⟨31, _⟩ => ⟨S1x1x2048, .f32⟩
  | .local _ .vmem, ⟨32, _⟩ => ⟨S1x1x2048, .f32⟩
  | .local _ .vmem, ⟨33, _⟩ => ⟨S1x1x2048, .f32⟩
  | .local _ .vmem, ⟨34, _⟩ => ⟨S2048x1024, .bf16⟩
  | .local _ .vmem, ⟨35, _⟩ => ⟨S2048x256, .bf16⟩
  | .local _ .vmem, ⟨36, _⟩ => ⟨S2048x256, .bf16⟩
  | .local _ .vmem, ⟨37, _⟩ => ⟨S2048x1024, .bf16⟩
  | .local _ .vmem, ⟨38, _⟩ => ⟨S2048x128, .bf16⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S256x128, .f32⟩
  | .local _ .vmem, ⟨43, _⟩ => ⟨S256x128, .f32⟩
  | .local _ .vmem, ⟨44, _⟩ => ⟨S256x128, .f32⟩
  | .local _ .vmem, ⟨45, _⟩ => ⟨S256x128, .f32⟩
  | .local _ .vmem, ⟨46, _⟩ => ⟨S256x128, .f32⟩
  | .local _ .vmem, ⟨47, _⟩ => ⟨S256x128, .f32⟩
  | .local _ .vmem, ⟨48, _⟩ => ⟨S256x128, .f32⟩
  | .local _ .vmem, ⟨49, _⟩ => ⟨S256x128, .f32⟩
  | .local _ .vmem, ⟨50, _⟩ => ⟨S256x1024, .bf16⟩
  | .local _ .vmem, ⟨51, _⟩ => ⟨S256x1024, .bf16⟩
  | .local _ .vmem, ⟨52, _⟩ => ⟨S256x256, .bf16⟩
  | .local _ .vmem, ⟨53, _⟩ => ⟨S256x256, .bf16⟩
  | .local _ .vmem, ⟨54, _⟩ => ⟨S256x256, .bf16⟩
  | .local _ .vmem, ⟨55, _⟩ => ⟨S256x256, .bf16⟩
  | .local _ .vmem, ⟨56, _⟩ => ⟨S256x1024, .bf16⟩
  | .local _ .vmem, ⟨57, _⟩ => ⟨S256x1024, .bf16⟩
  | .local _ .vmem, ⟨58, _⟩ => ⟨S256x128, .bf16⟩
  | .local _ .vmem, ⟨59, _⟩ => ⟨S256x128, .bf16⟩
  | .local _ .vmem, ⟨60, _⟩ => ⟨S256x128, .bf16⟩
  | .local _ .vmem, ⟨61, _⟩ => ⟨S256x128, .bf16⟩
  | .local _ .vmem, ⟨62, _⟩ => ⟨S256x256, .f32⟩
  | .local _ .vmem, ⟨63, _⟩ => ⟨S256x256, .f32⟩
  | .local _ .vmem, ⟨64, _⟩ => ⟨S256x256, .f32⟩
  | .local _ .vmem, ⟨65, _⟩ => ⟨S256x256, .f32⟩
  | .local _ .vmem, ⟨66, _⟩ => ⟨S256x128, .f32⟩
  | .local _ .vmem, ⟨67, _⟩ => ⟨S256x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_0 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_c_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_4 : Ref sig .tc := ⟨.hbm, 78, rfl⟩
abbrev main_v61 : Ref sig .tc := ⟨.hbm, 79, rfl⟩
abbrev main_v62 : Ref sig .tc := ⟨.hbm, 80, rfl⟩
abbrev main_cst_5 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_6 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106_0 : Ref sig .tc := ⟨.hbm, 127, rfl⟩
abbrev main_v106_1 : Ref sig .tc := ⟨.hbm, 128, rfl⟩
abbrev main_v106_2 : Ref sig .tc := ⟨.hbm, 129, rfl⟩
abbrev main_v106_3 : Ref sig .tc := ⟨.hbm, 130, rfl⟩
abbrev main_v106_4 : Ref sig .tc := ⟨.hbm, 131, rfl⟩
abbrev main_v107 : Ref sig .tc := ⟨.hbm, 132, rfl⟩
abbrev main_v108 : Ref sig .tc := ⟨.hbm, 133, rfl⟩
abbrev main_v109_0 : Ref sig .tc := ⟨.hbm, 134, rfl⟩
abbrev main_v109_1 : Ref sig .tc := ⟨.hbm, 135, rfl⟩
abbrev main_v109_2 : Ref sig .tc := ⟨.hbm, 136, rfl⟩
abbrev main_v109_3 : Ref sig .tc := ⟨.hbm, 137, rfl⟩
abbrev main_v109_4 : Ref sig .tc := ⟨.hbm, 138, rfl⟩
abbrev main_v109_5 : Ref sig .tc := ⟨.hbm, 139, rfl⟩
abbrev main_v109_6 : Ref sig .tc := ⟨.hbm, 140, rfl⟩
abbrev main_v109_7 : Ref sig .tc := ⟨.hbm, 141, rfl⟩
abbrev main_v109_8 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg11_1 : Ref sig .tc := ⟨.vmem, 43, rfl⟩
abbrev cc2_stg12_0 : Ref sig .tc := ⟨.vmem, 44, rfl⟩
abbrev cc2_stg12_1 : Ref sig .tc := ⟨.vmem, 45, rfl⟩
abbrev cc2_stg13_0 : Ref sig .tc := ⟨.vmem, 46, rfl⟩
abbrev cc2_stg13_1 : Ref sig .tc := ⟨.vmem, 47, rfl⟩
abbrev cc2_stg14_0 : Ref sig .tc := ⟨.vmem, 48, rfl⟩
abbrev cc2_stg14_1 : Ref sig .tc := ⟨.vmem, 49, rfl⟩
abbrev cc2_stg15_0 : Ref sig .tc := ⟨.vmem, 50, rfl⟩
abbrev cc2_stg15_1 : Ref sig .tc := ⟨.vmem, 51, rfl⟩
abbrev cc2_stg16_0 : Ref sig .tc := ⟨.vmem, 52, rfl⟩
abbrev cc2_stg16_1 : Ref sig .tc := ⟨.vmem, 53, rfl⟩
abbrev cc2_stg17_0 : Ref sig .tc := ⟨.vmem, 54, rfl⟩
abbrev cc2_stg17_1 : Ref sig .tc := ⟨.vmem, 55, rfl⟩
abbrev cc2_stg18_0 : Ref sig .tc := ⟨.vmem, 56, rfl⟩
abbrev cc2_stg18_1 : Ref sig .tc := ⟨.vmem, 57, rfl⟩
abbrev cc2_stg19_0 : Ref sig .tc := ⟨.vmem, 58, rfl⟩
abbrev cc2_stg19_1 : Ref sig .tc := ⟨.vmem, 59, rfl⟩
abbrev cc2_stg20_0 : Ref sig .tc := ⟨.vmem, 60, rfl⟩
abbrev cc2_stg20_1 : Ref sig .tc := ⟨.vmem, 61, rfl⟩
abbrev cc2_stg21_0 : Ref sig .tc := ⟨.vmem, 62, rfl⟩
abbrev cc2_stg21_1 : Ref sig .tc := ⟨.vmem, 63, rfl⟩
abbrev cc2_stg22_0 : Ref sig .tc := ⟨.vmem, 64, rfl⟩
abbrev cc2_stg22_1 : Ref sig .tc := ⟨.vmem, 65, rfl⟩
abbrev cc2_stg23_0 : Ref sig .tc := ⟨.vmem, 66, rfl⟩
abbrev cc2_stg23_1 : Ref sig .tc := ⟨.vmem, 67, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem11_1 : DmaSem sig := 43
abbrev cc2_sem12_0 : DmaSem sig := 44
abbrev cc2_sem12_1 : DmaSem sig := 45
abbrev cc2_sem13_0 : DmaSem sig := 46
abbrev cc2_sem13_1 : DmaSem sig := 47
abbrev cc2_sem14_0 : DmaSem sig := 48
abbrev cc2_sem14_1 : DmaSem sig := 49
abbrev cc2_sem15_0 : DmaSem sig := 50
abbrev cc2_sem15_1 : DmaSem sig := 51
abbrev cc2_sem16_0 : DmaSem sig := 52
abbrev cc2_sem16_1 : DmaSem sig := 53
abbrev cc2_sem17_0 : DmaSem sig := 54
abbrev cc2_sem17_1 : DmaSem sig := 55
abbrev cc2_sem18_0 : DmaSem sig := 56
abbrev cc2_sem18_1 : DmaSem sig := 57
abbrev cc2_sem19_0 : DmaSem sig := 58
abbrev cc2_sem19_1 : DmaSem sig := 59
abbrev cc2_sem20_0 : DmaSem sig := 60
abbrev cc2_sem20_1 : DmaSem sig := 61
abbrev cc2_sem21_0 : DmaSem sig := 62
abbrev cc2_sem21_1 : DmaSem sig := 63
abbrev cc2_sem22_0 : DmaSem sig := 64
abbrev cc2_sem22_1 : DmaSem sig := 65
abbrev cc2_sem23_0 : DmaSem sig := 66
abbrev cc2_sem23_1 : DmaSem sig := 67

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_2 (i : grid2.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_12 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_13 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_14 (i : grid2.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_23 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S256x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S256x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S256x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S256x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S256x1024 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S256x256 .bf16 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S256x256 .bf16 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S256x1024 .bf16 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S256x128 .bf16 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S256x128 .bf16 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S256x256 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S256x256 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev stage2_23 : Fin 2 → Memref sig .tc .vmem S256x128 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true]
-- ==== Reference3Ideal.lean ====
abbrev S4x2048x2048 : Shape := ⟨3, ![4, 2048, 2048]⟩
abbrev S4x2048 : Shape := ⟨2, ![4, 2048]⟩
abbrev S32x2048 : Shape := ⟨2, ![32, 2048]⟩
abbrev S1x2048x5720 : Shape := ⟨3, ![1, 2048, 5720]⟩
abbrev S1x8 : Shape := ⟨2, ![1, 8]⟩
abbrev S1x128 : Shape := ⟨2, ![1, 128]⟩
abbrev S1x2048x12288 : Shape := ⟨3, ![1, 2048, 12288]⟩
abbrev S1x12288 : Shape := ⟨2, ![1, 12288]⟩
abbrev S2048 : Shape := ⟨1, ![2048]⟩
abbrev S_ : Shape := ⟨0, ![]⟩
abbrev S2048x12288 : Shape := ⟨2, ![2048, 12288]⟩
abbrev S4x12288 : Shape := ⟨2, ![4, 12288]⟩
abbrev S12288 : Shape := ⟨1, ![12288]⟩
abbrev S4x1x12288 : Shape := ⟨3, ![4, 1, 12288]⟩
abbrev S4x1x2048 : Shape := ⟨3, ![4, 1, 2048]⟩
abbrev S4x2048x1 : Shape := ⟨3, ![4, 2048, 1]⟩
abbrev S2048x5720 : Shape := ⟨2, ![2048, 5720]⟩
abbrev S4x2048x5720 : Shape := ⟨3, ![4, 2048, 5720]⟩
abbrev S4x2048x1024 : Shape := ⟨3, ![4, 2048, 1024]⟩
abbrev S4x2048x8 : Shape := ⟨3, ![4, 2048, 8]⟩
abbrev S4x2048x256 : Shape := ⟨3, ![4, 2048, 256]⟩
abbrev S4x2048x64 : Shape := ⟨3, ![4, 2048, 64]⟩
abbrev S4x2048x16 : Shape := ⟨3, ![4, 2048, 16]⟩
abbrev S4x2048x8x128 : Shape := ⟨4, ![4, 2048, 8, 128]⟩
abbrev S4x2048x8x1 : Shape := ⟨4, ![4, 2048, 8, 1]⟩
abbrev S128 : Shape := ⟨1, ![128]⟩
abbrev S1x1x1x128 : Shape := ⟨4, ![1, 1, 1, 128]⟩
abbrev S8 : Shape := ⟨1, ![8]⟩
abbrev S1x1x8 : Shape := ⟨3, ![1, 1, 8]⟩
abbrev S4x2048x2x128 : Shape := ⟨4, ![4, 2048, 2, 128]⟩
abbrev S4x2048x2 : Shape := ⟨3, ![4, 2048, 2]⟩
abbrev S4x2048x2x1 : Shape := ⟨4, ![4, 2048, 2, 1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x2x64 : Shape := ⟨4, ![4, 2048, 2, 64]⟩
abbrev S4x2048x1x64 : Shape := ⟨4, ![4, 2048, 1, 64]⟩
abbrev S32 : Shape := ⟨1, ![32]⟩
abbrev S1x32 : Shape := ⟨2, ![1, 32]⟩
abbrev S2048x32 : Shape := ⟨2, ![2048, 32]⟩
abbrev S1x2048x1x32 : Shape := ⟨4, ![1, 2048, 1, 32]⟩
abbrev S4x2048x1x32 : Shape := ⟨4, ![4, 2048, 1, 32]⟩
abbrev S1x4x2048x8x128 : Shape := ⟨5, ![1, 4, 2048, 8, 128]⟩
abbrev S1x4x2048x8 : Shape := ⟨4, ![1, 4, 2048, 8]⟩
abbrev S1x4x2048x2x128 : Shape := ⟨5, ![1, 4, 2048, 2, 128]⟩
abbrev S1x4x2048x64 : Shape := ⟨4, ![1, 4, 2048, 64]⟩

abbrev nBuf : Space → Nat
  | .hbm => 194
  | .vmem => 0
  | .smem => 0
  | _ => 0

abbrev hbmTy0_0 (i : Nat) : BufTy := match i % 128 with
  | 0 => ⟨S4x2048x2048, .f32⟩
  | 1 => ⟨S4x2048, .f32⟩
  | 2 => ⟨S32x2048, .f32⟩
  | 3 => ⟨S1x2048x5720, .f32⟩
  | 4 => ⟨S1x8, .f32⟩
  | 5 => ⟨S1x128, .f32⟩
  | 6 => ⟨S1x128, .f32⟩
  | 7 => ⟨S1x128, .f32⟩
  | 8 => ⟨S1x128, .f32⟩
  | 9 => ⟨S1x2048x12288, .f32⟩
  | 10 => ⟨S1x12288, .f32⟩
  | 11 => ⟨S2048, .i32⟩
  | 12 => ⟨S4x2048, .f32⟩
  | 13 => ⟨S4x2048, .f32⟩
  | 14 => ⟨S_, .f32⟩
  | 15 => ⟨S4x2048, .f32⟩
  | 16 => ⟨S4x2048, .f32⟩
  | 17 => ⟨S_, .f32⟩
  | 18 => ⟨S4x2048, .f32⟩
  | 19 => ⟨S4x2048, .f32⟩
  | 20 => ⟨S4x2048, .f32⟩
  | 21 => ⟨S2048x12288, .f32⟩
  | 22 => ⟨S4x12288, .f32⟩
  | 23 => ⟨S12288, .f32⟩
  | 24 => ⟨S1x12288, .f32⟩
  | 25 => ⟨S4x12288, .f32⟩
  | 26 => ⟨S4x12288, .f32⟩
  | 27 => ⟨S4x1x12288, .f32⟩
  | 28 => ⟨S4x1x2048, .f32⟩
  | 29 => ⟨S4x1x2048, .f32⟩
  | 30 => ⟨S4x1x2048, .f32⟩
  | 31 => ⟨S4x1x2048, .f32⟩
  | 32 => ⟨S4x1x2048, .f32⟩
  | 33 => ⟨S4x1x2048, .f32⟩
  | 34 => ⟨S4x2048x2048, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S_, .f32⟩
  | 42 => ⟨S4x2048x1, .f32⟩
  | 43 => ⟨S4x2048x1, .f32⟩
  | 44 => ⟨S4x2048x1, .f32⟩
  | 45 => ⟨S4x2048x2048, .f32⟩
  | 46 => ⟨S4x2048x2048, .f32⟩
  | 47 => ⟨S_, .f32⟩
  | 48 => ⟨S4x1x2048, .f32⟩
  | 49 => ⟨S4x1x2048, .f32⟩
  | 50 => ⟨S4x2048x2048, .f32⟩
  | 51 => ⟨S4x2048x2048, .f32⟩
  | 52 => ⟨S4x2048x2048, .f32⟩
  | 53 => ⟨S4x2048x2048, .f32⟩
  | 54 => ⟨S2048x5720, .f32⟩
  | 55 => ⟨S4x2048x5720, .f32⟩
  | 56 => ⟨S4x2048x1024, .f32⟩
  | 57 => ⟨S4x2048x1024, .f32⟩
  | 58 => ⟨S4x2048x1024, .f32⟩
  | 59 => ⟨S4x2048x8, .f32⟩
  | 60 => ⟨S4x2048x1024, .f32⟩
  | 61 => ⟨S4x2048x256, .f32⟩
  | 62 => ⟨S4x2048x256, .f32⟩
  | 63 => ⟨S4x2048x1024, .f32⟩
  | 64 => ⟨S4x2048x64, .f32⟩
  | 65 => ⟨S4x2048x16, .f32⟩
  | 66 => ⟨S4x2048x8x128, .f32⟩
  | 67 => ⟨S4x2048x8x128, .f32⟩
  | 68 => ⟨S_, .f32⟩
  | 69 => ⟨S4x2048x8, .f32⟩
  | 70 => ⟨S4x2048x8x1, .f32⟩
  | 71 => ⟨S_, .f32⟩
  | 72 => ⟨S4x2048x8x1, .f32⟩
  | 73 => ⟨S4x2048x8x1, .f32⟩
  | 74 => ⟨S_, .f32⟩
  | 75 => ⟨S4x2048x8x1, .f32⟩
  | 76 => ⟨S4x2048x8x1, .f32⟩
  | 77 => ⟨S4x2048x8x1, .f32⟩
  | 78 => ⟨S4x2048x8x128, .f32⟩
  | 79 => ⟨S4x2048x8x128, .f32⟩
  | 80 => ⟨S128, .f32⟩
  | 81 => ⟨S1x1x1x128, .f32⟩
  | 82 => ⟨S4x2048x8x128, .f32⟩
  | 83 => ⟨S4x2048x8x128, .f32⟩
  | 84 => ⟨S4x2048x8x128, .f32⟩
  | 85 => ⟨S8, .f32⟩
  | 86 => ⟨S1x1x8, .f32⟩
  | 87 => ⟨S4x2048x8, .f32⟩
  | 88 => ⟨S4x2048x8, .f32⟩
  | 89 => ⟨S4x2048x8, .f32⟩
  | 90 => ⟨S_, .f32⟩
  | 91 => ⟨S4x2048x8, .f32⟩
  | 92 => ⟨S4x2048x8, .f32⟩
  | 93 => ⟨S4x2048x8, .f32⟩
  | 94 => ⟨S4x2048x8, .f32⟩
  | 95 => ⟨S4x2048x8, .i1⟩
  | 96 => ⟨S4x2048x8, .f32⟩
  | 97 => ⟨S4x2048x8, .f32⟩
  | 98 => ⟨S4x2048x8, .f32⟩
  | 99 => ⟨S4x2048x8, .f32⟩
  | 100 => ⟨S4x2048x8, .f32⟩
  | 101 => ⟨S4x2048x8, .f32⟩
  | 102 => ⟨S4x2048x8, .f32⟩
  | 103 => ⟨S4x2048x8, .f32⟩
  | 104 => ⟨S4x2048x8, .f32⟩
  | 105 => ⟨S4x2048x2x128, .f32⟩
  | 106 => ⟨S4x2048x2x128, .f32⟩
  | 107 => ⟨S_, .f32⟩
  | 108 => ⟨S4x2048x2, .f32⟩
  | 109 => ⟨S4x2048x2x1, .f32⟩
  | 110 => ⟨S_, .f32⟩
  | 111 => ⟨S4x2048x2x1, .f32⟩
  | 112 => ⟨S4x2048x2x1, .f32⟩
  | 113 => ⟨S_, .f32⟩
  | 114 => ⟨S4x2048x2x1, .f32⟩
  | 115 => ⟨S4x2048x2x1, .f32⟩
  | 116 => ⟨S4x2048x2x1, .f32⟩
  | 117 => ⟨S4x2048x2x128, .f32⟩
  | 118 => ⟨S4x2048x2x128, .f32⟩
  | 119 => ⟨S128, .f32⟩
  | 120 => ⟨S1x1x1x128, .f32⟩
  | 121 => ⟨S4x2048x2x128, .f32⟩
  | 122 => ⟨S4x2048x2x128, .f32⟩
  | 123 => ⟨S64, .f32⟩
  | 124 => ⟨S64, .f32⟩
  | 125 => ⟨S_, .f32⟩
  | 126 => ⟨S64, .f32⟩
  | 127 => ⟨S64, .f32⟩
  | _ => ⟨S4x2048x2048, .f32⟩

abbrev hbmTy0_1 (i : Nat) : BufTy := match i % 128 with
  | 0 => ⟨S_, .f32⟩
  | 1 => ⟨S64, .f32⟩
  | 2 => ⟨S64, .f32⟩
  | 3 => ⟨S2048, .f32⟩
  | 4 => ⟨S2048x1, .f32⟩
  | 5 => ⟨S1x64, .f32⟩
  | 6 => ⟨S2048x64, .f32⟩
  | 7 => ⟨S2048x64, .f32⟩
  | 8 => ⟨S2048x64, .f32⟩
  | 9 => ⟨S2048x64, .f32⟩
  | 10 => ⟨S1x2048x1x64, .f32⟩
  | 11 => ⟨S2048x64, .f32⟩
  | 12 => ⟨S1x2048x1x64, .f32⟩
  | 13 => ⟨S4x2048x2x64, .f32⟩
  | 14 => ⟨S4x2048x2x64, .f32⟩
  | 15 => ⟨S4x2048x2x64, .f32⟩
  | 16 => ⟨S4x2048x2x64, .f32⟩
  | 17 => ⟨S4x2048x2x64, .f32⟩
  | 18 => ⟨S4x2048x2x64, .f32⟩
  | 19 => ⟨S4x2048x2x64, .f32⟩
  | 20 => ⟨S4x2048x2x64, .f32⟩
  | 21 => ⟨S4x2048x2x64, .f32⟩
  | 22 => ⟨S4x2048x2x64, .f32⟩
  | 23 => ⟨S4x2048x2x64, .f32⟩
  | 24 => ⟨S4x2048x2x64, .f32⟩
  | 25 => ⟨S4x2048x2x128, .f32⟩
  | 26 => ⟨S4x2048x2x128, .f32⟩
  | 27 => ⟨S4x2048x1x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S2048, .f32⟩
  | 37 => ⟨S2048x1, .f32⟩
  | 38 => ⟨S1x32, .f32⟩
  | 39 => ⟨S2048x32, .f32⟩
  | 40 => ⟨S2048x32, .f32⟩
  | 41 => ⟨S2048x32, .f32⟩
  | 42 => ⟨S2048x32, .f32⟩
  | 43 => ⟨S1x2048x1x32, .f32⟩
  | 44 => ⟨S2048x32, .f32⟩
  | 45 => ⟨S1x2048x1x32, .f32⟩
  | 46 => ⟨S4x2048x1x32, .f32⟩
  | 47 => ⟨S4x2048x1x32, .f32⟩
  | 48 => ⟨S4x2048x1x32, .f32⟩
  | 49 => ⟨S4x2048x1x32, .f32⟩
  | 50 => ⟨S4x2048x1x32, .f32⟩
  | 51 => ⟨S4x2048x1x32, .f32⟩
  | 52 => ⟨S4x2048x1x32, .f32⟩
  | 53 => ⟨S4x2048x1x32, .f32⟩
  | 54 => ⟨S4x2048x1x32, .f32⟩
  | 55 => ⟨S4x2048x1x32, .f32⟩
  | 56 => ⟨S4x2048x1x32, .f32⟩
  | 57 => ⟨S4x2048x1x32, .f32⟩
  | 58 => ⟨S4x2048x1x64, .f32⟩
  | 59 => ⟨S4x2048x64, .f32⟩
  | 60 => ⟨S1x4x2048x8x128, .f32⟩
  | 61 => ⟨S1x4x2048x8x128, .f32⟩
  | 62 => ⟨S1x4x2048x8, .f32⟩
  | 63 => ⟨S1x4x2048x2x128, .f32⟩
  | 64 => ⟨S1x4x2048x2x128, .f32⟩
  | 65 => ⟨S1x4x2048x64, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call1_v0 : Ref sig .tc := ⟨.hbm, 89, rfl⟩
abbrev main_call1_call0_cst : Ref sig .tc := ⟨.hbm, 90, rfl⟩
abbrev main_call1_call0_v0 : Ref sig .tc := ⟨.hbm, 91, rfl⟩
abbrev main_call1_call0_v1 : Ref sig .tc := ⟨.hbm, 92, rfl⟩
abbrev main_call1_call0_v2 : Ref sig .tc := ⟨.hbm, 93, rfl⟩
abbrev main_call1_call0_v3 : Ref sig .tc := ⟨.hbm, 94, rfl⟩
abbrev main_call1_call0_v4 : Ref sig .tc := ⟨.hbm, 95, rfl⟩
abbrev main_call1_call0_v5 : Ref sig .tc := ⟨.hbm, 96, rfl⟩
abbrev main_call1_call0_v6 : Ref sig .tc := ⟨.hbm, 97, rfl⟩
abbrev main_call1_call0_v7 : Ref sig .tc := ⟨.hbm, 98, rfl⟩
abbrev main_call1_call0_v8 : Ref sig .tc := ⟨.hbm, 99, rfl⟩
abbrev main_call1_call0_v9 : Ref sig .tc := ⟨.hbm, 100, rfl⟩
abbrev main_call1_call0_v10 : Ref sig .tc := ⟨.hbm, 101, rfl⟩
abbrev main_call1_call0_v11 : Ref sig .tc := ⟨.hbm, 102, rfl⟩
abbrev main_call1_v1 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_6 : Ref sig .tc := ⟨.hbm, 107, rfl⟩
abbrev main_v66 : Ref sig .tc := ⟨.hbm, 108, rfl⟩
abbrev main_v67 : Ref sig .tc := ⟨.hbm, 109, rfl⟩
abbrev main_cst_7 : Ref sig .tc := ⟨.hbm, 110, rfl⟩
abbrev main_v68 : Ref sig .tc := ⟨.hbm, 111, rfl⟩
abbrev main_v69 : Ref sig .tc := ⟨.hbm, 112, rfl⟩
abbrev main_cst_8 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_9 : Ref sig .tc := ⟨.hbm, 125, rfl⟩
abbrev main_v81 : Ref sig .tc := ⟨.hbm, 126, rfl⟩
abbrev main_v82 : Ref sig .tc := ⟨.hbm, 127, rfl⟩
abbrev main_cst_10 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_11 : Ref sig .tc := ⟨.hbm, 158, rfl⟩
abbrev main_v112 : Ref sig .tc := ⟨.hbm, 159, rfl⟩
abbrev main_v113 : Ref sig .tc := ⟨.hbm, 160, rfl⟩
abbrev main_cst_12 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩

abbrev nD : Nat := 1
abbrev τ : Topo := Topo.v7x

variable {F : FTy → Type} [FloatOps F]
-- ==== Kernel4.lean ====
abbrev S32x1x2048 : Shape := ⟨3, ![32, 1, 2048]⟩
abbrev S4x2048 : Shape := ⟨2, ![4, 2048]⟩
abbrev S32x2048 : Shape := ⟨2, ![32, 2048]⟩
abbrev S1x2048x5720 : Shape := ⟨3, ![1, 2048, 5720]⟩
abbrev S1x8 : Shape := ⟨2, ![1, 8]⟩
abbrev S1x128 : Shape := ⟨2, ![1, 128]⟩
abbrev S1x2048x12288 : Shape := ⟨3, ![1, 2048, 12288]⟩
abbrev S1x12288 : Shape := ⟨2, ![1, 12288]⟩
abbrev S_ : Shape := ⟨0, ![]⟩
abbrev S40x2048 : Shape := ⟨2, ![40, 2048]⟩
abbrev S2048x12288 : Shape := ⟨2, ![2048, 12288]⟩
abbrev S12288 : Shape := ⟨1, ![12288]⟩
abbrev S40x12288 : Shape := ⟨2, ![40, 12288]⟩
abbrev S2048x1024 : Shape := ⟨2, ![2048, 1024]⟩
abbrev S1x1024 : Shape := ⟨2, ![1, 1024]⟩
abbrev S40x1024 : Shape := ⟨2, ![40, 1024]⟩
abbrev S1x32x2048 : Shape := ⟨3, ![1, 32, 2048]⟩
abbrev S2048x5720 : Shape := ⟨2, ![2048, 5720]⟩
abbrev S2048x8 : Shape := ⟨2, ![2048, 8]⟩
abbrev S2048x256 : Shape := ⟨2, ![2048, 256]⟩
abbrev S2048x64 : Shape := ⟨2, ![2048, 64]⟩
abbrev S2048x16 : Shape := ⟨2, ![2048, 16]⟩
abbrev S2048x0 : Shape := ⟨2, ![2048, 0]⟩
abbrev S2048x40 : Shape := ⟨2, ![2048, 40]⟩
abbrev S2048x128 : Shape := ⟨2, ![2048, 128]⟩
abbrev S8 : Shape := ⟨1, ![8]⟩
abbrev S1 : Shape := ⟨1, ![1]⟩
abbrev S2 : Shape := ⟨1, ![2]⟩
abbrev S128 : Shape := ⟨1, ![128]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x1x128 : Shape := ⟨4, ![1, 32, 1, 128]⟩
abbrev S1x32 : Shape := ⟨2, ![1, 32]⟩
abbrev S32x32 : Shape := ⟨2, ![32, 32]⟩
abbrev S1x32x1x64 : Shape := ⟨4, ![1, 32, 1, 64]⟩
abbrev S1x32x2x64 : Shape := ⟨4, ![1, 32, 2, 64]⟩
abbrev S32x1024 : Shape := ⟨2, ![32, 1024]⟩
abbrev S32x256 : Shape := ⟨2, ![32, 256]⟩
abbrev S1x32x1x8x128 : Shape := ⟨5, ![1, 32, 1, 8, 128]⟩
abbrev S32x8 : Shape := ⟨2, ![32, 8]⟩
abbrev S1x32x1x8 : Shape := ⟨4, ![1, 32, 1, 8]⟩
abbrev S1x32x1x2x128 : Shape := ⟨5, ![1, 32, 1, 2, 128]⟩

abbrev nBuf : Space → Nat
  | .hbm => 150
  | .vmem => 44
  | .smem => 0
  | _ => 0

abbrev hbmTy0_0 (i : Nat) : BufTy := match i % 128 with
  | 0 => ⟨S32x1x2048, .f32⟩
  | 1 => ⟨S4x2048, .f32⟩
  | 2 => ⟨S32x2048, .f32⟩
  | 3 => ⟨S1x2048x5720, .f32⟩
  | 4 => ⟨S1x8, .f32⟩
  | 5 => ⟨S1x128, .f32⟩
  | 6 => ⟨S1x128, .f32⟩
  | 7 => ⟨S1x128, .f32⟩
  | 8 => ⟨S1x128, .f32⟩
  | 9 => ⟨S1x2048x12288, .f32⟩
  | 10 => ⟨S1x12288, .f32⟩
  | 11 => ⟨S_, .f32⟩
  | 12 => ⟨S4x2048, .f32⟩
  | 13 => ⟨S40x2048, .f32⟩
  | 14 => ⟨S2048x12288, .f32⟩
  | 15 => ⟨S12288, .f32⟩
  | 16 => ⟨S1x12288, .f32⟩
  | 17 => ⟨S40x12288, .f32⟩
  | 18 => ⟨S40x2048, .f32⟩
  | 19 => ⟨S40x2048, .f32⟩
  | 20 => ⟨S40x2048, .f32⟩
  | 21 => ⟨S40x2048, .f32⟩
  | 22 => ⟨S40x2048, .f32⟩
  | 23 => ⟨S40x2048, .f32⟩
  | 24 => ⟨S32x2048, .f32⟩
  | 25 => ⟨S1x32x2048, .f32⟩
  | 26 => ⟨S32x2048, .f32⟩
  | 27 => ⟨S1x32x2048, .f32⟩
  | 28 => ⟨S32x2048, .f32⟩
  | 29 => ⟨S1x32x2048, .f32⟩
  | 30 => ⟨S32x2048, .f32⟩
  | 31 => ⟨S1x32x2048, .f32⟩
  | 32 => ⟨S32x2048, .f32⟩
  | 33 => ⟨S1x32x2048, .f32⟩
  | 34 => ⟨S32x2048, .f32⟩
  | 35 => ⟨S1x32x2048, .f32⟩
  | 36 => ⟨S2048x5720, .f32⟩
  | 37 => ⟨S2048x1024, .f32⟩
  | 38 => ⟨S2048x1024, .bf16⟩
  | 39 => ⟨S2048x1024, .f32⟩
  | 40 => ⟨S2048x1024, .bf16⟩
  | 41 => ⟨S2048x1024, .f32⟩
  | 42 => ⟨S2048x1024, .bf16⟩
  | 43 => ⟨S2048x8, .f32⟩
  | 44 => ⟨S2048x1024, .f32⟩
  | 45 => ⟨S2048x1024, .bf16⟩
  | 46 => ⟨S2048x256, .f32⟩
  | 47 => ⟨S2048x256, .bf16⟩
  | 48 => ⟨S2048x256, .f32⟩
  | 49 => ⟨S2048x256, .bf16⟩
  | 50 => ⟨S2048x1024, .f32⟩
  | 51 => ⟨S2048x64, .f32⟩
  | 52 => ⟨S2048x16, .f32⟩
  | 53 => ⟨S_, .f32⟩
  | 54 => ⟨S2048x0, .f32⟩
  | 55 => ⟨S_, .f32⟩
  | 56 => ⟨S2048x40, .f32⟩
  | 57 => ⟨S2048x128, .f32⟩
  | 58 => ⟨S_, .f32⟩
  | 59 => ⟨S1x128, .f32⟩
  | 60 => ⟨S8, .f32⟩
  | 61 => ⟨S_, .i32⟩
  | 62 => ⟨S1, .i32⟩
  | 63 => ⟨S_, .i32⟩
  | 64 => ⟨S1, .i32⟩
  | 65 => ⟨S2, .i32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S_, .i32⟩
  | 76 => ⟨S32, .i32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S32, .f32⟩
  | 86 => ⟨S32x1, .f32⟩
  | 87 => ⟨S1x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x128, .f32⟩
  | 94 => ⟨S1x32x1x128, .f32⟩
  | 95 => ⟨S1x32x1x128, .f32⟩
  | 96 => ⟨S32x128, .f32⟩
  | 97 => ⟨S32x64, .f32⟩
  | 98 => ⟨S32x128, .f32⟩
  | 99 => ⟨S1x32x1x128, .f32⟩
  | 100 => ⟨S1x32x1x128, .f32⟩
  | 101 => ⟨S32x128, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S32, .f32⟩
  | 111 => ⟨S32x1, .f32⟩
  | 112 => ⟨S1x32, .f32⟩
  | 113 => ⟨S32x32, .f32⟩
  | 114 => ⟨S32x32, .f32⟩
  | 115 => ⟨S32x32, .f32⟩
  | 116 => ⟨S32x32, .f32⟩
  | 117 => ⟨S32x32, .f32⟩
  | 118 => ⟨S32x64, .f32⟩
  | 119 => ⟨S1x32x1x64, .f32⟩
  | 120 => ⟨S1x32x2x64, .f32⟩
  | 121 => ⟨S32x128, .f32⟩
  | 122 => ⟨S32x32, .f32⟩
  | 123 => ⟨S32x64, .f32⟩
  | 124 => ⟨S1x32x1x64, .f32⟩
  | 125 => ⟨S1x32x2x64, .f32⟩
  | 126 => ⟨S32x128, .f32⟩
  | 127 => ⟨S32x2048, .f32⟩
  | _ => ⟨S32x1x2048, .f32⟩

abbrev hbmTy0_1 (i : Nat) : BufTy := match i % 128 with
  | 0 => ⟨S32x1024, .bf16⟩
  | 1 => ⟨S32x1024, .bf16⟩
  | 2 => ⟨S32x1024, .bf16⟩
  | 3 => ⟨S32x1024, .f32⟩
  | 4 => ⟨S32x1024, .f32⟩
  | 5 => ⟨S32x1024, .bf16⟩
  | 6 => ⟨S32x256, .bf16⟩
  | 7 => ⟨S32x256, .bf16⟩
  | 8 => ⟨S32x1024, .f32⟩
  | 9 => ⟨S32x128, .bf16⟩
  | 10 => ⟨S32x128, .bf16⟩
  | 11 => ⟨S32x256, .f32⟩
  | 12 => ⟨S32x256, .f32⟩
  | 13 => ⟨S32x128, .f32⟩
  | 14 => ⟨S1x32x1x8x128, .f32⟩
  | 15 => ⟨S1x32x1x8x128, .f32⟩
  | 16 => ⟨S32x8, .f32⟩
  | 17 => ⟨S1x32x1x8, .f32⟩
  | 18 => ⟨S1x32x1x2x128, .f32⟩
  | 19 => ⟨S1x32x1x2x128, .f32⟩
  | 20 => ⟨S32x64, .f32⟩
  | 21 => ⟨S1x32x1x64, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | .local _ .vmem, ⟨0, _⟩ => ⟨S40x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | .local _ .vmem, ⟨7, _⟩ => ⟨S32x2048, .f32⟩
  | .local _ .vmem, ⟨8, _⟩ => ⟨S1x32x2048, .f32⟩
  | .local _ .vmem, ⟨9, _⟩ => ⟨S1x32x2048, .f32⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S1x128, .f32⟩
  | .local _ .vmem, ⟨14, _⟩ => ⟨S1x128, .f32⟩
  | .local _ .vmem, ⟨15, _⟩ => ⟨S32x1024, .bf16⟩
  | .local _ .vmem, ⟨16, _⟩ => ⟨S32x1024, .bf16⟩
  | .local _ .vmem, ⟨17, _⟩ => ⟨S32x1024, .bf16⟩
  | .local _ .vmem, ⟨18, _⟩ => ⟨S32x1024, .f32⟩
  | .local _ .vmem, ⟨19, _⟩ => ⟨S32x1024, .f32⟩
  | .local _ .vmem, ⟨20, _⟩ => ⟨S32x2048, .f32⟩
  | .local _ .vmem, ⟨21, _⟩ => ⟨S1x32x2048, .f32⟩
  | .local _ .vmem, ⟨22, _⟩ => ⟨S1x32x2048, .f32⟩
  | .local _ .vmem, ⟨23, _⟩ => ⟨S2048x1024, .bf16⟩
  | .local _ .vmem, ⟨24, _⟩ => ⟨S2048x256, .bf16⟩
  | .local _ .vmem, ⟨25, _⟩ => ⟨S2048x256, .bf16⟩
  | .local _ .vmem, ⟨26, _⟩ => ⟨S2048x1024, .f32⟩
  | .local _ .vmem, ⟨27, _⟩ => ⟨S2048x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S32x128, .f32⟩
  | .local _ .vmem, ⟨32, _⟩ => ⟨S32x128, .f32⟩
  | .local _ .vmem, ⟨33, _⟩ => ⟨S32x128, .f32⟩
  | .local _ .vmem, ⟨34, _⟩ => ⟨S32x128, .f32⟩
  | .local _ .vmem, ⟨35, _⟩ => ⟨S32x1024, .bf16⟩
  | .local _ .vmem, ⟨36, _⟩ => ⟨S32x256, .bf16⟩
  | .local _ .vmem, ⟨37, _⟩ => ⟨S32x256, .bf16⟩
  | .local _ .vmem, ⟨38, _⟩ => ⟨S32x1024, .f32⟩
  | .local _ .vmem, ⟨39, _⟩ => ⟨S32x128, .bf16⟩
  | .local _ .vmem, ⟨40, _⟩ => ⟨S32x128, .bf16⟩
  | .local _ .vmem, ⟨41, _⟩ => ⟨S32x256, .f32⟩
  | .local _ .vmem, ⟨42, _⟩ => ⟨S32x256, .f32⟩
  | .local _ .vmem, ⟨43, _⟩ => ⟨S32x128, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_0 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_c_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_4 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_7 : Ref sig .tc := ⟨.hbm, 104, rfl⟩
abbrev main_v84 : Ref sig .tc := ⟨.hbm, 105, rfl⟩
abbrev main_v85 : Ref sig .tc := ⟨.hbm, 106, rfl⟩
abbrev main_cst_8 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106_0 : Ref sig .tc := ⟨.hbm, 128, rfl⟩
abbrev main_v106_1 : Ref sig .tc := ⟨.hbm, 129, rfl⟩
abbrev main_v106_2 : Ref sig .tc := ⟨.hbm, 130, rfl⟩
abbrev main_v106_3 : Ref sig .tc := ⟨.hbm, 131, rfl⟩
abbrev main_v106_4 : Ref sig .tc := ⟨.hbm, 132, rfl⟩
abbrev main_v107_0 : Ref sig .tc := ⟨.hbm, 133, rfl⟩
abbrev main_v107_1 : Ref sig .tc := ⟨.hbm, 134, rfl⟩
abbrev main_v107_2 : Ref sig .tc := ⟨.hbm, 135, rfl⟩
abbrev main_v107_3 : Ref sig .tc := ⟨.hbm, 136, rfl⟩
abbrev main_v107_4 : Ref sig .tc := ⟨.hbm, 137, rfl⟩
abbrev main_v107_5 : Ref sig .tc := ⟨.hbm, 138, rfl⟩
abbrev main_v107_6 : Ref sig .tc := ⟨.hbm, 139, rfl⟩
abbrev main_v107_7 : Ref sig .tc := ⟨.hbm, 140, rfl⟩
abbrev main_v107_8 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg14_0 : Ref sig .tc := ⟨.vmem, 34, rfl⟩
abbrev cc2_stg15_0 : Ref sig .tc := ⟨.vmem, 35, rfl⟩
abbrev cc2_stg16_0 : Ref sig .tc := ⟨.vmem, 36, rfl⟩
abbrev cc2_stg17_0 : Ref sig .tc := ⟨.vmem, 37, rfl⟩
abbrev cc2_stg18_0 : Ref sig .tc := ⟨.vmem, 38, rfl⟩
abbrev cc2_stg19_0 : Ref sig .tc := ⟨.vmem, 39, rfl⟩
abbrev cc2_stg20_0 : Ref sig .tc := ⟨.vmem, 40, rfl⟩
abbrev cc2_stg21_0 : Ref sig .tc := ⟨.vmem, 41, rfl⟩
abbrev cc2_stg22_0 : Ref sig .tc := ⟨.vmem, 42, rfl⟩
abbrev cc2_stg23_0 : Ref sig .tc := ⟨.vmem, 43, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem16_0 : DmaSem sig := 36
abbrev cc2_sem17_0 : DmaSem sig := 37
abbrev cc2_sem18_0 : DmaSem sig := 38
abbrev cc2_sem19_0 : DmaSem sig := 39
abbrev cc2_sem20_0 : DmaSem sig := 40
abbrev cc2_sem21_0 : DmaSem sig := 41
abbrev cc2_sem22_0 : DmaSem sig := 42
abbrev cc2_sem23_0 : DmaSem sig := 43

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc1_transform_2 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S32x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x32x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x32x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S32x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S32x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S32x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S32x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc2_transform_2 (i : grid2.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_23 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S32x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x32x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x32x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S32x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S32x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S32x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S32x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S32x1024 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![true]

abbrev stage2_16 : Fin 1 → Memref sig .tc .vmem S32x256 .bf16 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![true]

abbrev stage2_17 : Fin 1 → Memref sig .tc .vmem S32x256 .bf16 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![true]

abbrev stage2_18 : Fin 1 → Memref sig .tc .vmem S32x1024 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![true]

abbrev stage2_19 : Fin 1 → Memref sig .tc .vmem S32x128 .bf16 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![true]

abbrev stage2_20 : Fin 1 → Memref sig .tc .vmem S32x128 .bf16 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![true]

abbrev stage2_21 : Fin 1 → Memref sig .tc .vmem S32x256 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![true]

abbrev stage2_22 : Fin 1 → Memref sig .tc .vmem S32x256 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![true]

abbrev stage2_23 : Fin 1 → Memref sig .tc .vmem S32x128 .f32 := fun | 0 => Memref.whole cc2_stg23_0 | ⟨_ + 1, h⟩ => absurd h (Nat.not_lt.2 (Nat.le_add_left _ _))
abbrev sem2_23 : Fin 1 → DmaSem sig := fun | 0 => cc2_sem23_0 | ⟨_ + 1, h⟩ => absurd h (Nat.not_lt.2 (Nat.le_add_left _ _))
abbrev reads2_23 : Fin grid2.rank → Bool := ![true]
-- ==== Reference4Ideal.lean ====
abbrev S32x1x2048 : Shape := ⟨3, ![32, 1, 2048]⟩
abbrev S4x2048 : Shape := ⟨2, ![4, 2048]⟩
abbrev S32x2048 : Shape := ⟨2, ![32, 2048]⟩
abbrev S1x2048x5720 : Shape := ⟨3, ![1, 2048, 5720]⟩
abbrev S1x8 : Shape := ⟨2, ![1, 8]⟩
abbrev S1x128 : Shape := ⟨2, ![1, 128]⟩
abbrev S1x2048x12288 : Shape := ⟨3, ![1, 2048, 12288]⟩
abbrev S1x12288 : Shape := ⟨2, ![1, 12288]⟩
abbrev S1 : Shape := ⟨1, ![1]⟩
abbrev S_ : Shape := ⟨0, ![]⟩
abbrev S2048x12288 : Shape := ⟨2, ![2048, 12288]⟩
abbrev S32x12288 : Shape := ⟨2, ![32, 12288]⟩
abbrev S12288 : Shape := ⟨1, ![12288]⟩
abbrev S32x1x12288 : Shape := ⟨3, ![32, 1, 12288]⟩
abbrev S32x1 : Shape := ⟨2, ![32, 1]⟩
abbrev S32x1x1 : Shape := ⟨3, ![32, 1, 1]⟩
abbrev S2048x5720 : Shape := ⟨2, ![2048, 5720]⟩
abbrev S32x1x5720 : Shape := ⟨3, ![32, 1, 5720]⟩
abbrev S32x1x1024 : Shape := ⟨3, ![32, 1, 1024]⟩
abbrev S32x1x8 : Shape := ⟨3, ![32, 1, 8]⟩
abbrev S32x1x256 : Shape := ⟨3, ![32, 1, 256]⟩
abbrev S32x1x64 : Shape := ⟨3, ![32, 1, 64]⟩
abbrev S32x1x16 : Shape := ⟨3, ![32, 1, 16]⟩
abbrev S32x1x8x128 : Shape := ⟨4, ![32, 1, 8, 128]⟩
abbrev S32x1x8x1 : Shape := ⟨4, ![32, 1, 8, 1]⟩
abbrev S128 : Shape := ⟨1, ![128]⟩
abbrev S1x1x1x128 : Shape := ⟨4, ![1, 1, 1, 128]⟩
abbrev S8 : Shape := ⟨1, ![8]⟩
abbrev S1x1x8 : Shape := ⟨3, ![1, 1, 8]⟩
abbrev S32x1x2x128 : Shape := ⟨4, ![32, 1, 2, 128]⟩
abbrev S32x1x2 : Shape := ⟨3, ![32, 1, 2]⟩
abbrev S32x1x2x1 : Shape := ⟨4, ![32, 1, 2, 1]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S32x1x2x64 : Shape := ⟨4, ![32, 1, 2, 64]⟩
abbrev S32x1x1x64 : Shape := ⟨4, ![32, 1, 1, 64]⟩
abbrev S32 : Shape := ⟨1, ![32]⟩
abbrev S1x32 : Shape := ⟨2, ![1, 32]⟩
abbrev S1x1x1x32 : Shape := ⟨4, ![1, 1, 1, 32]⟩
abbrev S32x1x1x32 : Shape := ⟨4, ![32, 1, 1, 32]⟩
abbrev S1x32x1x8x128 : Shape := ⟨5, ![1, 32, 1, 8, 128]⟩
abbrev S1x32x1x8 : Shape := ⟨4, ![1, 32, 1, 8]⟩
abbrev S1x32x1x2x128 : Shape := ⟨5, ![1, 32, 1, 2, 128]⟩
abbrev S1x32x1x64 : Shape := ⟨4, ![1, 32, 1, 64]⟩

abbrev nBuf : Space → Nat
  | .hbm => 193
  | .vmem => 0
  | .smem => 0
  | _ => 0

abbrev hbmTy0_0 (i : Nat) : BufTy := match i % 128 with
  | 0 => ⟨S32x1x2048, .f32⟩
  | 1 => ⟨S4x2048, .f32⟩
  | 2 => ⟨S32x2048, .f32⟩
  | 3 => ⟨S1x2048x5720, .f32⟩
  | 4 => ⟨S1x8, .f32⟩
  | 5 => ⟨S1x128, .f32⟩
  | 6 => ⟨S1x128, .f32⟩
  | 7 => ⟨S1x128, .f32⟩
  | 8 => ⟨S1x128, .f32⟩
  | 9 => ⟨S1x2048x12288, .f32⟩
  | 10 => ⟨S1x12288, .f32⟩
  | 11 => ⟨S1, .i32⟩
  | 12 => ⟨S_, .i32⟩
  | 13 => ⟨S1, .i32⟩
  | 14 => ⟨S1, .i32⟩
  | 15 => ⟨S32x2048, .f32⟩
  | 16 => ⟨S32x2048, .f32⟩
  | 17 => ⟨S_, .f32⟩
  | 18 => ⟨S32x2048, .f32⟩
  | 19 => ⟨S32x2048, .f32⟩
  | 20 => ⟨S_, .f32⟩
  | 21 => ⟨S32x2048, .f32⟩
  | 22 => ⟨S32x2048, .f32⟩
  | 23 => ⟨S32x2048, .f32⟩
  | 24 => ⟨S2048x12288, .f32⟩
  | 25 => ⟨S32x12288, .f32⟩
  | 26 => ⟨S12288, .f32⟩
  | 27 => ⟨S1x12288, .f32⟩
  | 28 => ⟨S32x12288, .f32⟩
  | 29 => ⟨S32x12288, .f32⟩
  | 30 => ⟨S32x1x12288, .f32⟩
  | 31 => ⟨S32x1x2048, .f32⟩
  | 32 => ⟨S32x1x2048, .f32⟩
  | 33 => ⟨S32x1x2048, .f32⟩
  | 34 => ⟨S32x1x2048, .f32⟩
  | 35 => ⟨S32x1x2048, .f32⟩
  | 36 => ⟨S32x1x2048, .f32⟩
  | 37 => ⟨S32x1x2048, .f32⟩
  | 38 => ⟨S_, .f32⟩
  | 39 => ⟨S32x1, .f32⟩
  | 40 => ⟨S32x1x1, .f32⟩
  | 41 => ⟨S_, .f32⟩
  | 42 => ⟨S32x1x1, .f32⟩
  | 43 => ⟨S32x1x1, .f32⟩
  | 44 => ⟨S_, .f32⟩
  | 45 => ⟨S32x1x1, .f32⟩
  | 46 => ⟨S32x1x1, .f32⟩
  | 47 => ⟨S32x1x1, .f32⟩
  | 48 => ⟨S32x1x2048, .f32⟩
  | 49 => ⟨S32x1x2048, .f32⟩
  | 50 => ⟨S_, .f32⟩
  | 51 => ⟨S32x1x2048, .f32⟩
  | 52 => ⟨S32x1x2048, .f32⟩
  | 53 => ⟨S32x1x2048, .f32⟩
  | 54 => ⟨S32x1x2048, .f32⟩
  | 55 => ⟨S2048x5720, .f32⟩
  | 56 => ⟨S32x1x5720, .f32⟩
  | 57 => ⟨S32x1x1024, .f32⟩
  | 58 => ⟨S32x1x1024, .f32⟩
  | 59 => ⟨S32x1x1024, .f32⟩
  | 60 => ⟨S32x1x8, .f32⟩
  | 61 => ⟨S32x1x1024, .f32⟩
  | 62 => ⟨S32x1x256, .f32⟩
  | 63 => ⟨S32x1x256, .f32⟩
  | 64 => ⟨S32x1x1024, .f32⟩
  | 65 => ⟨S32x1x64, .f32⟩
  | 66 => ⟨S32x1x16, .f32⟩
  | 67 => ⟨S32x1x8x128, .f32⟩
  | 68 => ⟨S32x1x8x128, .f32⟩
  | 69 => ⟨S_, .f32⟩
  | 70 => ⟨S32x1x8, .f32⟩
  | 71 => ⟨S32x1x8x1, .f32⟩
  | 72 => ⟨S_, .f32⟩
  | 73 => ⟨S32x1x8x1, .f32⟩
  | 74 => ⟨S32x1x8x1, .f32⟩
  | 75 => ⟨S_, .f32⟩
  | 76 => ⟨S32x1x8x1, .f32⟩
  | 77 => ⟨S32x1x8x1, .f32⟩
  | 78 => ⟨S32x1x8x1, .f32⟩
  | 79 => ⟨S32x1x8x128, .f32⟩
  | 80 => ⟨S32x1x8x128, .f32⟩
  | 81 => ⟨S128, .f32⟩
  | 82 => ⟨S1x1x1x128, .f32⟩
  | 83 => ⟨S32x1x8x128, .f32⟩
  | 84 => ⟨S32x1x8x128, .f32⟩
  | 85 => ⟨S32x1x8x128, .f32⟩
  | 86 => ⟨S8, .f32⟩
  | 87 => ⟨S1x1x8, .f32⟩
  | 88 => ⟨S32x1x8, .f32⟩
  | 89 => ⟨S32x1x8, .f32⟩
  | 90 => ⟨S32x1x8, .f32⟩
  | 91 => ⟨S_, .f32⟩
  | 92 => ⟨S32x1x8, .f32⟩
  | 93 => ⟨S32x1x8, .f32⟩
  | 94 => ⟨S32x1x8, .f32⟩
  | 95 => ⟨S32x1x8, .f32⟩
  | 96 => ⟨S32x1x8, .i1⟩
  | 97 => ⟨S32x1x8, .f32⟩
  | 98 => ⟨S32x1x8, .f32⟩
  | 99 => ⟨S32x1x8, .f32⟩
  | 100 => ⟨S32x1x8, .f32⟩
  | 101 => ⟨S32x1x8, .f32⟩
  | 102 => ⟨S32x1x8, .f32⟩
  | 103 => ⟨S32x1x8, .f32⟩
  | 104 => ⟨S32x1x8, .f32⟩
  | 105 => ⟨S32x1x8, .f32⟩
  | 106 => ⟨S32x1x2x128, .f32⟩
  | 107 => ⟨S32x1x2x128, .f32⟩
  | 108 => ⟨S_, .f32⟩
  | 109 => ⟨S32x1x2, .f32⟩
  | 110 => ⟨S32x1x2x1, .f32⟩
  | 111 => ⟨S_, .f32⟩
  | 112 => ⟨S32x1x2x1, .f32⟩
  | 113 => ⟨S32x1x2x1, .f32⟩
  | 114 => ⟨S_, .f32⟩
  | 115 => ⟨S32x1x2x1, .f32⟩
  | 116 => ⟨S32x1x2x1, .f32⟩
  | 117 => ⟨S32x1x2x1, .f32⟩
  | 118 => ⟨S32x1x2x128, .f32⟩
  | 119 => ⟨S32x1x2x128, .f32⟩
  | 120 => ⟨S128, .f32⟩
  | 121 => ⟨S1x1x1x128, .f32⟩
  | 122 => ⟨S32x1x2x128, .f32⟩
  | 123 => ⟨S32x1x2x128, .f32⟩
  | 124 => ⟨S64, .f32⟩
  | 125 => ⟨S64, .f32⟩
  | 126 => ⟨S_, .f32⟩
  | 127 => ⟨S64, .f32⟩
  | _ => ⟨S32x1x2048, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S1, .f32⟩
  | 5 => ⟨S1x1, .f32⟩
  | 6 => ⟨S1x64, .f32⟩
  | 7 => ⟨S1x64, .f32⟩
  | 8 => ⟨S1x64, .f32⟩
  | 9 => ⟨S1x64, .f32⟩
  | 10 => ⟨S1x1x1x64, .f32⟩
  | 11 => ⟨S1x64, .f32⟩
  | 12 => ⟨S1x1x1x64, .f32⟩
  | 13 => ⟨S32x1x2x64, .f32⟩
  | 14 => ⟨S32x1x2x64, .f32⟩
  | 15 => ⟨S32x1x2x64, .f32⟩
  | 16 => ⟨S32x1x2x64, .f32⟩
  | 17 => ⟨S32x1x2x64, .f32⟩
  | 18 => ⟨S32x1x2x64, .f32⟩
  | 19 => ⟨S32x1x2x64, .f32⟩
  | 20 => ⟨S32x1x2x64, .f32⟩
  | 21 => ⟨S32x1x2x64, .f32⟩
  | 22 => ⟨S32x1x2x64, .f32⟩
  | 23 => ⟨S32x1x2x64, .f32⟩
  | 24 => ⟨S32x1x2x64, .f32⟩
  | 25 => ⟨S32x1x2x128, .f32⟩
  | 26 => ⟨S32x1x2x128, .f32⟩
  | 27 => ⟨S32x1x1x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S1, .f32⟩
  | 37 => ⟨S1x1, .f32⟩
  | 38 => ⟨S1x32, .f32⟩
  | 39 => ⟨S1x32, .f32⟩
  | 40 => ⟨S1x32, .f32⟩
  | 41 => ⟨S1x32, .f32⟩
  | 42 => ⟨S1x1x1x32, .f32⟩
  | 43 => ⟨S1x32, .f32⟩
  | 44 => ⟨S1x1x1x32, .f32⟩
  | 45 => ⟨S32x1x1x32, .f32⟩
  | 46 => ⟨S32x1x1x32, .f32⟩
  | 47 => ⟨S32x1x1x32, .f32⟩
  | 48 => ⟨S32x1x1x32, .f32⟩
  | 49 => ⟨S32x1x1x32, .f32⟩
  | 50 => ⟨S32x1x1x32, .f32⟩
  | 51 => ⟨S32x1x1x32, .f32⟩
  | 52 => ⟨S32x1x1x32, .f32⟩
  | 53 => ⟨S32x1x1x32, .f32⟩
  | 54 => ⟨S32x1x1x32, .f32⟩
  | 55 => ⟨S32x1x1x32, .f32⟩
  | 56 => ⟨S32x1x1x32, .f32⟩
  | 57 => ⟨S32x1x1x64, .f32⟩
  | 58 => ⟨S32x1x64, .f32⟩
  | 59 => ⟨S1x32x1x8x128, .f32⟩
  | 60 => ⟨S1x32x1x8x128, .f32⟩
  | 61 => ⟨S1x32x1x8, .f32⟩
  | 62 => ⟨S1x32x1x2x128, .f32⟩
  | 63 => ⟨S1x32x1x2x128, .f32⟩
  | 64 => ⟨S1x32x1x64, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_v0 : Ref sig .tc := ⟨.hbm, 90, rfl⟩
abbrev main_call1_call0_cst : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_call0_v2 : Ref sig .tc := ⟨.hbm, 94, rfl⟩
abbrev main_call1_call0_v3 : Ref sig .tc := ⟨.hbm, 95, rfl⟩
abbrev main_call1_call0_v4 : Ref sig .tc := ⟨.hbm, 96, rfl⟩
abbrev main_call1_call0_v5 : Ref sig .tc := ⟨.hbm, 97, rfl⟩
abbrev main_call1_call0_v6 : Ref sig .tc := ⟨.hbm, 98, rfl⟩
abbrev main_call1_call0_v7 : Ref sig .tc := ⟨.hbm, 99, rfl⟩
abbrev main_call1_call0_v8 : Ref sig .tc := ⟨.hbm, 100, rfl⟩
abbrev main_call1_call0_v9 : Ref sig .tc := ⟨.hbm, 101, rfl⟩
abbrev main_call1_call0_v10 : Ref sig .tc := ⟨.hbm, 102, rfl⟩
abbrev main_call1_call0_v11 : Ref sig .tc := ⟨.hbm, 103, rfl⟩
abbrev main_call1_v1 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_6 : Ref sig .tc := ⟨.hbm, 108, rfl⟩
abbrev main_v66 : Ref sig .tc := ⟨.hbm, 109, rfl⟩
abbrev main_v67 : Ref sig .tc := ⟨.hbm, 110, rfl⟩
abbrev main_cst_7 : Ref sig .tc := ⟨.hbm, 111, rfl⟩
abbrev main_v68 : Ref sig .tc := ⟨.hbm, 112, rfl⟩
abbrev main_v69 : Ref sig .tc := ⟨.hbm, 113, rfl⟩
abbrev main_cst_8 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_9 : Ref sig .tc := ⟨.hbm, 126, rfl⟩
abbrev main_v81 : Ref sig .tc := ⟨.hbm, 127, rfl⟩
abbrev main_v82 : Ref sig .tc := ⟨.hbm, 128, rfl⟩
abbrev main_cst_10 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_11 : Ref sig .tc := ⟨.hbm, 158, rfl⟩
abbrev main_v111 : Ref sig .tc := ⟨.hbm, 159, rfl⟩
abbrev main_v112 : Ref sig .tc := ⟨.hbm, 160, rfl⟩
abbrev main_cst_12 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩

abbrev nD : Nat := 1
abbrev τ : Topo := Topo.v7x

variable {F : FTy → Type} [FloatOps F]
-- ==== Proof.Fox.Tiles.lean ====
/-
  The prompt attention's body as a composition of a few vector functions: the scores of one key tile, the running
  maximum over the lanes, the weights of a tile, their running sum, and the weighted values. One grid point takes
  `n` key tiles (`n = 1 … 4`), the last of them masked above the diagonal; `out n` is what it stores.
-/
module

public import proofs.«01_k».proof.Proof.Gen.KernelIdeal.Skeleton
public import Idealize.ShloMosaic.Lib.Pointwise

@[expose] public section

set_option maxRecDepth 16384

noncomputable section

namespace Cert.Fox

open Cert.KernelIdeal Cert.KernelIdeal.Gen Idealize.ShloMosaic Idealize.SL.Sem
open Cert.KernelIdeal.Facts

variable [Cert.KernelIdeal.Facts]

/-- One tile of scores, queries by keys. -/
abbrev Tile := FVec Ideal S512x512 .f32

/-- The scores of a key tile: query times key, less the key's cumulated gate. -/
def score (q : FVec Ideal S512x128 .bf16) (k : Vec Ideal S1x512x128 .bf16) (ck : Vec Ideal S1x1x1x1x512 .f32) : Tile :=
  subf (matmul dot_S512x128_S512x128_S512x512_1_1_0_0_n_n none q
      (shapeCast S512x128 k shapeCasts_S1x512x128_S512x128 : FVec Ideal S512x128 .bf16)
      (constant S512x512 .f32 0x00000000#32))
    (broadcastTo S512x512 (shapeCast S1x512 ck shapeCasts_S1x1x1x1x512_S1x512 : FVec Ideal S1x512 .f32)
      broadcasts_S1x512_S512x512)

/-- A tile masked above its diagonal. -/
def mask (s : Tile) : Tile :=
  select (cmpi .sle (iota .tc S512x512 32 [1] iota_S512x512_d1_w32) (iota .tc S512x512 32 [0] iota_S512x512_d0_w32)) s
    (broadcast S512x512 (Scalar.ofBits .f32 0xFF800000#32 : Ideal .f32))

/-- A tile's four groups of lanes folded into the running maximum. -/
def maxIn (a : FVec Ideal S512x128 .f32) (s : Tile) : FVec Ideal S512x128 .f32 :=
  maximumf (maximumf (maximumf (maximumf a
    (extractStridedSlice S512x128 ![0, 0] s slices_S512x512_o0_0_S512x128))
    (extractStridedSlice S512x128 ![0, 128] s slices_S512x512_o0_128_S512x128))
    (extractStridedSlice S512x128 ![0, 256] s slices_S512x512_o0_256_S512x128))
    (extractStridedSlice S512x128 ![0, 384] s slices_S512x512_o0_384_S512x128)

/-- A tile's four groups of lanes added to the running sum. -/
def addIn (a : FVec Ideal S512x128 .f32) (s : Tile) : FVec Ideal S512x128 .f32 :=
  addf (addf (addf (addf a
    (extractStridedSlice S512x128 ![0, 0] s slices_S512x512_o0_0_S512x128))
    (extractStridedSlice S512x128 ![0, 128] s slices_S512x512_o0_128_S512x128))
    (extractStridedSlice S512x128 ![0, 256] s slices_S512x512_o0_256_S512x128))
    (extractStridedSlice S512x128 ![0, 384] s slices_S512x512_o0_384_S512x128)

/-- The maximum over the lanes, one number a row. -/
def rowMax (a : FVec Ideal S512x128 .f32) : FVec Ideal S512x1 .f32 :=
  shapeCast S512x1 (multiReduction .maximumf [1] S512 a 0xFF800000#32 reduces_S512x128_S512 (.inl rfl) rfl : FVec Ideal S512 .f32)
    shapeCasts_S512_S512x1

/-- The weights of a tile, from its scores and the row maxima. -/
def weight (s : Tile) (m : FVec Ideal S512x1 .f32) : Tile :=
  exp (subf (shapeCast S512x512 s shapeCasts_S512x512_S512x512 : Tile) (broadcastTo S512x512 m broadcasts_S512x1_S512x512))

/-- The weighted sum of a tile's values added to the accumulator. -/
def valIn (a : FVec Ideal S512x128 .f32) (p : Tile) (v : Vec Ideal S1x512x128 .bf16) : FVec Ideal S512x128 .f32 :=
  addf a (matmul dot_S512x512_S512x128_S512x128_1_0_0_1_n_n none (truncf .bf16 p bitsLt_bf16_f32)
    (shapeCast S512x128 v shapeCasts_S1x512x128_S512x128 : FVec Ideal S512x128 .bf16) (constant S512x128 .f32 0x00000000#32))

/-- The accumulator over the sum of the lanes' weights, as it is stored. -/
def quot (a l : FVec Ideal S512x128 .f32) : FVec Ideal S1x512x128 .bf16 :=
  shapeCast S1x512x128 (truncf .bf16 (divf a (broadcastTo S512x128
    (shapeCast S512x1 (multiReduction .add [1] S512 l 0x00000000#32 reduces_S512x128_S512 (.inl rfl) rfl : FVec Ideal S512 .f32)
      shapeCasts_S512_S512x1 : FVec Ideal S512x1 .f32) broadcasts_S512x1_S512x128)) bitsLt_bf16_f32 : FVec Ideal S512x128 .bf16)
    shapeCasts_S512x128_S1x512x128

/-- The running maximum over the first `n` tiles. -/
def mxs (S : ℕ → Tile) : ℕ → FVec Ideal S512x128 .f32
  | 0 => broadcast S512x128 (Scalar.ofBits .f32 0xFF800000#32 : Ideal .f32)
  | n + 1 => maxIn (mxs S n) (S n)

/-- The running sum of the weights over the first `n` tiles. -/
def sums (P : ℕ → Tile) : ℕ → FVec Ideal S512x128 .f32
  | 0 => broadcast S512x128 (Scalar.ofBits .f32 0x00000000#32 : Ideal .f32)
  | n + 1 => addIn (sums P n) (P n)

/-- The accumulator over the first `n` tiles. -/
def accs (P : ℕ → Tile) (v : ℕ → Vec Ideal S1x512x128 .bf16) : ℕ → FVec Ideal S512x128 .f32
  | 0 => broadcast S512x128 (Scalar.ofBits .f32 0x00000000#32 : Ideal .f32)
  | n + 1 => valIn (accs P v n) (P n) (v n)

/-- What a grid point stores that takes the `n` tiles of scores `S` and of values `v`. -/
def out (n : ℕ) (S : ℕ → Tile) (v : ℕ → Vec Ideal S1x512x128 .bf16) : FVec Ideal S1x512x128 .bf16 :=
  quot (accs (fun c => weight (S c) (rowMax (mxs S n))) v n) (sums (fun c => weight (S c) (rowMax (mxs S n))) n)

/-- The scores of the tiles of a point that takes `n` of them: the last one is masked. -/
def scores (n : ℕ) (q : FVec Ideal S512x128 .bf16) (k : ℕ → Vec Ideal S1x512x128 .bf16) (ck : ℕ → Vec Ideal S1x1x1x1x512 .f32)
    (c : ℕ) : Tile :=
  if c + 1 = n then mask (score q (k c) (ck c)) else score q (k c) (ck c)

end Cert.Fox

end
-- ==== Proof.Fox.Block.lean ====
/-
  What each grid point of the prompt attention stores, as one function of its four input blocks: point `t` takes
  `t % 4 + 1` key tiles, and the four branches of the body are the function `out` of Tiles.lean at that number.
-/
module

public import proofs.«01_k».proof.Proof.Fox.Tiles
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Fox

open Cert.KernelIdeal Cert.KernelIdeal.Gen Idealize.ShloMosaic Idealize.ShloMosaic.TcCoe Idealize.SL.Sem
open Cert.KernelIdeal.Facts

/-- The key (or value) tile `c` of a block of 2048 rows. -/
def rows (x : Vec Ideal S1x2048x128 .bf16) : ℕ → Vec Ideal S1x512x128 .bf16
  | 0 => View.ld x (Rect.unit ![0, 0, 0] ![1, 512, 128] inb_S1x2048x128_S1x512x128_0_0_0)
  | 1 => View.ld x (Rect.unit ![0, 512, 0] ![1, 512, 128] inb_S1x2048x128_S1x512x128_0_512_0)
  | 2 => View.ld x (Rect.unit ![0, 1024, 0] ![1, 512, 128] inb_S1x2048x128_S1x512x128_0_1024_0)
  | _ => View.ld x (Rect.unit ![0, 1536, 0] ![1, 512, 128] inb_S1x2048x128_S1x512x128_0_1536_0)

/-- The cumulated gates of key tile `c`. -/
def gates (x : Vec Ideal S1x1x4x1x512 .f32) : ℕ → Vec Ideal S1x1x1x1x512 .f32
  | 0 => View.ld x (Rect.unit ![0, 0, 0, 0, 0] ![1, 1, 1, 1, 512] inb_S1x1x4x1x512_S1x1x1x1x512_0_0_0_0_0)
  | 1 => View.ld x (Rect.unit ![0, 0, 1, 0, 0] ![1, 1, 1, 1, 512] inb_S1x1x4x1x512_S1x1x1x1x512_0_0_1_0_0)
  | 2 => View.ld x (Rect.unit ![0, 0, 2, 0, 0] ![1, 1, 1, 1, 512] inb_S1x1x4x1x512_S1x1x1x1x512_0_0_2_0_0)
  | _ => View.ld x (Rect.unit ![0, 0, 3, 0, 0] ![1, 1, 1, 1, 512] inb_S1x1x4x1x512_S1x1x1x1x512_0_0_3_0_0)

/-- What a grid point that takes `n` key tiles stores, from its four input blocks. -/
def stored (n : ℕ) (q : Vec Ideal S1x512x128 .bf16) (k v : Vec Ideal S1x2048x128 .bf16) (ck : Vec Ideal S1x1x4x1x512 .f32) :
    FVec Ideal S1x512x128 .bf16 :=
  out n (scores n (k0_pay1 q) (rows k) (gates ck)) (rows v)

variable (m : (ℓ : Loc nD τ sig) → Buf (Elt Ideal) ℓ)

/-- A point with `t % 4 = 0` takes 1 tile. -/
theorem outs_A (c : Dev nD) (t : Fin cfg0.N) (h0 : t.val % 4 = 0) (h1 : ¬t.val % 4 = 1) (h2 : ¬t.val % 4 = 2) (h3 : ¬t.val % 4 = 3) :
    outsAt0 m c t.val t.isLt = stored 1 (iblk m c 0 t) (iblk m c 1 t) (iblk m c 2 t) (iblk m c 3 t) := by
  rw [outsAt0_A m c t h0 h1 h2 h3]
  frame_open
  simp (disch := decide) only [↓ View.readCov_skip, ↓ View.readCov_cons_toLoadRect, ↓ View.readCov_fill]
  frame_out
  rfl

/-- A point with `t % 4 = 1` takes 2 tiles. -/
theorem outs_B (c : Dev nD) (t : Fin cfg0.N) (h0 : ¬t.val % 4 = 0) (h1 : t.val % 4 = 1) (h2 : ¬t.val % 4 = 2) (h3 : ¬t.val % 4 = 3) :
    outsAt0 m c t.val t.isLt = stored 2 (iblk m c 0 t) (iblk m c 1 t) (iblk m c 2 t) (iblk m c 3 t) := by
  rw [outsAt0_B m c t h0 h1 h2 h3]
  frame_open
  simp (disch := decide) only [↓ View.readCov_skip, ↓ View.readCov_cons_toLoadRect, ↓ View.readCov_fill]
  frame_out
  rfl

/-- A point with `t % 4 = 2` takes 3 tiles. -/
theorem outs_C (c : Dev nD) (t : Fin cfg0.N) (h0 : ¬t.val % 4 = 0) (h1 : ¬t.val % 4 = 1) (h2 : t.val % 4 = 2) (h3 : ¬t.val % 4 = 3) :
    outsAt0 m c t.val t.isLt = stored 3 (iblk m c 0 t) (iblk m c 1 t) (iblk m c 2 t) (iblk m c 3 t) := by
  rw [outsAt0_C m c t h0 h1 h2 h3]
  frame_open
  simp (disch := decide) only [↓ View.readCov_skip, ↓ View.readCov_cons_toLoadRect, ↓ View.readCov_fill]
  frame_out
  rfl

/-- A point with `t % 4 = 3` takes 4 tiles. -/
theorem outs_D (c : Dev nD) (t : Fin cfg0.N) (h0 : ¬t.val % 4 = 0) (h1 : ¬t.val % 4 = 1) (h2 : ¬t.val % 4 = 2) (h3 : t.val % 4 = 3) :
    outsAt0 m c t.val t.isLt = stored 4 (iblk m c 0 t) (iblk m c 1 t) (iblk m c 2 t) (iblk m c 3 t) := by
  rw [outsAt0_D m c t h0 h1 h2 h3]
  frame_open
  simp (disch := decide) only [↓ View.readCov_skip, ↓ View.readCov_cons_toLoadRect, ↓ View.readCov_fill]
  frame_out
  rfl

/-- Every grid point stores `stored (t % 4 + 1)` of its four input blocks. -/
theorem outs_eq (c : Dev nD) (t : Fin cfg0.N) :
    outsAt0 m c t.val t.isLt = stored (t.val % 4 + 1) (iblk m c 0 t) (iblk m c 1 t) (iblk m c 2 t) (iblk m c 3 t) := by
  have hlt : t.val % 4 < 4 := Nat.mod_lt _ (by decide)
  rcases (by omega : t.val % 4 = 0 ∨ t.val % 4 = 1 ∨ t.val % 4 = 2 ∨ t.val % 4 = 3) with h | h | h | h <;> rw [h]
  · exact outs_A m c t h (by omega) (by omega) (by omega)
  · exact outs_B m c t (by omega) h (by omega) (by omega)
  · exact outs_C m c t (by omega) (by omega) h (by omega)
  · exact outs_D m c t (by omega) (by omega) (by omega) h

end Cert.Fox

end
-- ==== Proof.Fox.Math.lean ====
/-
  Softmax over the extended reals: a row of scores, each a real number or −∞ (a masked key) and one of them real. Adding
  one real number to every score changes no weight, and dividing the weighted sum of the values by the sum of the weights
  is summing the values against the divided weights, whatever the values are.
-/
module

public import Idealize.ShloMosaic.PureOps.Ideal
public import Idealize.ShloMosaic.Lib.Pointwise
public import Idealize.ShloMosaic.Lib.WordCmp

@[expose] public section

noncomputable section

namespace Cert.Fox

open Idealize.ShloMosaic

/-- A number that is not an infinity. -/
def Fin' (x : EReal) : Prop := x ≠ ⊥ ∧ x ≠ ⊤

theorem fin_coe (r : ℝ) : Fin' (r : EReal) := ⟨EReal.coe_ne_bot r, EReal.coe_ne_top r⟩

theorem Fin'.lift {x : EReal} (h : Fin' x) : ∃ r : ℝ, x = r := ⟨x.toReal, (EReal.coe_toReal h.2 h.1).symm⟩

theorem Fin'.mul {x y : EReal} (hx : Fin' x) (hy : Fin' y) : Fin' (x * y) := by
  obtain ⟨a, rfl⟩ := hx.lift; obtain ⟨b, rfl⟩ := hy.lift
  rw [← EReal.coe_mul]; exact fin_coe _

theorem Fin'.add {x y : EReal} (hx : Fin' x) (hy : Fin' y) : Fin' (x + y) := by
  obtain ⟨a, rfl⟩ := hx.lift; obtain ⟨b, rfl⟩ := hy.lift
  rw [← EReal.coe_add]; exact fin_coe _

theorem Fin'.sub {x y : EReal} (hx : Fin' x) (hy : Fin' y) : Fin' (x - y) := by
  obtain ⟨a, rfl⟩ := hx.lift; obtain ⟨b, rfl⟩ := hy.lift
  rw [← EReal.coe_sub]; exact fin_coe _

theorem coe_sum {ι : Type*} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

theorem Fin'.sum {ι : Type*} (s : Finset ι) (f : ι → EReal) (h : ∀ x, Fin' (f x)) : Fin' (∑ x ∈ s, f x) := by
  choose g hg using fun x => (h x).lift
  obtain rfl : f = fun x => (g x : EReal) := funext hg
  rw [coe_sum]; exact fin_coe _

/-- A real factor moves into a sum. -/
theorem sum_mul_real {ι : Type*} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- The word of −∞. -/
theorem negInf : Ideal.ofBits .f32 0xFF800000#32 = ⊥ := by
  simp [Ideal.ofBits, Ideal.ieee]

/-- The word of the scale 1/√128 is a real number. -/
theorem scale_fin : Fin' (Ideal.ofBits .f32 0x3DB504F3#32) := by
  simp [Ideal.ofBits, Ideal.ieee]
  exact (fin_coe 11863283).mul (fin_coe _)

/-- A selection by a comparison of two small naturals as words. -/
theorem select_le (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb, WordCmp.select_ofBool]
  simp only [decide_eq_true_eq]

/-- The attention of a row of logits `L` over the values `v`, as a softmax and then a weighted sum. -/
def attend (L v : Fin 2048 → EReal) : EReal :=
  ∑ x, v x * Ideal.div (Ideal.exp (L x - Finset.univ.sup L)) (∑ y, Ideal.exp (L y - Finset.univ.sup L))

/-- The weight of a score less the row's maximum. -/
def wt (S : Fin 2048 → EReal) (x : Fin 2048) : EReal := Ideal.exp (S x - Finset.univ.sup S)

/-- The attention of a row of scores, divided once at the end. -/
def ratio (S v : Fin 2048 → EReal) : EReal := Ideal.div (∑ x, wt S x * v x) (∑ x, wt S x)

/-- The maximum of a row whose entries are below ⊤ and one of which is a number, is a number. -/
theorem sup_fin (S : Fin 2048 → EReal) (hS : ∀ x, S x ≠ ⊤) (x₀ : Fin 2048) (h₀ : S x₀ ≠ ⊥) : Fin' (Finset.univ.sup S) := by
  refine ⟨fun h => h₀ ?_, ?_⟩
  · exact le_bot_iff.mp (h ▸ Finset.le_sup (f := S) (Finset.mem_univ x₀))
  · exact ne_of_lt ((Finset.sup_lt_iff bot_lt_top).mpr fun x _ => lt_top_iff_ne_top.mpr (hS x))

/-- A weight is a real number, and not negative. -/
theorem wt_real (S : Fin 2048 → EReal) (hS : ∀ x, S x ≠ ⊤) (hM : Fin' (Finset.univ.sup S)) (x : Fin 2048) :
    ∃ r : ℝ, 0 ≤ r ∧ wt S x = r ∧ (S x ≠ ⊥ → 0 < r) := by
  unfold wt
  obtain ⟨M, hM⟩ := hM.lift
  rw [hM]
  rcases eq_or_ne (S x) ⊥ with h | h
  · refine ⟨0, le_rfl, ?_, fun h' => absurd h h'⟩
    rw [h, EReal.bot_sub]; rfl
  · obtain ⟨a, ha⟩ := Fin'.lift ⟨h, hS x⟩
    refine ⟨Real.exp (a - M), (Real.exp_pos _).le, ?_, fun _ => Real.exp_pos _⟩
    rw [ha, ← EReal.coe_sub]; rfl

/-- Shifting the scores by a real number shifts their maximum. -/
theorem sup_shift (S : Fin 2048 → EReal) (x : ℝ) : Finset.univ.sup (fun k => S k + (x : EReal)) = Finset.univ.sup S + (x : EReal) := by
  refine (Finset.comp_sup_eq_sup_comp_of_is_total (fun y : EReal => y + (x : EReal)) ?_ ?_).symm
  · exact fun a b h => add_le_add_left h _
  · exact EReal.bot_add _

/-- A shift of all the scores changes no weight. -/
theorem wt_shift (S : Fin 2048 → EReal) (hS : ∀ x, S x ≠ ⊤) (hM : Fin' (Finset.univ.sup S)) (x : ℝ) (k : Fin 2048) :
    Ideal.exp ((S k + (x : EReal)) - Finset.univ.sup (fun k => S k + (x : EReal))) = wt S k := by
  rw [sup_shift]; unfold wt
  obtain ⟨M, hM⟩ := hM.lift
  rw [hM]
  rcases eq_or_ne (S k) ⊥ with h | h
  · rw [h, EReal.bot_add, ← EReal.coe_add, EReal.bot_sub, EReal.bot_sub]
  · obtain ⟨a, ha⟩ := Fin'.lift ⟨h, hS k⟩
    rw [ha, ← EReal.coe_add, ← EReal.coe_add, ← EReal.coe_sub, ← EReal.coe_sub]
    congr 2; ring

/-- The softmax of the shifted scores against the values is the ratio of the two sums of the unshifted ones. -/
theorem attend_eq_ratio (S v : Fin 2048 → EReal) (hS : ∀ x, S x ≠ ⊤) (x₀ : Fin 2048) (h₀ : S x₀ ≠ ⊥) (x : ℝ) :
    attend (fun k => S k + (x : EReal)) v = ratio S v := by
  have hM := sup_fin S hS x₀ h₀
  unfold attend ratio
  simp only [wt_shift S hS hM]
  choose r hr0 hr hpos using wt_real S hS hM
  simp only [hr, coe_sum]
  have hl : 0 < ∑ k, r k :=
    Finset.sum_pos' (fun k _ => hr0 k) ⟨x₀, Finset.mem_univ _, hpos x₀ h₀⟩
  simp only [Ideal.div_coe hl.ne']
  rw [sum_mul_real _ _ _ (by positivity)]
  exact Finset.sum_congr rfl fun k _ => by rw [mul_comm (v k), mul_assoc, mul_assoc, mul_comm (v k)]

end Cert.Fox

end
-- ==== Proof.Fox.Row.lean ====
/-
  One row of a grid point of the prompt attention, read at an index: the running maxima over tiles and groups of lanes
  are the maximum over the row's keys, the running sums are sums over its keys, and what is stored is the ratio of the
  two sums (`ratio` of Math.lean). Keys past the last tile are masked and weigh nothing.
-/
module

public import proofs.«01_k».proof.Proof.Fox.Tiles
public import proofs.«01_k».proof.Proof.Fox.Math

@[expose] public section

set_option maxRecDepth 16384

noncomputable section

namespace Cert.Fox

open Cert.KernelIdeal Cert.KernelIdeal.Gen Idealize.ShloMosaic Idealize.SL.Sem
open Cert.KernelIdeal.Facts
open Finset (range)

variable [Cert.KernelIdeal.Facts]

theorem score_at (q : FVec Ideal S512x128 .bf16) (k : Vec Ideal S1x512x128 .bf16) (ck : Vec Ideal S1x1x1x1x512 .f32) (r j : Fin 512) :
    score q k ck (ix2 r j) = ∑ x : Fin 128, q (ix2 r x) * k (ix3 0 j x) - ck (ix5 0 0 0 0 j) := by
  pointwise [score]

theorem mask_at (s : Tile) (r j : Fin 512) : mask s (ix2 r j) = if j.val ≤ r.val then s (ix2 r j) else ⊥ := by
  pointwise [mask]
  rw [negInf, select_le _ _ (by omega) (by omega)]

theorem maxIn_at (a : FVec Ideal S512x128 .f32) (s : Tile) (r : Fin 512) (l : Fin 128) :
    maxIn a s (ix2 r l) = max (max (max (max (a (ix2 r l)) (s (ix2 r ⟨l.val, by omega⟩))) (s (ix2 r ⟨128 + l.val, by omega⟩)))
      (s (ix2 r ⟨256 + l.val, by omega⟩))) (s (ix2 r ⟨384 + l.val, by omega⟩)) := by
  pointwise [maxIn]

theorem addIn_at (a : FVec Ideal S512x128 .f32) (s : Tile) (r : Fin 512) (l : Fin 128) :
    addIn a s (ix2 r l) = a (ix2 r l) + s (ix2 r ⟨l.val, by omega⟩) + s (ix2 r ⟨128 + l.val, by omega⟩)
      + s (ix2 r ⟨256 + l.val, by omega⟩) + s (ix2 r ⟨384 + l.val, by omega⟩) := by
  pointwise [addIn]

theorem rowMax_at (a : FVec Ideal S512x128 .f32) (r : Fin 512) : rowMax a (ix2 r 0) = Finset.univ.sup fun x : Fin 128 => a (ix2 r x) := by
  pointwise [rowMax]
  rw [negInf]; rfl

theorem weight_at (s : Tile) (m : FVec Ideal S512x1 .f32) (r j : Fin 512) :
    weight s m (ix2 r j) = Ideal.exp (s (ix2 r j) - m (ix2 r 0)) := by
  pointwise [weight]

theorem valIn_at (a : FVec Ideal S512x128 .f32) (p : Tile) (v : Vec Ideal S1x512x128 .bf16) (r : Fin 512) (d : Fin 128) :
    valIn a p v (ix2 r d) = a (ix2 r d) + ∑ x : Fin 512, p (ix2 r x) * v (ix3 0 x d) := by
  pointwise [valIn]

theorem quot_at (a l : FVec Ideal S512x128 .f32) (r : Fin 512) (d : Fin 128) :
    quot a l (ix3 0 r d) = Ideal.div (a (ix2 r d)) (∑ x : Fin 128, l (ix2 r x)) := by
  pointwise [quot]

/-- The running maximum of a row's lane is below `b` exactly when the scores of its tiles at that lane are. -/
theorem mxs_le (S : ℕ → Tile) (r : Fin 512) (l : Fin 128) (b : EReal) (n : ℕ) :
    mxs S n (ix2 r l) ≤ b ↔ ∀ c < n, S c (ix2 r ⟨l.val, by omega⟩) ≤ b ∧ S c (ix2 r ⟨128 + l.val, by omega⟩) ≤ b
      ∧ S c (ix2 r ⟨256 + l.val, by omega⟩) ≤ b ∧ S c (ix2 r ⟨384 + l.val, by omega⟩) ≤ b := by
  induction n with
  | zero =>
    have h : mxs S 0 (ix2 r l) = ⊥ := by
      pointwise [mxs]; exact negInf
    simp [h]
  | succ n ih =>
    show maxIn (mxs S n) (S n) (ix2 r l) ≤ b ↔ _
    rw [maxIn_at]
    simp only [max_le_iff, ih, Nat.lt_succ_iff_lt_or_eq]
    constructor
    · rintro ⟨⟨⟨⟨h0, h1⟩, h2⟩, h3⟩, h4⟩ c (hc | rfl)
      · exact h0 c hc
      · exact ⟨h1, h2, h3, h4⟩
    · intro h
      obtain ⟨h1, h2, h3, h4⟩ := h n (.inr rfl)
      exact ⟨⟨⟨⟨fun c hc => h c (.inl hc), h1⟩, h2⟩, h3⟩, h4⟩

/-- A number below 512 is in one of the four groups of 128. -/
theorem lanes (P : Fin 512 → Prop) : (∀ j, P j) ↔ ∀ l : Fin 128, P ⟨l.val, by omega⟩ ∧ P ⟨128 + l.val, by omega⟩
      ∧ P ⟨256 + l.val, by omega⟩ ∧ P ⟨384 + l.val, by omega⟩ := by
  refine ⟨fun h l => ⟨h _, h _, h _, h _⟩, fun h j => ?_⟩
  have hj := j.isLt
  rcases (by omega : j.val / 128 = 0 ∨ j.val / 128 = 1 ∨ j.val / 128 = 2 ∨ j.val / 128 = 3) with e | e | e | e
  all_goals have hh := h ⟨j.val % 128, Nat.mod_lt _ (by decide)⟩
  · exact (congrArg P (Fin.ext (by simp only; omega))).mp hh.1
  · exact (congrArg P (Fin.ext (by simp only; omega))).mp hh.2.1
  · exact (congrArg P (Fin.ext (by simp only; omega))).mp hh.2.2.1
  · exact (congrArg P (Fin.ext (by simp only; omega))).mp hh.2.2.2

/-- The row's maximum over its tiles is the maximum over its keys, the masked ones included. -/
theorem rowMax_eq (n : ℕ) (hn : n ≤ 4) (S : ℕ → Tile) (r : Fin 512) (T : ℕ → EReal)
    (hS : ∀ c < n, ∀ j : Fin 512, S c (ix2 r j) = T (512 * c + j.val)) (hT : ∀ x, 512 * n ≤ x → T x = ⊥) :
    rowMax (mxs S n) (ix2 r 0) = Finset.univ.sup fun x : Fin 2048 => T x.val := by
  refine eq_of_forall_ge_iff fun b => ?_
  rw [rowMax_at, Finset.sup_le_iff, Finset.sup_le_iff]
  simp only [Finset.mem_univ, forall_const, mxs_le]
  have h : (∀ l : Fin 128, ∀ c < n, S c (ix2 r ⟨l.val, by omega⟩) ≤ b ∧ S c (ix2 r ⟨128 + l.val, by omega⟩) ≤ b
      ∧ S c (ix2 r ⟨256 + l.val, by omega⟩) ≤ b ∧ S c (ix2 r ⟨384 + l.val, by omega⟩) ≤ b)
      ↔ ∀ c < n, ∀ j : Fin 512, S c (ix2 r j) ≤ b := by
    constructor
    · intro h c hc; exact (lanes fun j => S c (ix2 r j) ≤ b).mpr fun l => h l c hc
    · intro h l c hc; exact (lanes fun j => S c (ix2 r j) ≤ b).mp (h c hc) l
  rw [h]
  constructor
  · intro h x
    by_cases hx : 512 * n ≤ x.val
    · rw [hT _ hx]; exact bot_le
    · have := h (x.val / 512) (by omega) ⟨x.val % 512, Nat.mod_lt _ (by decide)⟩
      rw [hS _ (by omega)] at this
      simpa only [Nat.div_add_mod] using this
  · intro h c hc j
    rw [hS c hc j]
    exact h ⟨512 * c + j.val, by omega⟩

/-- A sum over 512 lanes is the sum over 128 of the four groups' terms. -/
theorem sum_lanes (f : Fin 512 → EReal) : ∑ j, f j = ∑ l : Fin 128, (f ⟨l.val, by omega⟩ + f ⟨128 + l.val, by omega⟩
      + f ⟨256 + l.val, by omega⟩ + f ⟨384 + l.val, by omega⟩) := by
  rw [Fin.sum_univ_two_halves 256 256 rfl f, Fin.sum_univ_two_halves 128 128 rfl, Fin.sum_univ_two_halves 128 128 rfl]
  simp only [Finset.sum_add_distrib]
  have e : ∀ x : Fin 128, 256 + (128 + x.val) = 384 + x.val := fun x => by omega
  simp only [e, add_assoc]

/-- The row's sum of weights. -/
theorem sums_eq (P : ℕ → Tile) (r : Fin 512) (n : ℕ) :
    ∑ l : Fin 128, sums P n (ix2 r l) = ∑ c ∈ range n, ∑ j : Fin 512, P c (ix2 r j) := by
  induction n with
  | zero =>
    rw [Finset.range_zero, Finset.sum_empty]
    refine Finset.sum_eq_zero fun l _ => ?_
    pointwise [sums]
  | succ n ih =>
    rw [Finset.sum_range_succ, ← ih, sum_lanes, ← Finset.sum_add_distrib]
    refine Finset.sum_congr rfl fun l _ => ?_
    show addIn (sums P n) (P n) (ix2 r l) = _
    rw [addIn_at]
    simp only [add_assoc]

/-- The row's weighted sum of values. -/
theorem accs_eq (P : ℕ → Tile) (v : ℕ → Vec Ideal S1x512x128 .bf16) (r : Fin 512) (d : Fin 128) (n : ℕ) :
    accs P v n (ix2 r d) = ∑ c ∈ range n, ∑ j : Fin 512, P c (ix2 r j) * v c (ix3 0 j d) := by
  induction n with
  | zero =>
    rw [Finset.range_zero, Finset.sum_empty]
    pointwise [accs]
  | succ n ih =>
    rw [Finset.sum_range_succ, ← ih]
    show valIn (accs P v n) (P n) (v n) (ix2 r d) = _
    rw [valIn_at]

/-- A sum over `n` tiles is the sum over all the keys, where it is zero past the last tile. -/
theorem sum_tiles (f : ℕ → EReal) (n : ℕ) (hn : n ≤ 4) (h : ∀ x, 512 * n ≤ x → f x = 0) :
    ∑ c ∈ range n, ∑ j : Fin 512, f (512 * c + j.val) = ∑ x : Fin 2048, f x.val := by
  have e : ∀ k, ∑ c ∈ range k, ∑ j : Fin 512, f (512 * c + j.val) = ∑ x ∈ range (512 * k), f x := by
    intro k
    induction k with
    | zero => simp
    | succ k ih =>
      rw [Finset.sum_range_succ, ih, Nat.mul_succ, Finset.sum_range_add, Fin.sum_univ_eq_sum_range (fun j => f (512 * k + j)) 512]
  rw [e, Fin.sum_univ_eq_sum_range f 2048]
  refine Finset.sum_subset (fun x hx => ?_) fun x _ hx => h x (by simpa using hx)
  simp only [Finset.mem_range] at hx ⊢
  omega

/-- What a row of a grid point stores: the ratio of the two sums over its keys. -/
theorem out_at (n : ℕ) (hn : n ≤ 4) (S : ℕ → Tile) (v : ℕ → Vec Ideal S1x512x128 .bf16) (r : Fin 512) (d : Fin 128)
    (T U : ℕ → EReal) (hS : ∀ c < n, ∀ j : Fin 512, S c (ix2 r j) = T (512 * c + j.val)) (hT : ∀ x, 512 * n ≤ x → T x = ⊥)
    (hU : ∀ c < n, ∀ j : Fin 512, v c (ix3 0 j d) = U (512 * c + j.val)) :
    out n S v (ix3 0 r d) = ratio (fun x => T x.val) (fun x => U x.val) := by
  unfold out
  rw [quot_at, sums_eq, accs_eq]
  simp only [weight_at, rowMax_eq n hn S r T hS hT]
  unfold ratio wt
  generalize (Finset.univ.sup fun x : Fin 2048 => T x.val) = M
  have hz : ∀ x, 512 * n ≤ x → Ideal.exp (T x - M) = 0 := fun x hx => by
    rw [hT x hx, EReal.bot_sub]; rfl
  congr 1
  · rw [← sum_tiles (fun x => Ideal.exp (T x - M) * U x) n hn fun x hx => by rw [hz x hx, zero_mul]]
    refine Finset.sum_congr rfl fun c hc => Finset.sum_congr rfl fun j _ => ?_
    rw [hS c (Finset.mem_range.mp hc), hU c (Finset.mem_range.mp hc)]
  · rw [← sum_tiles (fun x => Ideal.exp (T x - M)) n hn hz]
    refine Finset.sum_congr rfl fun c hc => Finset.sum_congr rfl fun j _ => ?_
    rw [hS c (Finset.mem_range.mp hc)]

end Cert.Fox

end
-- ==== Proof.Fox.Final.lean ====
/-
  The result array of the prompt attention, element by element: the ratio of the weighted sum of a row's values to the
  sum of its weights, the row's scores being those of the four argument arrays, masked above the diagonal.
-/
module

public import proofs.«01_k».proof.Proof.Fox.Block
public import proofs.«01_k».proof.Proof.Fox.Row
public import Idealize.ShloMosaic.Lib.Claim

@[expose] public section

set_option maxRecDepth 16384

noncomputable section

namespace Cert.Fox

open Cert.KernelIdeal Cert.KernelIdeal.Gen Idealize.ShloMosaic Idealize.ShloMosaic.TcCoe Idealize.SL.Sem
open Cert.KernelIdeal.Facts

abbrev Seq := Vec Ideal ⟨4, ![4, 2048, 8, 128]⟩ .f32
abbrev Gates := Vec Ideal ⟨3, ![4, 8, 2048]⟩ .f32

/-- The score of the query at position `s` against the key at `x`, less the key's cumulated gate. -/
def raw (q k : Seq) (cum : Gates) (b : Fin 4) (h : Fin 8) (s x : Fin 2048) : EReal :=
  ∑ e : Fin 128, q (ix4 b s h e) * Ideal.ofBits .f32 0x3DB504F3#32 * k (ix4 b x h e) - cum (ix3 b h x)

/-- The score, masked to the keys up to the query's position. -/
def masked (q k : Seq) (cum : Gates) (b : Fin 4) (h : Fin 8) (s x : Fin 2048) : EReal :=
  if x.val ≤ s.val then raw q k cum b h s x else ⊥

/-- The result array. -/
def result (q k v : Seq) (cum : Gates) : Vec Ideal ⟨3, ![4, 2048, 1024]⟩ .bf16 := fun i =>
  ratio (masked q k cum (i 0) ⟨(i 2).val / 128, by have : (i 2).val < 1024 := (i 2).isLt; omega⟩ (i 1))
    (fun x => v (ix4 (i 0) x ⟨(i 2).val / 128, by have : (i 2).val < 1024 := (i 2).isLt; omega⟩ ⟨(i 2).val % 128, Nat.mod_lt _ (by decide)⟩))

/-- The index maps at a grid point: batch `t / 32`, head `t / 4 % 8`, query tile `t % 4`. -/
theorem idx : ∀ t : Fin grid0.N,
    (win0_0.index t 0 = t.val / 32 ∧ win0_0.index t 1 = t.val % 4 ∧ win0_0.index t 2 = t.val / 4 % 8)
    ∧ (win0_1.index t 0 = t.val / 32 ∧ win0_1.index t 1 = 0 ∧ win0_1.index t 2 = t.val / 4 % 8)
    ∧ (win0_2.index t 0 = t.val / 32 ∧ win0_2.index t 1 = 0 ∧ win0_2.index t 2 = t.val / 4 % 8)
    ∧ (win0_3.index t 0 = t.val / 32 ∧ win0_3.index t 1 = t.val / 4 % 8 ∧ win0_3.index t 2 = 0 ∧ win0_3.index t 3 = 0 ∧ win0_3.index t 4 = 0)
    ∧ (win0_4.index t 0 = t.val / 32 ∧ win0_4.index t 1 = t.val % 4 ∧ win0_4.index t 2 = t.val / 4 % 8) := by
  decide +kernel

variable (m : (ℓ : Loc nD τ sig) → Buf (Elt Ideal) ℓ)

/-- The four arguments. -/
abbrev argQ (c : Dev nD) : Seq := m ((c : Thread nD τ).loc main_arg0)
abbrev argK (c : Dev nD) : Seq := m ((c : Thread nD τ).loc main_arg1)
abbrev argV (c : Dev nD) : Seq := m ((c : Thread nD τ).loc main_arg2)
abbrev argC (c : Dev nD) : Gates := m ((c : Thread nD τ).loc main_arg3)

theorem lt_N (t : Fin cfg0.N) : t.val < 128 := lt_of_lt_of_eq t.isLt N_0

def tb (t : Fin cfg0.N) : Fin 4 := ⟨t.val / 32, by have := lt_N t; omega⟩
def th (t : Fin cfg0.N) : Fin 8 := ⟨t.val / 4 % 8, by omega⟩
def tq (t : Fin cfg0.N) (r : Fin 512) : Fin 2048 := ⟨512 * (t.val % 4) + r.val, by omega⟩

theorem read_q (c : Dev nD) (t : Fin cfg0.N) (r : Fin 512) (e : Fin 128) :
    iblk m c 0 t (ix3 0 r e) = argQ m c (ix4 (tb t) (tq t r) (th t) e) := by
  have := lt_N t
  unfold argQ tb th tq
  blk_point [iblk, V, idx t]

theorem read_k (c : Dev nD) (t : Fin cfg0.N) (x : Fin 2048) (e : Fin 128) :
    iblk m c 1 t (ix3 0 x e) = argK m c (ix4 (tb t) x (th t) e) := by
  have := lt_N t
  unfold argK tb th
  blk_point [iblk, V, idx t]

theorem read_v (c : Dev nD) (t : Fin cfg0.N) (x : Fin 2048) (e : Fin 128) :
    iblk m c 2 t (ix3 0 x e) = argV m c (ix4 (tb t) x (th t) e) := by
  have := lt_N t
  unfold argV tb th
  blk_point [iblk, V, idx t]

theorem read_c (c : Dev nD) (t : Fin cfg0.N) (n : Fin 4) (j : Fin 512) :
    iblk m c 3 t (ix5 0 0 n 0 j) = argC m c (ix3 (tb t) (th t) ⟨512 * n.val + j.val, by omega⟩) := by
  have := lt_N t
  unfold argC tb th
  blk_point [iblk, V, idx t]

theorem rows_at (x : Vec Ideal S1x2048x128 .bf16) (c : ℕ) (hc : c < 4) (j : Fin 512) (d : Fin 128) :
    rows x c (ix3 0 j d) = x (ix3 0 ⟨512 * c + j.val, by omega⟩ d) := by
  rcases (by omega : c = 0 ∨ c = 1 ∨ c = 2 ∨ c = 3) with rfl | rfl | rfl | rfl <;> pointwise [rows]

theorem gates_at (x : Vec Ideal S1x1x4x1x512 .f32) (c : ℕ) (hc : c < 4) (j : Fin 512) :
    gates x c (ix5 0 0 0 0 j) = x (ix5 0 0 ⟨c, hc⟩ 0 j) := by
  rcases (by omega : c = 0 ∨ c = 1 ∨ c = 2 ∨ c = 3) with rfl | rfl | rfl | rfl <;> pointwise [gates]

theorem scaled_at (q : Vec Ideal S1x512x128 .bf16) (r : Fin 512) (d : Fin 128) :
    k0_pay1 (F := Ideal) q (ix2 r d) = q (ix3 0 r d) * Ideal.ofBits .f32 0x3DB504F3#32 := by
  pointwise [k0_pay1]

/-- A masked row as a function of every natural. -/
def ext (T : Fin 2048 → EReal) (x : ℕ) : EReal := if h : x < 2048 then T ⟨x, h⟩ else ⊥

/-- An element of a grid point's block. -/
theorem stored_at (c : Dev nD) (t : Fin cfg0.N) (r : Fin 512) (d : Fin 128) :
    stored (t.val % 4 + 1) (iblk m c 0 t) (iblk m c 1 t) (iblk m c 2 t) (iblk m c 3 t) (ix3 0 r d)
      = ratio (masked (argQ m c) (argK m c) (argC m c) (tb t) (th t) (tq t r)) (fun x => argV m c (ix4 (tb t) x (th t) d)) := by
  have hlt : t.val % 4 < 4 := Nat.mod_lt _ (by decide)
  unfold stored
  rw [out_at (t.val % 4 + 1) (by omega) _ _ r d (ext (masked (argQ m c) (argK m c) (argC m c) (tb t) (th t) (tq t r)))
    (ext fun x => argV m c (ix4 (tb t) x (th t) d))]
  · simp only [ext, Fin.is_lt, ↓reduceDIte, Fin.eta]
  · intro n hn j
    have hx : 512 * n + j.val < 2048 := by omega
    simp only [ext, hx, ↓reduceDIte]
    have hs : score (k0_pay1 (iblk m c 0 t)) (rows (iblk m c 1 t) n) (gates (iblk m c 3 t) n) (ix2 r j)
        = raw (argQ m c) (argK m c) (argC m c) (tb t) (th t) (tq t r) ⟨512 * n + j.val, hx⟩ := by
      rw [score_at]
      simp only [scaled_at, rows_at _ n (by omega), gates_at _ n (by omega), read_q, read_k, read_c]
      rfl
    unfold scores masked
    by_cases e : n + 1 = t.val % 4 + 1
    · rw [if_pos e, mask_at, hs]
      have hc : (j.val ≤ r.val) ↔ (512 * n + j.val ≤ (tq t r).val) := by simp only [tq]; omega
      simp only [hc]
    · have hc : 512 * n + j.val ≤ (tq t r).val := by simp only [tq]; omega
      rw [if_neg e, hs, if_pos hc]
  · intro x hx
    unfold ext
    split
    · unfold masked
      rw [if_neg]
      simp only [tq]; omega
    · rfl
  · intro n hn j
    have hx : 512 * n + j.val < 2048 := by omega
    simp only [ext, hx, ↓reduceDIte]
    rw [rows_at _ n (by omega), read_v]

/-- The result array after the run. -/
theorem final (c : Dev nD) : (dats m 0 c).arrAt 4 cfg0.N = result (argQ m c) (argK m c) (argV m c) (argC m c) := by
  refine (dats m 0 c).arrAt_eq_of_covers 4 _ (by decide +kernel) fun t _ y => ?_
  blk_simp
  rw [after0_4, outs_eq]
  idx_vars y
  obtain rfl : y0 = 0 := Subsingleton.elim _ _
  rw [stored_at]
  have e : (((cfg0.win 4).blk t).view.emb (ix3 0 y1 y2) : (⟨3, ![4, 2048, 1024]⟩ : Shape).Idx)
      = ix3 (tb t) (tq t y1) ⟨128 * (th t).val + y2.val, by omega⟩ := by
    have := lt_N t
    unfold tb tq th
    blk_ext [idx t]
  rw [e]
  unfold result
  have h1 : ∀ p, (⟨(128 * (th t).val + y2.val) / 128, p⟩ : Fin 8) = th t := fun p => Fin.ext (by simp only; omega)
  have h2 : ∀ p, (⟨(128 * (th t).val + y2.val) % 128, p⟩ : Fin 128) = y2 := fun p => Fin.ext (by simp only; omega)
  simp only [ix3]
  simp only [h1, h2]

end Cert.Fox

end
-- ==== Proof.Fox.Ref.lean ====
/-
  The reference's result array, element by element: the softmax of a row of logits against the values. Where the query,
  the key and the cumulated gates are finite it is the kernel's (`result` of Final.lean): a logit is the kernel's score
  with the query's own cumulated gate added, the same number along the whole row.
-/
module

public import proofs.«01_k».proof.Proof.Gen.ReferenceIdeal.Run
public import proofs.«01_k».proof.Proof.Fox.Final
public import Idealize.ShloMosaic.Lib.Tactic.CleanTypes

@[expose] public section

set_option maxRecDepth 16384

noncomputable section

namespace Cert.Fox

open Cert.ReferenceIdeal Cert.ReferenceIdeal.Gen Idealize.ShloMosaic Idealize.ShloMosaic.TcCoe Idealize.SL.Sem

/-- A row's logits, masked to the keys up to the query's position. -/
def logit (q k : Seq) (cum : Gates) (b : Fin 4) (h : Fin 8) (s x : Fin 2048) : EReal :=
  if x.val ≤ s.val then (∑ e : Fin 128, q (ix4 b s h e) * k (ix4 b x h e)) * Ideal.ofBits .f32 0x3DB504F3#32
    + cum (ix3 b h s) - cum (ix3 b h x) else ⊥

theorem sup_fold (f : Fin 2048 → EReal) : max ⊥ (Finset.fold max ⊥ f Finset.univ) = Finset.univ.sup f := by
  rw [max_eq_right bot_le]; rfl

/-- Scores of four batches of eight heads, 2048 queries by 2048 keys. -/
abbrev Scores := FVec Ideal S4x8x2048x2048 .f32

/-- A number a row, along the keys. -/
def along (x : FVec Ideal S4x8x2048 .f32) : Scores :=
  broadcastInDim S4x8x2048x2048 ![0, 1, 2, 3] bcast_S4x8x2048x1_S4x8x2048x2048_0_1_2_3
    (broadcastInDim S4x8x2048x1 ![0, 1, 2] bcast_S4x8x2048_S4x8x2048x1_0_1_2 x)

/-- The reference's logits. -/
def logits (q k : FVec Ideal S4x2048x8x128 .f32) (cum : FVec Ideal S4x8x2048 .f32) : Scores :=
  select (broadcastInDim S4x8x2048x2048 ![2, 3] bcast_S2048x2048_S4x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (subf (addf (mulf (Host.dotGeneral dot_S4x2048x8x128_S4x2048x8x128_S4x8x2048x2048_3_3_1_1_02_02 none q k)
        (broadcastInDim S4x8x2048x2048 ![] bcast_S_S4x8x2048x2048 (constant S_ .f32 0x3DB504F3#32))) (along cum))
      (broadcastInDim S4x8x2048x2048 ![0, 1, 2, 3] bcast_S4x8x1x2048_S4x8x2048x2048_0_1_2_3
        (broadcastInDim S4x8x1x2048 ![0, 1, 3] bcast_S4x8x2048_S4x8x1x2048_0_1_3 cum)))
    (broadcastInDim S4x8x2048x2048 ![] bcast_S_S4x8x2048x2048 (id (constant S_ .f32 0xFF800000#32)))

/-- The maxima of the rows. -/
def tops (L : Scores) : FVec Ideal S4x8x2048 .f32 :=
  maximumf (broadcastInDim S4x8x2048 ![] bcast_S_S4x8x2048 (constant S_ .f32 0xFF800000#32))
    (Host.reduce FloatOps.maximumf L (constant S_ .f32 0xFF800000#32) reducesTo_S4x8x2048x2048_S4x8x2048_d3 h_S_)

/-- The exponentials of the logits less their row's maximum. -/
def exps (L : Scores) : Scores := Host.exp (subf L (along (tops L)))

/-- The softmax's exponentials divided by their sum. -/
def probs (E : Scores) : Scores :=
  Host.divf E (along (Host.reduceAdd E (constant S_ .f32 0x00000000#32) reducesTo_S4x8x2048x2048_S4x8x2048_d3 h_S_))

/-- The probabilities against the values, the heads side by side. -/
def mixed (v : FVec Ideal S4x2048x8x128 .f32) (p : Scores) : FVec Ideal S4x2048x1024 .bf16 :=
  truncf .bf16 (shapeCast S4x2048x1024 (transpose S4x2048x8x128 [0, 3, 1, 2]
    (Host.dotGeneral dot_S4x2048x8x128_S4x8x2048x2048_S4x8x128x2048_1_3_3_2_02_01 none v p : FVec Ideal S4x8x128x2048 .f32)
    transposes_S4x8x128x2048_S4x2048x8x128_0_3_1_2 : FVec Ideal S4x2048x8x128 .f32) shapeCasts_S4x2048x8x128_S4x2048x1024 : FVec Ideal S4x2048x1024 .f32) bitsLt_bf16_f32

theorem along_at (x : FVec Ideal S4x8x2048 .f32) (b : Fin 4) (h : Fin 8) (s y : Fin 2048) : along x (ix4 b h s y) = x (ix3 b h s) := by
  pointwise [along]

theorem logits_at (q k : FVec Ideal S4x2048x8x128 .f32) (cum : FVec Ideal S4x8x2048 .f32) (b : Fin 4) (h : Fin 8) (s y : Fin 2048) :
    logits q k cum (ix4 b h s y) = logit q k cum b h s y := by
  unfold logits
  pointwise [along_at]
  rw [select_le _ _ (by omega) (by omega)]
  have hc : (id (constant S_ .f32 0xFF800000#32 : FVec Ideal S_ .f32) ix0 : EReal) = ⊥ := by
    rw [id_eq]
    pointwise
    exact negInf
  rw [hc]
  rfl

theorem red_at (L : Scores) (b : Fin 4) (h : Fin 8) (s : Fin 2048) :
    Host.reduce FloatOps.maximumf L (constant S_ .f32 0xFF800000#32) reducesTo_S4x8x2048x2048_S4x8x2048_d3 h_S_ (ix3 b h s)
      = Finset.univ.sup fun y => L (ix4 b h s y) := by
  pointwise
  rw [negInf]
  rfl

theorem max_at (x y : FVec Ideal S4x8x2048 .f32) (i : S4x8x2048.Idx) : maximumf x y i = max (x i) (y i) := by
  pointwise

theorem tops_at (L : Scores) (b : Fin 4) (h : Fin 8) (s : Fin 2048) : tops L (ix3 b h s) = Finset.univ.sup fun y => L (ix4 b h s y) := by
  unfold tops
  have e : (broadcastInDim S4x8x2048 ![] bcast_S_S4x8x2048 (constant S_ .f32 0xFF800000#32 : FVec Ideal S_ .f32) : FVec Ideal S4x8x2048 .f32) (ix3 b h s) = ⊥ := by
    pointwise
    exact negInf
  rw [max_at, red_at, e, max_eq_right bot_le]

theorem exps_at (L : Scores) (b : Fin 4) (h : Fin 8) (s y : Fin 2048) :
    exps L (ix4 b h s y) = Ideal.exp (L (ix4 b h s y) - Finset.univ.sup fun y => L (ix4 b h s y)) := by
  pointwise [exps, along_at, tops_at]

theorem probs_at (E : Scores) (b : Fin 4) (h : Fin 8) (s y : Fin 2048) :
    probs E (ix4 b h s y) = Ideal.div (E (ix4 b h s y)) (∑ y : Fin 2048, E (ix4 b h s y)) := by
  pointwise [probs, along_at]

theorem mixed_at (v : FVec Ideal S4x2048x8x128 .f32) (p : Scores) (b : Fin 4) (s : Fin 2048) (j : Fin 1024) :
    mixed v p (ix3 b s j) = ∑ x : Fin 2048, v (ix4 b x ⟨j.val / 128, by omega⟩ ⟨j.val % 128, by omega⟩) * p (ix4 b ⟨j.val / 128, by omega⟩ s x) := by
  pointwise [mixed]

theorem ref_mixed (m : (ℓ : Loc nD τ sig) → Buf (Elt Ideal) ℓ) (c : Dev nD) :
    (Cert.ReferenceIdeal.Value.res_main_v30 m c : FVec Ideal S4x2048x1024 .bf16)
      = mixed (m ((c : Thread nD τ).loc main_arg2)) (probs (exps (logits (m ((c : Thread nD τ).loc main_arg0))
          (m ((c : Thread nD τ).loc main_arg1)) (m ((c : Thread nD τ).loc main_arg3))))) := by
  unfold Value.res_main_v30 mixed probs exps tops logits along
  rfl

theorem ref_at (q k v : Seq) (cum : Gates) (b : Fin 4) (s : Fin 2048) (j : Fin 1024) :
    mixed v (probs (exps (logits q k cum))) (ix3 b s j)
      = attend (logit q k cum b ⟨j.val / 128, by omega⟩ s) (fun x => v (ix4 b x ⟨j.val / 128, by omega⟩ ⟨j.val % 128, by omega⟩)) := by
  rw [mixed_at]
  unfold attend
  simp only [probs_at, exps_at, logits_at]

/-- Over finite queries, keys and gates a logit is the score with the query's gate added. -/
theorem logit_eq (q k : Seq) (cum : Gates) (hq : ∀ i, Fin' (q i)) (hk : ∀ i, Fin' (k i)) (hc : ∀ i, Fin' (cum i))
    (b : Fin 4) (h : Fin 8) (s x : Fin 2048) :
    logit q k cum b h s x = masked q k cum b h s x + cum (ix3 b h s) := by
  unfold logit masked raw
  split
  · choose q' hq' using fun i => (hq i).lift
    choose k' hk' using fun i => (hk i).lift
    choose c' hc' using fun i => (hc i).lift
    obtain ⟨z, hz⟩ := scale_fin.lift
    simp only [hq', hk', hc', hz, ← EReal.coe_mul, coe_sum, ← EReal.coe_add, ← EReal.coe_sub]
    congr 1
    rw [Finset.sum_mul, sub_add_eq_add_sub]
    congr 2
    exact Finset.sum_congr rfl fun e _ => by ring
  · exact (EReal.bot_add _).symm

theorem raw_fin (q k : Seq) (cum : Gates) (hq : ∀ i, Fin' (q i)) (hk : ∀ i, Fin' (k i)) (hc : ∀ i, Fin' (cum i))
    (b : Fin 4) (h : Fin 8) (s x : Fin 2048) : Fin' (raw q k cum b h s x) :=
  (Fin'.sum _ _ fun e => ((hq _).mul scale_fin).mul (hk _)).sub (hc _)

theorem attend_logit (q k v : Seq) (cum : Gates) (hq : ∀ i, Fin' (q i)) (hk : ∀ i, Fin' (k i)) (hc : ∀ i, Fin' (cum i))
    (b : Fin 4) (h : Fin 8) (s : Fin 2048) (u : Fin 2048 → EReal) :
    attend (logit q k cum b h s) u = ratio (masked q k cum b h s) u := by
  obtain ⟨x, hx⟩ := (hc (ix3 b h s)).lift
  have e : logit q k cum b h s = fun y => masked q k cum b h s y + (x : EReal) :=
    funext fun y => by rw [logit_eq q k cum hq hk hc, hx]
  rw [e]
  refine attend_eq_ratio _ _ (fun y => ?_) s ?_ x
  · unfold masked
    split
    · exact (raw_fin q k cum hq hk hc b h s y).2
    · exact bot_ne_top
  · unfold masked
    rw [if_pos le_rfl]
    exact (raw_fin q k cum hq hk hc b h s s).1

/-- The reference's result array. -/
theorem ref_eq (m : (ℓ : Loc nD τ sig) → Buf (Elt Ideal) ℓ) (c : Dev nD)
    (q k v : Seq) (cum : Gates)
    (eq : m ((c : Thread nD τ).loc main_arg0) = q) (ek : m ((c : Thread nD τ).loc main_arg1) = k)
    (ev : m ((c : Thread nD τ).loc main_arg2) = v) (ec : m ((c : Thread nD τ).loc main_arg3) = cum)
    (hq : ∀ i, Fin' (q i)) (hk : ∀ i, Fin' (k i)) (hc : ∀ i, Fin' (cum i)) :
    (Cert.ReferenceIdeal.Value.res_main_v30 m c : FVec Ideal ⟨3, ![4, 2048, 1024]⟩ .bf16) = result q k v cum := by
  subst eq ek ev ec
  funext i
  idx_vars i
  rw [ref_mixed, ref_at, attend_logit _ _ (m ((c : Thread nD τ).loc main_arg2)) _ hq hk hc]
  rfl

end Cert.Fox

end
-- ==== Proof.Fox.Pre.lean ====
/-
  What the attention's precondition says of each operand: no element of the query, of the key and of the cumulated gates
  is infinite.
-/
module

public import proofs.«01_k».proof.Proof.Gen.Pre_scores_finite
public import proofs.«01_k».proof.Proof.Fox.Math
public import Idealize.ShloMosaic.Lib.ReduceAll
public import Idealize.ShloMosaic.Lib.Pointwise

@[expose] public section

noncomputable section

namespace Cert.Fox

open Idealize.ShloMosaic Cert.Pre_scores_finite Cert.Pre_scores_finite.Gen

instance : Subsingleton S_.Idx := ⟨fun _ _ => funext fun a => a.elim0⟩

theorem posInf : Ideal.ofBits .f32 0x7F800000#32 = (⊤ : EReal) := by simp [Ideal.ofBits, Ideal.ieee]

/-- A magnitude below infinity is a finite number's. -/
theorem finite_of_lt (x : EReal) (h : Ideal.cmp .olt (max x (-x)) (Ideal.ofBits .f32 0x7F800000#32) = 1#1) : Fin' x := by
  rw [posInf] at h
  have h' : max x (-x) < ⊤ := by
    by_contra hn
    simp [Ideal.cmp, hn] at h
  obtain ⟨h1, h2⟩ := max_lt_iff.1 h'
  refine ⟨fun e => ?_, h1.ne⟩
  subst e
  simp at h2

/-- The precondition, element by element. -/
theorem finite_of_pre (q k v : FVec Ideal S4x2048x8x128 .f32) (cum : FVec Ideal S4x8x2048 .f32)
    (h : Cert.Pre_scores_finite.fn q k v cum = fun _ => 1#1) :
    (∀ i, Fin' (q i)) ∧ (∀ i, Fin' (k i)) ∧ ∀ i, Fin' (cum i) := by
  have h0 := congrFun h (fun a => a.elim0)
  unfold Cert.Pre_scores_finite.fn at h0
  obtain ⟨h1, hc⟩ := IntOp.andi_eq_one.1 h0
  obtain ⟨hq, hk⟩ := IntOp.andi_eq_one.1 h1
  exact ⟨fun i => finite_of_lt _ (Host.reduce_andi_all (t := S_) _ _ reducesTo_S4x2048x8x128_S_d0_1_2_3 h_S_ _ hq i),
    fun i => finite_of_lt _ (Host.reduce_andi_all (t := S_) _ _ reducesTo_S4x2048x8x128_S_d0_1_2_3 h_S_ _ hk i),
    fun i => finite_of_lt _ (Host.reduce_andi_all (t := S_) _ _ reducesTo_S4x8x2048_S_d0_1_2 h_S_ _ hc i)⟩

end Cert.Fox

end
-- ==== Proof.Moe.Bits.Steps.lean ====
/-
  What one grid point of the expert call leaves behind, on each of its three paths: a tile whose expert changed
  rounds the expert's three weight blocks into the scratch buffers and stores the feed-forward of its rows; a tile
  that keeps the expert of the tile before stores the feed-forward through the scratch buffers as they are; a tile
  past the active ones stores zeros.
-/
module

public import proofs.«01_k».proof.Proof.Gen.Kernel2.Flash.Runs
public import Idealize.ShloMosaic.Lib.Pipeline.ValueKit
public import Idealize.ShloMosaic.Lib.Pipeline.ReadBack
public import Idealize.ShloMosaic.Lib.VecWindow

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- What the scratch buffers hold once the weight blocks are rounded into them. -/
def held0 (c : Dev nD) (x : Vec Bits S1x2048x512 .f32) : Buf (Elt Bits) ((c : Thread nD τ).loc cc0_scratch0) :=
  (View.whole cc0_scratch0).writes (Elt Bits) (View.whole cc0_scratch0).junk [⟨Rect.unit (s := S2048x512) ![0, 0] S2048x512.size inb_S2048x512_S2048x512_0_0, k0_pay1 x⟩]
def held1 (c : Dev nD) (x : Vec Bits S1x2048x512 .f32) : Buf (Elt Bits) ((c : Thread nD τ).loc cc0_scratch1) :=
  (View.whole cc0_scratch1).writes (Elt Bits) (View.whole cc0_scratch1).junk [⟨Rect.unit (s := S2048x512) ![0, 0] S2048x512.size inb_S2048x512_S2048x512_0_0, k0_pay2 x⟩]
def held2 (c : Dev nD) (x : Vec Bits S1x512x2048 .f32) : Buf (Elt Bits) ((c : Thread nD τ).loc cc0_scratch2) :=
  (View.whole cc0_scratch2).writes (Elt Bits) (View.whole cc0_scratch2).junk [⟨Rect.unit (s := S512x2048) ![0, 0] S512x2048.size inb_S512x2048_S512x2048_0_0, k0_pay3 x⟩]
theorem read_held0 (c : Dev nD) (x : Vec Bits S1x2048x512 .f32) : View.read (Elt Bits) (View.whole cc0_scratch0) (held0 c x) = k0_pay1 x := by
  unfold held0
  exact View.read_writes_full _ _ _ _ []
theorem read_held1 (c : Dev nD) (x : Vec Bits S1x2048x512 .f32) : View.read (Elt Bits) (View.whole cc0_scratch1) (held1 c x) = k0_pay2 x := by
  unfold held1
  exact View.read_writes_full _ _ _ _ []
theorem read_held2 (c : Dev nD) (x : Vec Bits S1x512x2048 .f32) : View.read (Elt Bits) (View.whole cc0_scratch2) (held2 c x) = k0_pay3 x := by
  unfold held2
  exact View.read_writes_full _ _ _ _ []

/-- The feed-forward of a tile's rows through one expert's weight blocks. -/
def ffn (x : Vec Bits S256x2048 .f32) (wg wu : Vec Bits S1x2048x512 .f32) (wd : Vec Bits S1x512x2048 .f32) : Vec Bits S256x2048 .f32 :=
  k0_pay4 x (k0_pay1 wg) (k0_pay2 wu) (k0_pay3 wd)

section
variable (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S97.Idx → Elt Bits .i32)) (T1 : (S1.Idx → Elt Bits .i32))
  (x0 : (S256x2048.Idx → Elt Bits .f32)) (x1 : (S1x2048x512.Idx → Elt Bits .f32)) (x2 : (S1x2048x512.Idx → Elt Bits .f32)) (x3 : (S1x512x2048.Idx → Elt Bits .f32))

theorem out_A (h1 h2 h3) : out0_A_4 c i arg3 harg3 arg4 harg4 arg5 harg5 arg6 harg6 arg7 harg7 T0 T1 x0 x1 x2 x3 h1 h2 h3 = ffn x0 x1 x2 x3 := by
  unfold out0_A_4 kernelRun0_A
  frame_open
  simp (disch := decide) only [↓ View.readCov_skip, ↓ View.readCov_cons_toLoadRect, ↓ View.readCov_fill]
  frame_out
  simp only [View.read_rep]
  rfl

theorem s0_A (h1 h2 h3) : (kernelRun0_A c i arg3 harg3 arg4 harg4 arg5 harg5 arg6 harg6 arg7 harg7 T0 T1 x0 x1 x2 x3 h1 h2 h3).2.1 = held0 c x1 := by
  unfold kernelRun0_A
  frame_out
  simp only [View.read_rep]
  rfl

theorem s0_B (xa0 xa1 xa2 h1 h2 h3) : (kernelRun0_B c i arg3 harg3 arg4 harg4 arg5 harg5 arg6 harg6 arg7 harg7 T0 T1 x0 x1 x2 x3 xa0 xa1 xa2 h1 h2 h3).2.1 = xa0 := by
  unfold kernelRun0_B
  rfl

theorem s0_C (xa0 xa1 xa2 h1 h3) : (kernelRun0_C c i arg3 harg3 arg4 harg4 arg5 harg5 arg6 harg6 arg7 harg7 T0 T1 x0 x1 x2 x3 xa0 xa1 xa2 h1 h3).2.1 = xa0 := by
  unfold kernelRun0_C
  rfl

theorem s1_A (h1 h2 h3) : (kernelRun0_A c i arg3 harg3 arg4 harg4 arg5 harg5 arg6 harg6 arg7 harg7 T0 T1 x0 x1 x2 x3 h1 h2 h3).2.2.1 = held1 c x2 := by
  unfold kernelRun0_A
  frame_out
  simp only [View.read_rep]
  rfl

theorem s1_B (xa0 xa1 xa2 h1 h2 h3) : (kernelRun0_B c i arg3 harg3 arg4 harg4 arg5 harg5 arg6 harg6 arg7 harg7 T0 T1 x0 x1 x2 x3 xa0 xa1 xa2 h1 h2 h3).2.2.1 = xa1 := by
  unfold kernelRun0_B
  rfl

theorem s1_C (xa0 xa1 xa2 h1 h3) : (kernelRun0_C c i arg3 harg3 arg4 harg4 arg5 harg5 arg6 harg6 arg7 harg7 T0 T1 x0 x1 x2 x3 xa0 xa1 xa2 h1 h3).2.2.1 = xa1 := by
  unfold kernelRun0_C
  rfl

theorem s2_A (h1 h2 h3) : (kernelRun0_A c i arg3 harg3 arg4 harg4 arg5 harg5 arg6 harg6 arg7 harg7 T0 T1 x0 x1 x2 x3 h1 h2 h3).2.2.2.1 = held2 c x3 := by
  unfold kernelRun0_A
  frame_out
  simp only [View.read_rep]
  rfl

theorem s2_B (xa0 xa1 xa2 h1 h2 h3) : (kernelRun0_B c i arg3 harg3 arg4 harg4 arg5 harg5 arg6 harg6 arg7 harg7 T0 T1 x0 x1 x2 x3 xa0 xa1 xa2 h1 h2 h3).2.2.2.1 = xa2 := by
  unfold kernelRun0_B
  rfl

theorem s2_C (xa0 xa1 xa2 h1 h3) : (kernelRun0_C c i arg3 harg3 arg4 harg4 arg5 harg5 arg6 harg6 arg7 harg7 T0 T1 x0 x1 x2 x3 xa0 xa1 xa2 h1 h3).2.2.2.1 = xa2 := by
  unfold kernelRun0_C
  rfl

theorem out_B (h1 h2 h3) : out0_B_4 c i arg3 harg3 arg4 harg4 arg5 harg5 arg6 harg6 arg7 harg7 T0 T1 x0 x1 x2 x3 (held0 c x1) (held1 c x2) (held2 c x3) h1 h2 h3 = ffn x0 x1 x2 x3 := by
  unfold out0_B_4 kernelRun0_B
  frame_out
  rw [read_held0, read_held1, read_held2, View.read_rep]
  rfl

theorem out_C (xa0 xa1 xa2 h1 h3) : out0_C_4 c i arg3 harg3 arg4 harg4 arg5 harg5 arg6 harg6 arg7 harg7 T0 T1 x0 x1 x2 x3 xa0 xa1 xa2 h1 h3 = k0_pay5 (F := Bits) := by
  unfold out0_C_4 kernelRun0_C
  frame_out
end

end Cert.Kernel2.Moe

end
-- ==== Proof.Moe.Bits.Tables.lean ====
/-
  The expert call at any tables: `te t` is the expert of tile `t`, `na` the number of active tiles. Every index map and
  every branch the grid point takes is read here as arithmetic of those words, for all tables whose experts are in
  range and whose count is at least one.
-/
module

public import proofs.«01_k».proof.Proof.Moe.Bits.Steps
public import Idealize.ShloMosaic.Lib.Pipeline.Kit
public import Idealize.ShloMosaic.Lib.Affine

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem toNat_small (n : ℕ) (h : n < 97) : (BitVec.ofNat 32 n).toNat = n := by
  rw [BitVec.toNat_ofNat]; omega
theorem toInt_small (n : ℕ) (h : n < 97) : (BitVec.ofNat 32 n).toInt = n := by
  rw [BitVec.toInt_eq_toNat_of_lt (by rw [toNat_small n h]; omega), toNat_small n h]

theorem coord_lt (i : grid0.Coords) : (i 0).val < 97 := (i 0).isLt

/-- The tables of a launch: an expert for every tile, and how many tiles are active. -/
structure Tables where
  te : S97.Idx → BitVec 32
  na : S1.Idx → BitVec 32
  te_lt : ∀ j, (te j).toNat < 32
  na_pos : ∀ j, 1 ≤ (na j).toInt

namespace Tables
/-- The one entry of a one-entry table. -/
def z1 : S1.Idx := ix1 (0 : Fin 1)
theorem eq_z1 (j : S1.Idx) : j = z1 := funext fun a => by
  fin_cases a; exact Subsingleton.elim (α := Fin 1) _ _
/-- Entry `n` of the table of experts. -/
def at97 (n : ℕ) (h : n < 97) : S97.Idx := ix1 (⟨n, h⟩ : Fin 97)
theorem eq_at97 (j : S97.Idx) (n : ℕ) (h : n < 97) (hj : (j 0).val = n) : j = at97 n h := funext fun a => by
  fin_cases a; exact Fin.ext (show (j 0).val = n from hj)
end Tables
open Tables

/-! ## The words the body reads -/

theorem readAt_na (T1 : S1.Idx → Elt Bits .i32) (x) :
    View.readAt (Elt Bits) (tbM0_1).view (Rect.unit (s := S1) ![0] S1.size inb_S1_S1_0).toLoadRect T1 x = T1 z1 :=
  congrArg T1 (eq_z1 _)

theorem off2_val (i : grid0.Coords) : k0_off2 i 0 = (i 0).val := toNat_small _ (coord_lt i)
theorem off3_val (i : grid0.Coords) (h : (i 0).val ≠ 0) : k0_off3 i 0 = (i 0).val - 1 := by
  have hi := coord_lt i
  show (Scalar.maxsi (Scalar.subi (BitVec.ofNat 32 (i 0).val) 1#32) 0#32).toNat = _
  have e : Scalar.subi (BitVec.ofNat 32 (i 0).val) 1#32 = BitVec.ofNat 32 ((i 0).val - 1) := by
    apply BitVec.eq_of_toNat_eq
    show (BitVec.ofNat 32 (i 0).val - 1#32).toNat = _
    rw [BitVec.toNat_sub, toNat_small _ hi, toNat_small _ (by omega)]
    have : (1#32 : BitVec 32).toNat = 1 := rfl
    have := toNat_small ((i 0).val - 1) (by omega)
    omega
  rw [e, Scalar.maxsi_zero_of_nonneg (by rw [toNat_small _ (by omega)]; omega), toNat_small _ (by omega)]

theorem readAt_te (T0 : S97.Idx → Elt Bits .i32) (i : grid0.Coords) (x) :
    View.readAt (Elt Bits) (tbM0_0).view (Rect.unit (s := S97) (k0_off2 i) S1.size (k0_off2_inb i)).toLoadRect T0 x
      = T0 (at97 (i 0).val (coord_lt i)) :=
  congrArg T0 (eq_at97 _ _ _ (by
    have hx : (x 0).val < 1 := (x 0).isLt
    show k0_off2 i 0 + 1 * (x 0).val = _
    rw [off2_val]; omega))
theorem readAt_te_prev (T0 : S97.Idx → Elt Bits .i32) (i : grid0.Coords) (h : (i 0).val ≠ 0) (x) :
    View.readAt (Elt Bits) (tbM0_0).view (Rect.unit (s := S97) (k0_off3 i) S1.size (k0_off3_inb i)).toLoadRect T0 x
      = T0 (at97 ((i 0).val - 1) (by have := coord_lt i; omega)) :=
  congrArg T0 (eq_at97 _ _ _ (by
    have hx : (x 0).val < 1 := (x 0).isLt
    show k0_off3 i 0 + 1 * (x 0).val = _
    rw [off3_val i h]; omega))

/-! ## The branches -/

theorem cond1_iff (i : grid0.Coords) (v : BitVec 32) : k0_cond1 i v = 1#1 ↔ ((i 0).val : ℤ) < v.toInt := by
  show Scalar.cmpi .ne (Scalar.extui (Scalar.cmpi .slt (BitVec.ofNat 32 (i 0).val) v)) 0#32 = 1#1 ↔ _
  rw [Scalar.guard_iff, Scalar.cmpi, IntOp.cmpi_slt, toInt_small _ (coord_lt i)]
theorem cond3_iff (i : grid0.Coords) (v : BitVec 32) : k0_cond3 i v = 1#1 ↔ v.toInt ≤ ((i 0).val : ℤ) := by
  show Scalar.cmpi .ne (Scalar.extui (Scalar.cmpi .sge (BitVec.ofNat 32 (i 0).val) v)) 0#32 = 1#1 ↔ _
  rw [Scalar.guard_iff, Scalar.cmpi, IntOp.cmpi_sge, toInt_small _ (coord_lt i)]

/-- The branch that rounds the weight blocks into the scratch buffers. -/
abbrev Loads (T0 : S97.Idx → Elt Bits .i32) (i : grid0.Coords) : Prop :=
  (Scalar.cmpi .ne (Scalar.extui (Scalar.ori (Scalar.cmpi .eq (BitVec.ofNat 32 (i 0).val) 0#32) (Scalar.cmpi .ne (View.readAt (Elt Bits) (tbM0_0).view (Rect.unit (s := S97) (k0_off2 i) S1.size (k0_off2_inb i)).toLoadRect T0 (Shape.Idx.first (numel1_S1.symm ▸ Nat.one_pos))) (View.readAt (Elt Bits) (tbM0_0).view (Rect.unit (s := S97) (k0_off3 i) S1.size (k0_off3_inb i)).toLoadRect T0 (Shape.Idx.first (numel1_S1.symm ▸ Nat.one_pos)))))) 0#32) = 1#1

/-- A point that does not load is not the first, and keeps the expert of the point before. -/
theorem keeps (T0 : S97.Idx → Elt Bits .i32) (i : grid0.Coords) (h : ¬ Loads T0 i) :
    ∃ h0 : (i 0).val ≠ 0, T0 (at97 (i 0).val (coord_lt i)) = T0 (at97 ((i 0).val - 1) (by have := coord_lt i; omega)) := by
  unfold Loads at h
  rw [Scalar.guard_iff] at h
  simp only [Scalar.ori, IntOp.ori_eq_one, Scalar.cmpi, IntOp.cmpi_eq, IntOp.cmpi_ne, not_or, not_not, ne_eq] at h
  obtain ⟨h0, h1⟩ := h
  have h0' : (i 0).val ≠ 0 := fun e => h0 (by rw [e])
  exact ⟨h0', by rw [← readAt_te T0 i, ← readAt_te_prev T0 i h0']; exact h1⟩

/-! ## The tables as the pipeline holds them -/

namespace Tables
variable (T : Tables)

set_option backward.proofsInPublic true in
def pf : pre0.Contents (Elt Bits) := fun | ⟨0, _⟩ => T.te | ⟨1, _⟩ => T.na | ⟨_ + 2, h⟩ => absurd h (by simp)

theorem pf_at_na (r h1) : T.pf.at 1 (Rect.unit (s := S1) ![0] S1.size r) h1 = T.na z1 :=
  congrArg T.na (eq_z1 _)
theorem pf_at_te (i : grid0.Coords) (r h1) : T.pf.at 0 (Rect.unit (s := S97) ![(Scalar.indexCast (BitVec.ofNat 32 (i 0).val) : Index).toNat] S1.size r) h1
    = T.te (at97 (i 0).val (coord_lt i)) :=
  congrArg T.te (eq_at97 _ _ _ (by
    show (Scalar.indexCast (BitVec.ofNat 32 (i 0).val) : Index).toNat + 1 * 0 = _
    exact toNat_small _ (coord_lt i)))
theorem pf_atD_na : T.pf.atD 1 ![0] = T.na z1 := by
  unfold Pipeline.Prefetch.Contents.atD
  rw [dif_pos (by intro a; fin_cases a; exact Nat.le_refl 1)]
  exact congrArg T.na (eq_z1 _)

/-- The row block a tile reads: its own while it is active, the last active one after. -/
theorem min_word (n : ℕ) (hn : n < 97) (v : BitVec 32) (hv : 1 ≤ v.toInt) :
    (Scalar.minsi (BitVec.ofNat 32 n) (Scalar.subi v 1#32)).toNat = min n (v.toNat - 1) := by
  have h2 : 2 * v.toNat < 2 ^ 32 := by
    by_contra h
    rw [BitVec.toInt_eq_toNat_cond, if_neg h] at hv
    have := v.isLt; omega
  have hvn : v.toInt = v.toNat := BitVec.toInt_eq_toNat_of_lt h2
  have e : (Scalar.subi v 1#32).toNat = v.toNat - 1 := by
    show (v - 1#32).toNat = _
    rw [BitVec.toNat_sub, show (1#32 : BitVec 32).toNat = 1 from rfl]; omega
  have e2 : (Scalar.subi v 1#32).toInt = (v.toNat - 1 : ℕ) := by
    rw [BitVec.toInt_eq_toNat_of_lt (by rw [e]; omega), e]
  simp only [Scalar.minsi, IntOp.minsi]
  split <;> rename_i h
  · rw [BitVec.slt_iff_toInt_lt, toInt_small n hn, e2] at h
    rw [toNat_small n hn]; omega
  · rw [BitVec.slt_iff_toInt_lt, toInt_small n hn, e2] at h
    rw [e]; omega

theorem ix0_eq (i : grid0.Coords) : cc0_transform_0 inb_S1_S1_0 numel1_S1 T.pf i = ![min (i 0).val ((T.na z1).toNat - 1), 0] := by
  have e : (Scalar.minsi (BitVec.ofNat 32 (i 0).val) (Scalar.subi (T.pf.at 1 (Rect.unit (s := S1) ![0] S1.size inb_S1_S1_0) numel1_S1) 1#32)).toNat
      = min (i 0).val ((T.na z1).toNat - 1) := by
    rw [T.pf_at_na inb_S1_S1_0 numel1_S1]; exact min_word _ (coord_lt i) _ (T.na_pos z1)
  exact congrArg (fun n => (![n, 0] : Fin 2 → Nat)) e
theorem ix1_eq (i : grid0.Coords) : cc0_transform_1 k0_off1_inb numel1_S1 T.pf i = ![(T.te (at97 (i 0).val (coord_lt i))).toNat, 0, 0] := by
  exact congrArg (fun w : BitVec 32 => (![w.toNat, 0, 0] : Fin 3 → Nat)) (T.pf_at_te i (k0_off1_inb i) numel1_S1)
theorem ix2_eq (i : grid0.Coords) : cc0_transform_2 k0_off1_inb numel1_S1 T.pf i = ![(T.te (at97 (i 0).val (coord_lt i))).toNat, 0, 0] := by
  exact congrArg (fun w : BitVec 32 => (![w.toNat, 0, 0] : Fin 3 → Nat)) (T.pf_at_te i (k0_off1_inb i) numel1_S1)
theorem ix3_eq (i : grid0.Coords) : cc0_transform_3 k0_off1_inb numel1_S1 T.pf i = ![(T.te (at97 (i 0).val (coord_lt i))).toNat, 0, 0] := by
  exact congrArg (fun w : BitVec 32 => (![w.toNat, 0, 0] : Fin 3 → Nat)) (T.pf_at_te i (k0_off1_inb i) numel1_S1)

/-- Every block lies inside its array. -/
theorem ok : ok0 (F := Bits) T.pf := by
  refine ⟨fun i => ⟨fun a => ?_, .inl rfl⟩, fun i => ⟨fun a => ?_, .inl rfl⟩, fun i => ⟨fun a => ?_, .inl rfl⟩, fun i => ⟨fun a => ?_, .inl rfl⟩⟩
  · rw [ix0_eq]
    have := coord_lt i
    fin_cases a
    · show (min (i 0).val ((T.na z1).toNat - 1) + 1) * 256 ≤ 24832; omega
    · show (0 + 1) * 2048 ≤ 2048; omega
  · rw [ix1_eq]
    have := T.te_lt (at97 (i 0).val (coord_lt i))
    fin_cases a
    · show ((T.te (at97 (i 0).val (coord_lt i))).toNat + 1) * 1 ≤ 32; omega
    · show (0 + 1) * 2048 ≤ 2048; omega
    · show (0 + 1) * 512 ≤ 512; omega
  · rw [ix2_eq]
    have := T.te_lt (at97 (i 0).val (coord_lt i))
    fin_cases a
    · show ((T.te (at97 (i 0).val (coord_lt i))).toNat + 1) * 1 ≤ 32; omega
    · show (0 + 1) * 2048 ≤ 2048; omega
    · show (0 + 1) * 512 ≤ 512; omega
  · rw [ix3_eq]
    have := T.te_lt (at97 (i 0).val (coord_lt i))
    fin_cases a
    · show ((T.te (at97 (i 0).val (coord_lt i))).toNat + 1) * 1 ≤ 32; omega
    · show (0 + 1) * 512 ≤ 512; omega
    · show (0 + 1) * 2048 ≤ 2048; omega
end Tables

/-! ## The pipeline at the tables -/

variable (T : Tables)
def adm : (pcfg0 (F := Bits)).Adm := ⟨T.pf, T.ok⟩
abbrev cfgA : Pipeline.Cfg sig Λ₀ := cfg0 (F := Bits) (adm T)
abbrev pcs : Fin 1 → Pipeline.Cfg sig Λ₀ := Pipeline.pin (pcfgs (F := Bits)) fun _ => adm T

/-- Point `t`'s coordinates. -/
abbrev crd (t : Fin (cfgA T).N) : (cfgA T).grid.Coords := (cfgA T).grid.coords t
theorem crd_all : ∀ t : Fin grid0.N, ((grid0.coords t) 0).val = t.val := by decide +kernel
theorem crd_val (t : Fin (cfgA T).N) : ((crd T t) 0).val = t.val := crd_all t
theorem lt97 (t : Fin (cfgA T).N) : t.val < 97 := t.isLt

/-- Whether tile `n` is active. -/
abbrev act (n : ℕ) : Prop := (n : ℤ) < (T.na z1).toInt

theorem idle4 (t : Fin (cfgA T).N) : (cfgA T).idle (4 : Fin 5) ((cfgA T).grid.coords t) = false := by
  show (!(k0_cond1 (crd T t) (T.pf.atD 1 ![0]) == 1#1) && !(k0_cond3 (crd T t) (T.pf.atD 1 ![0]) == 1#1)) = false
  rw [pf_atD_na]
  rcases lt_or_ge ((crd T t 0).val : ℤ) (T.na z1).toInt with h | h
  · rw [(cond1_iff (crd T t) _).2 h]; rfl
  · rw [(cond3_iff (crd T t) _).2 h]; simp
theorem flush_all : ∀ t : Fin grid0.N, Pipeline.Window.flushOf grid0 true cc0_transform_4 t = true := by decide +kernel
theorem flush4 (t : Fin (cfgA T).N) : ((cfgA T).win (4 : Fin 5)).flush t = true := flush_all t
theorem fresh4 (n : ℕ) (h : n < (cfgA T).N) : (cfgA T).fresh (4 : Fin 5) n = true := by
  cases n with
  | zero => exact Pipeline.Cfg.fresh_zero _ _
  | succ n => rw [Pipeline.Cfg.fresh_succ _ _ _ (Nat.lt_of_succ_lt h), flush4]; rfl

end Cert.Kernel2.Moe
-- ==== Proof.Moe.Bits.Blocks.lean ====
/-
  The blocks a tile reads: its 256 rows of the arranged activations, and the three weight blocks of its expert.
-/
module

public import proofs.«01_k».proof.Proof.Moe.Bits.Tables
public import Idealize.ShloMosaic.Lib.Pipeline.FrameBody
public import Idealize.ShloMosaic.Lib.Pipeline.ValueKit

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

open Tables
variable (T : Tables)
variable (m : (ℓ : Loc nD τ sig) → Buf (Elt Bits) ℓ) (ρ : Dev nD → PrngReg)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The activations and the experts' weights, as the launch holds them. -/
abbrev argX (c : Dev nD) : Vec Bits S24832x2048 .f32 := m ((c : Thread nD τ).loc main_arg2)
abbrev argG (c : Dev nD) : Vec Bits S32x2048x512 .f32 := m ((c : Thread nD τ).loc main_arg3)
abbrev argU (c : Dev nD) : Vec Bits S32x2048x512 .f32 := m ((c : Thread nD τ).loc main_arg4)
abbrev argD (c : Dev nD) : Vec Bits S32x512x2048 .f32 := m ((c : Thread nD τ).loc main_arg5)

/-- The expert of tile `t`. -/
def ex (n : ℕ) (h : n < 97) : Fin 32 := ⟨(T.te (at97 n h)).toNat, T.te_lt _⟩
/-- The row block tile `n` reads. -/
def rowOf (n : ℕ) : ℕ := min n ((T.na z1).toNat - 1)

theorem crd_at (t : Fin (cfgA T).N) : at97 ((crd T t) 0).val (coord_lt (crd T t)) = at97 t.val (lt97 T t) := by
  apply eq_at97; exact crd_val T t

theorem idx0 (t : Fin (cfgA T).N) : ((cfgA T).win (0 : Fin 5)).index t (0 : Fin 2) = rowOf T t.val ∧ ((cfgA T).win (0 : Fin 5)).index t (1 : Fin 2) = 0 := by
  have e : ((cfgA T).win (0 : Fin 5)).index t = ![rowOf T t.val, 0] := by
    show cc0_transform_0 inb_S1_S1_0 numel1_S1 T.pf (crd T t) = _
    rw [ix0_eq, crd_val]; rfl
  exact ⟨congrFun e (0 : Fin 2), congrFun e (1 : Fin 2)⟩
theorem idx1 (t : Fin (cfgA T).N) : ((cfgA T).win (1 : Fin 5)).index t (0 : Fin 3) = (ex T t.val (lt97 T t)).val ∧ ((cfgA T).win (1 : Fin 5)).index t (1 : Fin 3) = 0 ∧ ((cfgA T).win (1 : Fin 5)).index t (2 : Fin 3) = 0 := by
  have e : ((cfgA T).win (1 : Fin 5)).index t = ![(ex T t.val (lt97 T t)).val, 0, 0] := by
    show cc0_transform_1 k0_off1_inb numel1_S1 T.pf (crd T t) = _
    rw [ix1_eq, crd_at]; rfl
  exact ⟨congrFun e (0 : Fin 3), congrFun e (1 : Fin 3), congrFun e (2 : Fin 3)⟩
theorem idx2 (t : Fin (cfgA T).N) : ((cfgA T).win (2 : Fin 5)).index t (0 : Fin 3) = (ex T t.val (lt97 T t)).val ∧ ((cfgA T).win (2 : Fin 5)).index t (1 : Fin 3) = 0 ∧ ((cfgA T).win (2 : Fin 5)).index t (2 : Fin 3) = 0 := by
  have e : ((cfgA T).win (2 : Fin 5)).index t = ![(ex T t.val (lt97 T t)).val, 0, 0] := by
    show cc0_transform_2 k0_off1_inb numel1_S1 T.pf (crd T t) = _
    rw [ix2_eq, crd_at]; rfl
  exact ⟨congrFun e (0 : Fin 3), congrFun e (1 : Fin 3), congrFun e (2 : Fin 3)⟩
theorem idx3 (t : Fin (cfgA T).N) : ((cfgA T).win (3 : Fin 5)).index t (0 : Fin 3) = (ex T t.val (lt97 T t)).val ∧ ((cfgA T).win (3 : Fin 5)).index t (1 : Fin 3) = 0 ∧ ((cfgA T).win (3 : Fin 5)).index t (2 : Fin 3) = 0 := by
  have e : ((cfgA T).win (3 : Fin 5)).index t = ![(ex T t.val (lt97 T t)).val, 0, 0] := by
    show cc0_transform_3 k0_off1_inb numel1_S1 T.pf (crd T t) = _
    rw [ix3_eq, crd_at]; rfl
  exact ⟨congrFun e (0 : Fin 3), congrFun e (1 : Fin 3), congrFun e (2 : Fin 3)⟩

theorem rowOf_lt (n : ℕ) (h : n < 97) (r : Fin 256) : 256 * rowOf T n + r.val < 24832 := by
  have := r.isLt; unfold rowOf; omega

theorem read_x (c : Dev nD) (t : Fin (cfgA T).N) (r : Fin 256) (e : Fin 2048) :
    iblk T m ρ c (0 : Fin 5) t (ix2 r e) = argX m c (ix2 ⟨256 * rowOf T t.val + r.val, rowOf_lt T t.val (lt97 T t) r⟩ e) := by
  obtain ⟨e0, e1⟩ := idx0 T t
  blk_point [iblk, s₀, argX, e0, e1]
theorem read_g (c : Dev nD) (t : Fin (cfgA T).N) (d : Fin 2048) (f : Fin 512) :
    iblk T m ρ c (1 : Fin 5) t (ix3 0 d f) = argG m c (ix3 (ex T t.val (lt97 T t)) d f) := by
  obtain ⟨e0, e1, e2⟩ := idx1 T t
  blk_point [iblk, s₀, argG, e0, e1, e2]
theorem read_u (c : Dev nD) (t : Fin (cfgA T).N) (d : Fin 2048) (f : Fin 512) :
    iblk T m ρ c (2 : Fin 5) t (ix3 0 d f) = argU m c (ix3 (ex T t.val (lt97 T t)) d f) := by
  obtain ⟨e0, e1, e2⟩ := idx2 T t
  blk_point [iblk, s₀, argU, e0, e1, e2]
theorem read_d (c : Dev nD) (t : Fin (cfgA T).N) (f : Fin 512) (d : Fin 2048) :
    iblk T m ρ c (3 : Fin 5) t (ix3 0 f d) = argD m c (ix3 (ex T t.val (lt97 T t)) f d) := by
  obtain ⟨e0, e1, e2⟩ := idx3 T t
  blk_point [iblk, s₀, argD, e0, e1, e2]

/-- The blocks as arrays of their literal shapes. -/
abbrev bx (c : Dev nD) (t : Fin (cfgA T).N) : Vec Bits S256x2048 .f32 := iblk T m ρ c (0 : Fin 5) t
abbrev bg (c : Dev nD) (t : Fin (cfgA T).N) : Vec Bits S1x2048x512 .f32 := iblk T m ρ c (1 : Fin 5) t
abbrev bu (c : Dev nD) (t : Fin (cfgA T).N) : Vec Bits S1x2048x512 .f32 := iblk T m ρ c (2 : Fin 5) t
abbrev bd (c : Dev nD) (t : Fin (cfgA T).N) : Vec Bits S1x512x2048 .f32 := iblk T m ρ c (3 : Fin 5) t

theorem ext_blk {a b : ℕ} {α : Type} (f g : (⟨3, ![1, a, b]⟩ : Shape).Idx → α) (h : ∀ (i : Fin a) (j : Fin b), f (ix3 0 i j) = g (ix3 0 i j)) : f = g := by
  funext y
  have e : y = ix3 (0 : Fin 1) (y 1) (y 2) := funext fun k => by
    fin_cases k
    · exact Subsingleton.elim (α := Fin 1) _ _
    · rfl
    · rfl
  rw [e]; exact h _ _

/-- Two tiles of one expert read the same weight blocks. -/
theorem same_g (c : Dev nD) (t t' : Fin (cfgA T).N) (h : ex T t.val (lt97 T t) = ex T t'.val (lt97 T t')) : bg T m ρ c t = bg T m ρ c t' :=
  ext_blk _ _ fun i j => (read_g T m ρ c t i j).trans (by rw [h]; exact (read_g T m ρ c t' i j).symm)
theorem same_u (c : Dev nD) (t t' : Fin (cfgA T).N) (h : ex T t.val (lt97 T t) = ex T t'.val (lt97 T t')) : bu T m ρ c t = bu T m ρ c t' :=
  ext_blk _ _ fun i j => (read_u T m ρ c t i j).trans (by rw [h]; exact (read_u T m ρ c t' i j).symm)
theorem same_d (c : Dev nD) (t t' : Fin (cfgA T).N) (h : ex T t.val (lt97 T t) = ex T t'.val (lt97 T t')) : bd T m ρ c t = bd T m ρ c t' :=
  ext_blk _ _ fun i j => (read_d T m ρ c t i j).trans (by rw [h]; exact (read_d T m ρ c t' i j).symm)

end Cert.Kernel2.Moe
-- ==== Proof.Moe.Bits.Frame.lean ====
/-
  The frame of the expert call at any tables in range: every execution ends, the argument arrays keep their contents,
  and the result holds, tile by tile, the feed-forward of the tile's rows through its expert, or zeros past the active
  tiles. Between points the scratch buffers hold the rounded weights of the expert of the tile before, if it was active.
-/
module

public import proofs.«01_k».proof.Proof.Moe.Bits.Blocks
public import Idealize.ShloMosaic.Lib.Pipeline.TableIdle
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

open Tables

/-- The resource algebra of the pipeline's staging cells. -/
abbrev EP : Emb (UR sig nD τ) 𝕄 := emb₁

variable (T : Tables)
variable (m : (ℓ : Loc nD τ sig) → Buf (Elt Bits) ℓ) (ρ : Dev nD → PrngReg)

/-- The staging buffer of each window at point `t`. -/
abbrev ms0_0 (t : Fin (cfgA T).N) : Memref sig .tc .vmem S256x2048 .f32 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x2048x512 .f32 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x2048x512 .f32 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x512x2048 .f32 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S256x2048 .f32 := spec0_4.stage ((cfgA T).slots t (4 : Fin 5))
abbrev hs0_4 (t : Fin (cfgA T).N) : (ms0_4 T t).IsWhole := hstage0_4 (((cfgA T).slots t (4 : Fin 5)).cast nbuf0_4)

/-! ## What is kept between points -/

def Kept0 (c : Dev nD) (n : ℕ) (a : Buf (Elt Bits) ((c : Thread nD τ).loc cc0_scratch0)) : Prop :=
  ∀ s : Fin (cfgA T).N, n = s.val + 1 → act T s.val → a = held0 c (bg T m ρ c s)
def Kept1 (c : Dev nD) (n : ℕ) (a : Buf (Elt Bits) ((c : Thread nD τ).loc cc0_scratch1)) : Prop :=
  ∀ s : Fin (cfgA T).N, n = s.val + 1 → act T s.val → a = held1 c (bu T m ρ c s)
def Kept2 (c : Dev nD) (n : ℕ) (a : Buf (Elt Bits) ((c : Thread nD τ).loc cc0_scratch2)) : Prop :=
  ∀ s : Fin (cfgA T).N, n = s.val + 1 → act T s.val → a = held2 c (bd T m ρ c s)

theorem kept_next0 (c : Dev nD) (t : Fin (cfgA T).N) (a) (h : a = held0 c (bg T m ρ c t)) : Kept0 T m ρ c (t.val + 1) a := fun s hs _ => by
  have : s = t := Fin.ext (by omega)
  rw [this, h]
theorem kept_next1 (c : Dev nD) (t : Fin (cfgA T).N) (a) (h : a = held1 c (bu T m ρ c t)) : Kept1 T m ρ c (t.val + 1) a := fun s hs _ => by
  have : s = t := Fin.ext (by omega)
  rw [this, h]
theorem kept_next2 (c : Dev nD) (t : Fin (cfgA T).N) (a) (h : a = held2 c (bd T m ρ c t)) : Kept2 T m ρ c (t.val + 1) a := fun s hs _ => by
  have : s = t := Fin.ext (by omega)
  rw [this, h]
theorem kept_none0 (c : Dev nD) (t : Fin (cfgA T).N) (h : ¬ act T t.val) (a) : Kept0 T m ρ c (t.val + 1) a := fun s hs ha => by
  have : s = t := Fin.ext (by omega)
  exact absurd (this ▸ ha) h
theorem kept_none1 (c : Dev nD) (t : Fin (cfgA T).N) (h : ¬ act T t.val) (a) : Kept1 T m ρ c (t.val + 1) a := fun s hs ha => by
  have : s = t := Fin.ext (by omega)
  exact absurd (this ▸ ha) h
theorem kept_none2 (c : Dev nD) (t : Fin (cfgA T).N) (h : ¬ act T t.val) (a) : Kept2 T m ρ c (t.val + 1) a := fun s hs ha => by
  have : s = t := Fin.ext (by omega)
  exact absurd (this ▸ ha) h

/-- At an active point that does not load, the scratch buffers hold the rounded weights of its own expert. -/
theorem kept_here (c : Dev nD) (t : Fin (cfgA T).N) (a0 a1 a2) (ha : act T t.val) (h : ¬ Loads T.te (crd T t))
    (k0 : Kept0 T m ρ c t.val a0) (k1 : Kept1 T m ρ c t.val a1) (k2 : Kept2 T m ρ c t.val a2) :
    a0 = held0 c (bg T m ρ c t) ∧ a1 = held1 c (bu T m ρ c t) ∧ a2 = held2 c (bd T m ρ c t) := by
  obtain ⟨h0, h1⟩ := keeps T.te (crd T t) h
  have hv := crd_val T t
  have ht : t.val ≠ 0 := by rw [← hv]; exact h0
  have hN := lt97 T t
  let s : Fin (cfgA T).N := ⟨t.val - 1, by have := t.isLt; omega⟩
  have hs : t.val = s.val + 1 := by show t.val = t.val - 1 + 1; omega
  have hact : act T s.val := by unfold act at ha ⊢; rw [hs] at ha; push_cast at ha; omega
  have he : ex T s.val (lt97 T s) = ex T t.val (lt97 T t) := by
    apply Fin.ext
    show (T.te (at97 s.val (lt97 T s))).toNat = (T.te (at97 t.val (lt97 T t))).toNat
    have e1 : at97 ((crd T t 0).val - 1) (by have := coord_lt (crd T t); omega) = at97 s.val (lt97 T s) :=
      eq_at97 _ _ _ (by show (crd T t 0).val - 1 = t.val - 1; rw [hv])
    rw [crd_at, e1] at h1
    rw [h1]
  exact ⟨(k0 s hs hact).trans (by rw [same_g T m ρ c s t he]), (k1 s hs hact).trans (by rw [same_u T m ρ c s t he]),
    (k2 s hs hact).trans (by rw [same_d T m ρ c s t he])⟩

/-- The invariant before point `t`: the scratch buffers as kept, and the body's halves of the tables. -/
def Phi (c : Dev nD) (t : Fin ((cfgA T).N + 1)) : sProp 𝕄 :=
  iprop((∃ a, ⌜Kept0 T m ρ c t.val a⌝ ∗ (scM0_0.view.loc (c : Thread nD τ) ↦{fullShare} a)) ∗ (∃ a, ⌜Kept1 T m ρ c t.val a⌝ ∗ (scM0_1.view.loc (c : Thread nD τ) ↦{fullShare} a)) ∗ (∃ a, ⌜Kept2 T m ρ c t.val a⌝ ∗ (scM0_2.view.loc (c : Thread nD τ) ↦{fullShare} a)) ∗ (tbM0_0.view.loc (c : Thread nD τ) ↦{fullShare.right} T.te) ∗ (tbM0_1.view.loc (c : Thread nD τ) ↦{fullShare.right} T.na))

/-- What a tile's block of the result holds. -/
def tile (c : Dev nD) (t : Fin (cfgA T).N) : Vec Bits S256x2048 .f32 :=
  if act T t.val then ffn (bx T m ρ c t) (bg T m ρ c t) (bu T m ρ c t) (bd T m ρ c t) else k0_pay5 (F := Bits)

def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => tile T m ρ c t
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = tile T m ρ c t := rfl
theorem after0_4_ffn (c : Dev nD) (t : Fin (cfgA T).N) (h : act T t.val) : (dats T m ρ 0 c).after (4 : Fin 5) t = ffn (bx T m ρ c t) (bg T m ρ c t) (bu T m ρ c t) (bd T m ρ c t) :=
  (after0_4 T m ρ c t).trans (if_pos h)
theorem after0_4_zero (c : Dev nD) (t : Fin (cfgA T).N) (h : ¬ act T t.val) : (dats T m ρ 0 c).after (4 : Fin 5) t = k0_pay5 (F := Bits) :=
  (after0_4 T m ρ c t).trans (if_neg h)

/-- An input window's buffer holds its block when the body runs. -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)
/-- The result's buffer is written back at every point, so it holds anything when the body runs. -/
theorem before0_4 (c : Dev nD) (t : Fin (cfgA T).N) (d) : (dats T m ρ 0 c).before (4 : Fin 5) t d = d := by
  rw [(dats T m ρ 0 c).before_out_traj (4 : Fin 5) rfl (fun _ _ => rfl) (fun t _ hi _ => absurd ((idle4 T t).symm.trans hi) Bool.false_ne_true) t.val t rfl d]
  rw [if_pos (fresh4 T t.val t.isLt)]

/-! ## The body at a point -/

abbrev bodyAt0 (t : Fin (cfgA T).N) : Prog (TpuEff nD τ sig (Elt Bits) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _) (Memref.whole cc0_scratch1) (Memref.isWhole_whole _) (Memref.whole cc0_scratch2) (Memref.isWhole_whole _)

set_option maxHeartbeats 4000000 in
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i4 := idle4 T t
  have f4 := flush4 T t
  rewrite [i4]
  simp only [before0_0, before0_1, before0_2, before0_3, before0_4, after0_0, after0_1, after0_2, after0_3, f4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  have hv := crd_val T t
  by_cases q0 : act T t.val
  · have k0_h1 : k0_cond1 (crd T t) (View.readAt (Elt Bits) (tbM0_1).view (Rect.unit (s := S1) ![0] S1.size inb_S1_S1_0).toLoadRect T.na (Shape.Idx.first (numel1_S1.symm ▸ Nat.one_pos))) = 1#1 := by
      rw [cond1_iff, readAt_na, hv]; exact q0
    have k0_h3 : ¬ k0_cond3 (crd T t) (View.readAt (Elt Bits) (tbM0_1).view (Rect.unit (s := S1) ![0] S1.size inb_S1_S1_0).toLoadRect T.na (Shape.Idx.first (numel1_S1.symm ▸ Nat.one_pos))) = 1#1 := by
      rw [cond3_iff, readAt_na, hv]; exact not_le.2 q0
    by_cases hc1 : Loads T.te (crd T t)
    · skip
      simp only [after0_4_ffn T m ρ c t q0]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.na (bx T m ρ c t) (bg T m ρ c t) (bu T m ρ c t) (bd T m ρ c t) k0_h1 hc1 k0_h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact kept_next0 T m ρ c t _ (s0_A _ _ _ _ _ _ _ _ _ _ _ _ _ _ _ _ _ _ k0_h1 hc1 k0_h3)
        isplitl [HS1]
        · iexists _; isplitr; swap
          · iexact HS1
          · ipureintro; exact kept_next1 T m ρ c t _ (s1_A _ _ _ _ _ _ _ _ _ _ _ _ _ _ _ _ _ _ k0_h1 hc1 k0_h3)
        isplitl [HS2]
        · iexists _; isplitr; swap
          · iexact HS2
          · ipureintro; exact kept_next2 T m ρ c t _ (s2_A _ _ _ _ _ _ _ _ _ _ _ _ _ _ _ _ _ _ k0_h1 hc1 k0_h3)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_A_4 c _ _ _ _ _ _ _ _ _ _ _ _ _ _ _ _ _ k0_h1 hc1 k0_h3)).trans (out_A _ _ _ _ _ _ _ _ _ _ _ _ _ _ _ _ _ _ k0_h1 hc1 k0_h3)
    · skip
      simp only [after0_4_ffn T m ρ c t q0]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      obtain ⟨e0, e1, e2⟩ := kept_here T m ρ c t a0 a1 a2 q0 hc1 ha0 ha1 ha2
      subst e0 e1 e2
      iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.na (bx T m ρ c t) (bg T m ρ c t) (bu T m ρ c t) (bd T m ρ c t) (held0 c (bg T m ρ c t)) (held1 c (bu T m ρ c t)) (held2 c (bd T m ρ c t)) k0_h1 hc1 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact kept_next0 T m ρ c t _ (s0_B _ _ _ _ _ _ _ _ _ _ _ _ _ _ _ _ _ _ _ _ _ k0_h1 hc1 k0_h3)
        isplitl [HS1]
        · iexists _; isplitr; swap
          · iexact HS1
          · ipureintro; exact kept_next1 T m ρ c t _ (s1_B _ _ _ _ _ _ _ _ _ _ _ _ _ _ _ _ _ _ _ _ _ k0_h1 hc1 k0_h3)
        isplitl [HS2]
        · iexists _; isplitr; swap
          · iexact HS2
          · ipureintro; exact kept_next2 T m ρ c t _ (s2_B _ _ _ _ _ _ _ _ _ _ _ _ _ _ _ _ _ _ _ _ _ k0_h1 hc1 k0_h3)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_B_4 c _ _ _ _ _ _ _ _ _ _ _ _ _ _ _ _ _ _ _ _ k0_h1 hc1 k0_h3)).trans (out_B _ _ _ _ _ _ _ _ _ _ _ _ _ _ _ _ _ _ k0_h1 hc1 k0_h3)
  · have k0_h1 : ¬ k0_cond1 (crd T t) (View.readAt (Elt Bits) (tbM0_1).view (Rect.unit (s := S1) ![0] S1.size inb_S1_S1_0).toLoadRect T.na (Shape.Idx.first (numel1_S1.symm ▸ Nat.one_pos))) = 1#1 := by
      rw [cond1_iff, readAt_na, hv]; exact q0
    have k0_h3 : k0_cond3 (crd T t) (View.readAt (Elt Bits) (tbM0_1).view (Rect.unit (s := S1) ![0] S1.size inb_S1_S1_0).toLoadRect T.na (Shape.Idx.first (numel1_S1.symm ▸ Nat.one_pos))) = 1#1 := by
      rw [cond3_iff, readAt_na, hv]; exact not_lt.1 q0
    simp only [after0_4_zero T m ρ c t q0]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.na (bx T m ρ c t) (bg T m ρ c t) (bu T m ρ c t) (bd T m ρ c t) a0 a1 a2 k0_h1 k0_h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; exact kept_none0 T m ρ c t q0 _
      isplitl [HS1]
      · iexists _; isplitr; swap
        · iexact HS1
        · ipureintro; exact kept_none1 T m ρ c t q0 _
      isplitl [HS2]
      · iexists _; isplitr; swap
        · iexact HS2
        · ipureintro; exact kept_none2 T m ρ c t q0 _
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (View.read_writes_of_cover _ _ _ _ _ (cover0_C_4 c _ _ _ _ _ _ _ _ _ _ _ _ _ _ _ _ _ _ _ _ k0_h1 k0_h3)).trans (out_C _ _ _ _ _ _ _ _ _ _ _ _ _ _ _ _ _ _ _ _ _ k0_h1 k0_h3)

theorem body_obligation (c : Dev nD) : BodyObligation (dats T m ρ 0 c) (defs₀ (F := Bits)) Variants.none () Set.univ := fun t => by
  rw [bigSep_W0]
  exact sound_body T m ρ c t

/-! ## The launch -/

def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro s hs; exact absurd hs.symm (Nat.succ_ne_zero _)
  isplitl [HS1]
  · iexists a1; isplitr; swap
    · iexact HS1
    · ipureintro; intro s hs; exact absurd hs.symm (Nat.succ_ne_zero _)
  isplitl [HS2]
  · iexists a2; isplitr; swap
    · iexact HS2
    · ipureintro; intro s hs; exact absurd hs.symm (Nat.succ_ne_zero _)
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The final state: every array at what the pipeline leaves in it, the tables as they were. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds the tables. -/
def Holds (m : (ℓ : Loc nD τ sig) → Buf (Elt Bits) ℓ) : Prop :=
  (∀ c : Dev nD, m ((c : Thread nD τ).loc main_arg0) = T.te) ∧ (∀ c : Dev nD, m ((c : Thread nD τ).loc main_arg1) = T.na)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds T m) : θ_run (defs (F := Bits)) (onTc (τ := τ) (main (F := Bits))) (s₀ m ρ) (QC T m ρ) :=
  (θ_run defs _ _).mono (fun _ h => h.1) (run_main_quiescent T m ρ hp)

/-- The argument arrays end unchanged. -/
theorem kept_args (hp : Holds T m) (r) (h : QC T m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩

/-- The frame at tables in range. -/
theorem frame_of (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept_args T m ρ hp r h.1, h.2⟩) (run_main_quiescent T m ρ hp)

end Cert.Kernel2.Moe
-- ==== Proof.Moe.Pre.lean ====
/-
  What the experts' precondition says of the tables: every tile's expert is one of the thirty-two, and at least one tile
  is served.
-/
module

public import proofs.«01_k».proof.Proof.Gen.Pre_tables_in_range
public import Idealize.ShloMosaic.Lib.ReduceAll
public import Idealize.ShloMosaic.Lib.Pointwise

@[expose] public section

noncomputable section

namespace Cert.Moe

open Idealize.ShloMosaic Cert.Pre_tables_in_range Cert.Pre_tables_in_range.Gen

instance : Subsingleton S_.Idx := ⟨fun _ _ => funext fun a => a.elim0⟩

/-- A word between zero and thirty-two, read as a natural number. -/
theorem word_lt (w : BitVec 32) (h0 : (0#32).toInt ≤ w.toInt) (h1 : w.toInt < (32#32).toInt) : w.toNat < 32 := by
  have e0 : (0#32).toInt = 0 := by decide
  have e1 : (32#32).toInt = 32 := by decide
  rw [e0] at h0
  rw [e1] at h1
  rw [BitVec.toInt_eq_toNat_cond] at h0 h1
  have := w.isLt
  split at h0 <;> split at h1 <;> omega

/-- The precondition, entry by entry of the tables. -/
theorem in_range {F : FTy → Type} [FloatOps F] (te : IVec S97 32) (na : IVec S1 32) (x : FVec F S24832x2048 .f32)
    (wg wu : FVec F S32x2048x512 .f32) (wd : FVec F S32x512x2048 .f32)
    (h : Cert.Pre_tables_in_range.fn te na x wg wu wd = fun _ => 1#1) :
    (∀ j, (te j).toNat < 32) ∧ ∀ j, 1 ≤ (na j).toInt := by
  have h0 := congrFun h (fun a => a.elim0)
  unfold Cert.Pre_tables_in_range.fn at h0
  obtain ⟨ht, hn⟩ := IntOp.andi_eq_one.1 h0
  refine ⟨fun j => ?_, fun j => ?_⟩
  · have hj := Host.reduce_andi_all (t := S_) _ _ reducesTo_S97_S_d0 h_S_ _ ht j
    obtain ⟨hl, hr⟩ := IntOp.andi_eq_one.1 hj
    exact word_lt _ (IntOp.cmpi_sge.1 hl) (IntOp.cmpi_slt.1 hr)
  · have hj := Host.reduce_andi_all (t := S_) _ _ reducesTo_S1_S_d0 h_S_ _ hn j
    exact IntOp.cmpi_sge.1 hj

end Cert.Moe

end
-- ==== Proof.Moe.Bits.Frames.lean ====
/-
  The frame under the experts' precondition: the tables it speaks of are in range, whatever they hold.
-/
module

public import proofs.«01_k».proof.Proof.Moe.Bits.Frame
public import proofs.«01_k».proof.Proof.Moe.Pre

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables in a launch memory, from the precondition. -/
def tablesOf (m : (ℓ : Loc nD τ sig) → Buf (Elt Bits) ℓ) (c : Dev nD)
    (h : (∀ j, (m ((c : Thread nD τ).loc main_arg0) j : BitVec 32).toNat < 32) ∧ ∀ j, 1 ≤ (m ((c : Thread nD τ).loc main_arg1) j : BitVec 32).toInt) : Tables where
  te := m ((c : Thread nD τ).loc main_arg0)
  na := m ((c : Thread nD τ).loc main_arg1)
  te_lt := h.1
  na_pos := h.2

theorem holds_tablesOf (m : (ℓ : Loc nD τ sig) → Buf (Elt Bits) ℓ) (c : Dev nD) (h) : Holds (tablesOf m c h) m :=
  ⟨fun c' => by obtain rfl : c' = c := Subsingleton.elim _ _; rfl, fun c' => by obtain rfl : c' = c := Subsingleton.elim _ _; rfl⟩

end Cert.Kernel2.Moe
-- ==== Proof.Moe.Ideal.Steps.lean ====
/-
  What one grid point of the expert call leaves behind, on each of its three paths: a tile whose expert changed
  rounds the expert's three weight blocks into the scratch buffers and stores the feed-forward of its rows; a tile
  that keeps the expert of the tile before stores the feed-forward through the scratch buffers as they are; a tile
  past the active ones stores zeros.
-/
module

public import proofs.«01_k».proof.Proof.Gen.Kernel2Ideal.Flash.Runs
public import Idealize.ShloMosaic.Lib.Pipeline.ValueKit
public import Idealize.ShloMosaic.Lib.Pipeline.ReadBack
public import Idealize.ShloMosaic.Lib.VecWindow

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- What the scratch buffers hold once the weight blocks are rounded into them. -/
def held0 (c : Dev nD) (x : Vec Ideal S1x2048x512 .f32) : Buf (Elt Ideal) ((c : Thread nD τ).loc cc0_scratch0) :=
  (View.whole cc0_scratch0).writes (Elt Ideal) (View.whole cc0_scratch0).junk [⟨Rect.unit (s := S2048x512) ![0, 0] S2048x512.size inb_S2048x512_S2048x512_0_0, k0_pay1 x⟩]
def held1 (c : Dev nD) (x : Vec Ideal S1x2048x512 .f32) : Buf (Elt Ideal) ((c : Thread nD τ).loc cc0_scratch1) :=
  (View.whole cc0_scratch1).writes (Elt Ideal) (View.whole cc0_scratch1).junk [⟨Rect.unit (s := S2048x512) ![0, 0] S2048x512.size inb_S2048x512_S2048x512_0_0, k0_pay2 x⟩]
def held2 (c : Dev nD) (x : Vec Ideal S1x512x2048 .f32) : Buf (Elt Ideal) ((c : Thread nD τ).loc cc0_scratch2) :=
  (View.whole cc0_scratch2).writes (Elt Ideal) (View.whole cc0_scratch2).junk [⟨Rect.unit (s := S512x2048) ![0, 0] S512x2048.size inb_S512x2048_S512x2048_0_0, k0_pay3 x⟩]
theorem read_held0 (c : Dev nD) (x : Vec Ideal S1x2048x512 .f32) : View.read (Elt Ideal) (View.whole cc0_scratch0) (held0 c x) = k0_pay1 x := by
  unfold held0
  exact View.read_writes_full _ _ _ _ []
theorem read_held1 (c : Dev nD) (x : Vec Ideal S1x2048x512 .f32) : View.read (Elt Ideal) (View.whole cc0_scratch1) (held1 c x) = k0_pay2 x := by
  unfold held1
  exact View.read_writes_full _ _ _ _ []
theorem read_held2 (c : Dev nD) (x : Vec Ideal S1x512x2048 .f32) : View.read (Elt Ideal) (View.whole cc0_scratch2) (held2 c x) = k0_pay3 x := by
  unfold held2
  exact View.read_writes_full _ _ _ _ []

/-- The feed-forward of a tile's rows through one expert's weight blocks. -/
def ffn (x : Vec Ideal S256x2048 .f32) (wg wu : Vec Ideal S1x2048x512 .f32) (wd : Vec Ideal S1x512x2048 .f32) : Vec Ideal S256x2048 .f32 :=
  k0_pay4 x (k0_pay1 wg) (k0_pay2 wu) (k0_pay3 wd)

section
variable (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole) (T0 : (S97.Idx → Elt Ideal .i32)) (T1 : (S1.Idx → Elt Ideal .i32))
  (x0 : (S256x2048.Idx → Elt Ideal .f32)) (x1 : (S1x2048x512.Idx → Elt Ideal .f32)) (x2 : (S1x2048x512.Idx → Elt Ideal .f32)) (x3 : (S1x512x2048.Idx → Elt Ideal .f32))

theorem out_A (h1 h2 h3) : out0_A_4 c i arg3 harg3 arg4 harg4 arg5 harg5 arg6 harg6 arg7 harg7 T0 T1 x0 x1 x2 x3 h1 h2 h3 = ffn x0 x1 x2 x3 := by
  unfold out0_A_4 kernelRun0_A
  frame_open
  simp (disch := decide) only [↓ View.readCov_skip, ↓ View.readCov_cons_toLoadRect, ↓ View.readCov_fill]
  frame_out
  simp only [View.read_rep]
  rfl

theorem s0_A (h1 h2 h3) : (kernelRun0_A c i arg3 harg3 arg4 harg4 arg5 harg5 arg6 harg6 arg7 harg7 T0 T1 x0 x1 x2 x3 h1 h2 h3).2.1 = held0 c x1 := by
  unfold kernelRun0_A
  frame_out
  simp only [View.read_rep]
  rfl

theorem s0_B (xa0 xa1 xa2 h1 h2 h3) : (kernelRun0_B c i arg3 harg3 arg4 harg4 arg5 harg5 arg6 harg6 arg7 harg7 T0 T1 x0 x1 x2 x3 xa0 xa1 xa2 h1 h2 h3).2.1 = xa0 := by
  unfold kernelRun0_B
  rfl

theorem s0_C (xa0 xa1 xa2 h1 h3) : (kernelRun0_C c i arg3 harg3 arg4 harg4 arg5 harg5 arg6 harg6 arg7 harg7 T0 T1 x0 x1 x2 x3 xa0 xa1 xa2 h1 h3).2.1 = xa0 := by
  unfold kernelRun0_C
  rfl

theorem s1_A (h1 h2 h3) : (kernelRun0_A c i arg3 harg3 arg4 harg4 arg5 harg5 arg6 harg6 arg7 harg7 T0 T1 x0 x1 x2 x3 h1 h2 h3).2.2.1 = held1 c x2 := by
  unfold kernelRun0_A
  frame_out
  simp only [View.read_rep]
  rfl

theorem s1_B (xa0 xa1 xa2 h1 h2 h3) : (kernelRun0_B c i arg3 harg3 arg4 harg4 arg5 harg5 arg6 harg6 arg7 harg7 T0 T1 x0 x1 x2 x3 xa0 xa1 xa2 h1 h2 h3).2.2.1 = xa1 := by
  unfold kernelRun0_B
  rfl

theorem s1_C (xa0 xa1 xa2 h1 h3) : (kernelRun0_C c i arg3 harg3 arg4 harg4 arg5 harg5 arg6 harg6 arg7 harg7 T0 T1 x0 x1 x2 x3 xa0 xa1 xa2 h1 h3).2.2.1 = xa1 := by
  unfold kernelRun0_C
  rfl

theorem s2_A (h1 h2 h3) : (kernelRun0_A c i arg3 harg3 arg4 harg4 arg5 harg5 arg6 harg6 arg7 harg7 T0 T1 x0 x1 x2 x3 h1 h2 h3).2.2.2.1 = held2 c x3 := by
  unfold kernelRun0_A
  frame_out
  simp only [View.read_rep]
  rfl

theorem s2_B (xa0 xa1 xa2 h1 h2 h3) : (kernelRun0_B c i arg3 harg3 arg4 harg4 arg5 harg5 arg6 harg6 arg7 harg7 T0 T1 x0 x1 x2 x3 xa0 xa1 xa2 h1 h2 h3).2.2.2.1 = xa2 := by
  unfold kernelRun0_B
  rfl

theorem s2_C (xa0 xa1 xa2 h1 h3) : (kernelRun0_C c i arg3 harg3 arg4 harg4 arg5 harg5 arg6 harg6 arg7 harg7 T0 T1 x0 x1 x2 x3 xa0 xa1 xa2 h1 h3).2.2.2.1 = xa2 := by
  unfold kernelRun0_C
  rfl

theorem out_B (h1 h2 h3) : out0_B_4 c i arg3 harg3 arg4 harg4 arg5 harg5 arg6 harg6 arg7 harg7 T0 T1 x0 x1 x2 x3 (held0 c x1) (held1 c x2) (held2 c x3) h1 h2 h3 = ffn x0 x1 x2 x3 := by
  unfold out0_B_4 kernelRun0_B
  frame_out
  rw [read_held0, read_held1, read_held2, View.read_rep]
  rfl

theorem out_C (xa0 xa1 xa2 h1 h3) : out0_C_4 c i arg3 harg3 arg4 harg4 arg5 harg5 arg6 harg6 arg7 harg7 T0 T1 x0 x1 x2 x3 xa0 xa1 xa2 h1 h3 = k0_pay5 (F := Ideal) := by
  unfold out0_C_4 kernelRun0_C
  frame_out
end

end Cert.Kernel2Ideal.Moe

end
-- ==== Proof.Moe.Ideal.Tables.lean ====
/-
  The expert call at any tables: `te t` is the expert of tile `t`, `na` the number of active tiles. Every index map and
  every branch the grid point takes is read here as arithmetic of those words, for all tables whose experts are in
  range and whose count is at least one.
-/
module

public import proofs.«01_k».proof.Proof.Moe.Ideal.Steps
public import Idealize.ShloMosaic.Lib.Pipeline.Kit
public import Idealize.ShloMosaic.Lib.Affine

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem toNat_small (n : ℕ) (h : n < 97) : (BitVec.ofNat 32 n).toNat = n := by
  rw [BitVec.toNat_ofNat]; omega
theorem toInt_small (n : ℕ) (h : n < 97) : (BitVec.ofNat 32 n).toInt = n := by
  rw [BitVec.toInt_eq_toNat_of_lt (by rw [toNat_small n h]; omega), toNat_small n h]

theorem coord_lt (i : grid0.Coords) : (i 0).val < 97 := (i 0).isLt

/-- The tables of a launch: an expert for every tile, and how many tiles are active. -/
structure Tables where
  te : S97.Idx → BitVec 32
  na : S1.Idx → BitVec 32
  te_lt : ∀ j, (te j).toNat < 32
  na_pos : ∀ j, 1 ≤ (na j).toInt

namespace Tables
/-- The one entry of a one-entry table. -/
def z1 : S1.Idx := ix1 (0 : Fin 1)
theorem eq_z1 (j : S1.Idx) : j = z1 := funext fun a => by
  fin_cases a; exact Subsingleton.elim (α := Fin 1) _ _
/-- Entry `n` of the table of experts. -/
def at97 (n : ℕ) (h : n < 97) : S97.Idx := ix1 (⟨n, h⟩ : Fin 97)
theorem eq_at97 (j : S97.Idx) (n : ℕ) (h : n < 97) (hj : (j 0).val = n) : j = at97 n h := funext fun a => by
  fin_cases a; exact Fin.ext (show (j 0).val = n from hj)
end Tables
open Tables

/-! ## The words the body reads -/

theorem readAt_na (T1 : S1.Idx → Elt Ideal .i32) (x) :
    View.readAt (Elt Ideal) (tbM0_1).view (Rect.unit (s := S1) ![0] S1.size inb_S1_S1_0).toLoadRect T1 x = T1 z1 :=
  congrArg T1 (eq_z1 _)

theorem off2_val (i : grid0.Coords) : k0_off2 i 0 = (i 0).val := toNat_small _ (coord_lt i)
theorem off3_val (i : grid0.Coords) (h : (i 0).val ≠ 0) : k0_off3 i 0 = (i 0).val - 1 := by
  have hi := coord_lt i
  show (Scalar.maxsi (Scalar.subi (BitVec.ofNat 32 (i 0).val) 1#32) 0#32).toNat = _
  have e : Scalar.subi (BitVec.ofNat 32 (i 0).val) 1#32 = BitVec.ofNat 32 ((i 0).val - 1) := by
    apply BitVec.eq_of_toNat_eq
    show (BitVec.ofNat 32 (i 0).val - 1#32).toNat = _
    rw [BitVec.toNat_sub, toNat_small _ hi, toNat_small _ (by omega)]
    have : (1#32 : BitVec 32).toNat = 1 := rfl
    have := toNat_small ((i 0).val - 1) (by omega)
    omega
  rw [e, Scalar.maxsi_zero_of_nonneg (by rw [toNat_small _ (by omega)]; omega), toNat_small _ (by omega)]

theorem readAt_te (T0 : S97.Idx → Elt Ideal .i32) (i : grid0.Coords) (x) :
    View.readAt (Elt Ideal) (tbM0_0).view (Rect.unit (s := S97) (k0_off2 i) S1.size (k0_off2_inb i)).toLoadRect T0 x
      = T0 (at97 (i 0).val (coord_lt i)) :=
  congrArg T0 (eq_at97 _ _ _ (by
    have hx : (x 0).val < 1 := (x 0).isLt
    show k0_off2 i 0 + 1 * (x 0).val = _
    rw [off2_val]; omega))
theorem readAt_te_prev (T0 : S97.Idx → Elt Ideal .i32) (i : grid0.Coords) (h : (i 0).val ≠ 0) (x) :
    View.readAt (Elt Ideal) (tbM0_0).view (Rect.unit (s := S97) (k0_off3 i) S1.size (k0_off3_inb i)).toLoadRect T0 x
      = T0 (at97 ((i 0).val - 1) (by have := coord_lt i; omega)) :=
  congrArg T0 (eq_at97 _ _ _ (by
    have hx : (x 0).val < 1 := (x 0).isLt
    show k0_off3 i 0 + 1 * (x 0).val = _
    rw [off3_val i h]; omega))

/-! ## The branches -/

theorem cond1_iff (i : grid0.Coords) (v : BitVec 32) : k0_cond1 i v = 1#1 ↔ ((i 0).val : ℤ) < v.toInt := by
  show Scalar.cmpi .ne (Scalar.extui (Scalar.cmpi .slt (BitVec.ofNat 32 (i 0).val) v)) 0#32 = 1#1 ↔ _
  rw [Scalar.guard_iff, Scalar.cmpi, IntOp.cmpi_slt, toInt_small _ (coord_lt i)]
theorem cond3_iff (i : grid0.Coords) (v : BitVec 32) : k0_cond3 i v = 1#1 ↔ v.toInt ≤ ((i 0).val : ℤ) := by
  show Scalar.cmpi .ne (Scalar.extui (Scalar.cmpi .sge (BitVec.ofNat 32 (i 0).val) v)) 0#32 = 1#1 ↔ _
  rw [Scalar.guard_iff, Scalar.cmpi, IntOp.cmpi_sge, toInt_small _ (coord_lt i)]

/-- The branch that rounds the weight blocks into the scratch buffers. -/
abbrev Loads (T0 : S97.Idx → Elt Ideal .i32) (i : grid0.Coords) : Prop :=
  (Scalar.cmpi .ne (Scalar.extui (Scalar.ori (Scalar.cmpi .eq (BitVec.ofNat 32 (i 0).val) 0#32) (Scalar.cmpi .ne (View.readAt (Elt Ideal) (tbM0_0).view (Rect.unit (s := S97) (k0_off2 i) S1.size (k0_off2_inb i)).toLoadRect T0 (Shape.Idx.first (numel1_S1.symm ▸ Nat.one_pos))) (View.readAt (Elt Ideal) (tbM0_0).view (Rect.unit (s := S97) (k0_off3 i) S1.size (k0_off3_inb i)).toLoadRect T0 (Shape.Idx.first (numel1_S1.symm ▸ Nat.one_pos)))))) 0#32) = 1#1

/-- A point that does not load is not the first, and keeps the expert of the point before. -/
theorem keeps (T0 : S97.Idx → Elt Ideal .i32) (i : grid0.Coords) (h : ¬ Loads T0 i) :
    ∃ h0 : (i 0).val ≠ 0, T0 (at97 (i 0).val (coord_lt i)) = T0 (at97 ((i 0).val - 1) (by have := coord_lt i; omega)) := by
  unfold Loads at h
  rw [Scalar.guard_iff] at h
  simp only [Scalar.ori, IntOp.ori_eq_one, Scalar.cmpi, IntOp.cmpi_eq, IntOp.cmpi_ne, not_or, not_not, ne_eq] at h
  obtain ⟨h0, h1⟩ := h
  have h0' : (i 0).val ≠ 0 := fun e => h0 (by rw [e])
  exact ⟨h0', by rw [← readAt_te T0 i, ← readAt_te_prev T0 i h0']; exact h1⟩

/-! ## The tables as the pipeline holds them -/

namespace Tables
variable (T : Tables)

set_option backward.proofsInPublic true in
def pf : pre0.Contents (Elt Ideal) := fun | ⟨0, _⟩ => T.te | ⟨1, _⟩ => T.na | ⟨_ + 2, h⟩ => absurd h (by simp)

theorem pf_at_na (r h1) : T.pf.at 1 (Rect.unit (s := S1) ![0] S1.size r) h1 = T.na z1 :=
  congrArg T.na (eq_z1 _)
theorem pf_at_te (i : grid0.Coords) (r h1) : T.pf.at 0 (Rect.unit (s := S97) ![(Scalar.indexCast (BitVec.ofNat 32 (i 0).val) : Index).toNat] S1.size r) h1
    = T.te (at97 (i 0).val (coord_lt i)) :=
  congrArg T.te (eq_at97 _ _ _ (by
    show (Scalar.indexCast (BitVec.ofNat 32 (i 0).val) : Index).toNat + 1 * 0 = _
    exact toNat_small _ (coord_lt i)))
theorem pf_atD_na : T.pf.atD 1 ![0] = T.na z1 := by
  unfold Pipeline.Prefetch.Contents.atD
  rw [dif_pos (by intro a; fin_cases a; exact Nat.le_refl 1)]
  exact congrArg T.na (eq_z1 _)

/-- The row block a tile reads: its own while it is active, the last active one after. -/
theorem min_word (n : ℕ) (hn : n < 97) (v : BitVec 32) (hv : 1 ≤ v.toInt) :
    (Scalar.minsi (BitVec.ofNat 32 n) (Scalar.subi v 1#32)).toNat = min n (v.toNat - 1) := by
  have h2 : 2 * v.toNat < 2 ^ 32 := by
    by_contra h
    rw [BitVec.toInt_eq_toNat_cond, if_neg h] at hv
    have := v.isLt; omega
  have hvn : v.toInt = v.toNat := BitVec.toInt_eq_toNat_of_lt h2
  have e : (Scalar.subi v 1#32).toNat = v.toNat - 1 := by
    show (v - 1#32).toNat = _
    rw [BitVec.toNat_sub, show (1#32 : BitVec 32).toNat = 1 from rfl]; omega
  have e2 : (Scalar.subi v 1#32).toInt = (v.toNat - 1 : ℕ) := by
    rw [BitVec.toInt_eq_toNat_of_lt (by rw [e]; omega), e]
  simp only [Scalar.minsi, IntOp.minsi]
  split <;> rename_i h
  · rw [BitVec.slt_iff_toInt_lt, toInt_small n hn, e2] at h
    rw [toNat_small n hn]; omega
  · rw [BitVec.slt_iff_toInt_lt, toInt_small n hn, e2] at h
    rw [e]; omega

theorem ix0_eq (i : grid0.Coords) : cc0_transform_0 inb_S1_S1_0 numel1_S1 T.pf i = ![min (i 0).val ((T.na z1).toNat - 1), 0] := by
  have e : (Scalar.minsi (BitVec.ofNat 32 (i 0).val) (Scalar.subi (T.pf.at 1 (Rect.unit (s := S1) ![0] S1.size inb_S1_S1_0) numel1_S1) 1#32)).toNat
      = min (i 0).val ((T.na z1).toNat - 1) := by
    rw [T.pf_at_na inb_S1_S1_0 numel1_S1]; exact min_word _ (coord_lt i) _ (T.na_pos z1)
  exact congrArg (fun n => (![n, 0] : Fin 2 → Nat)) e
theorem ix1_eq (i : grid0.Coords) : cc0_transform_1 k0_off1_inb numel1_S1 T.pf i = ![(T.te (at97 (i 0).val (coord_lt i))).toNat, 0, 0] := by
  exact congrArg (fun w : BitVec 32 => (![w.toNat, 0, 0] : Fin 3 → Nat)) (T.pf_at_te i (k0_off1_inb i) numel1_S1)
theorem ix2_eq (i : grid0.Coords) : cc0_transform_2 k0_off1_inb numel1_S1 T.pf i = ![(T.te (at97 (i 0).val (coord_lt i))).toNat, 0, 0] := by
  exact congrArg (fun w : BitVec 32 => (![w.toNat, 0, 0] : Fin 3 → Nat)) (T.pf_at_te i (k0_off1_inb i) numel1_S1)
theorem ix3_eq (i : grid0.Coords) : cc0_transform_3 k0_off1_inb numel1_S1 T.pf i = ![(T.te (at97 (i 0).val (coord_lt i))).toNat, 0, 0] := by
  exact congrArg (fun w : BitVec 32 => (![w.toNat, 0, 0] : Fin 3 → Nat)) (T.pf_at_te i (k0_off1_inb i) numel1_S1)

/-- Every block lies inside its array. -/
theorem ok : ok0 (F := Ideal) T.pf := by
  refine ⟨fun i => ⟨fun a => ?_, .inl rfl⟩, fun i => ⟨fun a => ?_, .inl rfl⟩, fun i => ⟨fun a => ?_, .inl rfl⟩, fun i => ⟨fun a => ?_, .inl rfl⟩⟩
  · rw [ix0_eq]
    have := coord_lt i
    fin_cases a
    · show (min (i 0).val ((T.na z1).toNat - 1) + 1) * 256 ≤ 24832; omega
    · show (0 + 1) * 2048 ≤ 2048; omega
  · rw [ix1_eq]
    have := T.te_lt (at97 (i 0).val (coord_lt i))
    fin_cases a
    · show ((T.te (at97 (i 0).val (coord_lt i))).toNat + 1) * 1 ≤ 32; omega
    · show (0 + 1) * 2048 ≤ 2048; omega
    · show (0 + 1) * 512 ≤ 512; omega
  · rw [ix2_eq]
    have := T.te_lt (at97 (i 0).val (coord_lt i))
    fin_cases a
    · show ((T.te (at97 (i 0).val (coord_lt i))).toNat + 1) * 1 ≤ 32; omega
    · show (0 + 1) * 2048 ≤ 2048; omega
    · show (0 + 1) * 512 ≤ 512; omega
  · rw [ix3_eq]
    have := T.te_lt (at97 (i 0).val (coord_lt i))
    fin_cases a
    · show ((T.te (at97 (i 0).val (coord_lt i))).toNat + 1) * 1 ≤ 32; omega
    · show (0 + 1) * 512 ≤ 512; omega
    · show (0 + 1) * 2048 ≤ 2048; omega
end Tables

/-! ## The pipeline at the tables -/

variable (T : Tables)
def adm : (pcfg0 (F := Ideal)).Adm := ⟨T.pf, T.ok⟩
abbrev cfgA : Pipeline.Cfg sig Λ₀ := cfg0 (F := Ideal) (adm T)
abbrev pcs : Fin 1 → Pipeline.Cfg sig Λ₀ := Pipeline.pin (pcfgs (F := Ideal)) fun _ => adm T

/-- Point `t`'s coordinates. -/
abbrev crd (t : Fin (cfgA T).N) : (cfgA T).grid.Coords := (cfgA T).grid.coords t
theorem crd_all : ∀ t : Fin grid0.N, ((grid0.coords t) 0).val = t.val := by decide +kernel
theorem crd_val (t : Fin (cfgA T).N) : ((crd T t) 0).val = t.val := crd_all t
theorem lt97 (t : Fin (cfgA T).N) : t.val < 97 := t.isLt

/-- Whether tile `n` is active. -/
abbrev act (n : ℕ) : Prop := (n : ℤ) < (T.na z1).toInt

theorem idle4 (t : Fin (cfgA T).N) : (cfgA T).idle (4 : Fin 5) ((cfgA T).grid.coords t) = false := by
  show (!(k0_cond1 (crd T t) (T.pf.atD 1 ![0]) == 1#1) && !(k0_cond3 (crd T t) (T.pf.atD 1 ![0]) == 1#1)) = false
  rw [pf_atD_na]
  rcases lt_or_ge ((crd T t 0).val : ℤ) (T.na z1).toInt with h | h
  · rw [(cond1_iff (crd T t) _).2 h]; rfl
  · rw [(cond3_iff (crd T t) _).2 h]; simp
theorem flush_all : ∀ t : Fin grid0.N, Pipeline.Window.flushOf grid0 true cc0_transform_4 t = true := by decide +kernel
theorem flush4 (t : Fin (cfgA T).N) : ((cfgA T).win (4 : Fin 5)).flush t = true := flush_all t
theorem fresh4 (n : ℕ) (h : n < (cfgA T).N) : (cfgA T).fresh (4 : Fin 5) n = true := by
  cases n with
  | zero => exact Pipeline.Cfg.fresh_zero _ _
  | succ n => rw [Pipeline.Cfg.fresh_succ _ _ _ (Nat.lt_of_succ_lt h), flush4]; rfl

end Cert.Kernel2Ideal.Moe
-- ==== Proof.Moe.Ideal.Blocks.lean ====
/-
  The blocks a tile reads: its 256 rows of the arranged activations, and the three weight blocks of its expert.
-/
module

public import proofs.«01_k».proof.Proof.Moe.Ideal.Tables
public import Idealize.ShloMosaic.Lib.Pipeline.FrameBody
public import Idealize.ShloMosaic.Lib.Pipeline.ValueKit

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Tables
variable (T : Tables)
variable (m : (ℓ : Loc nD τ sig) → Buf (Elt Ideal) ℓ) (ρ : Dev nD → PrngReg)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The activations and the experts' weights, as the launch holds them. -/
abbrev argX (c : Dev nD) : Vec Ideal S24832x2048 .f32 := m ((c : Thread nD τ).loc main_arg2)
abbrev argG (c : Dev nD) : Vec Ideal S32x2048x512 .f32 := m ((c : Thread nD τ).loc main_arg3)
abbrev argU (c : Dev nD) : Vec Ideal S32x2048x512 .f32 := m ((c : Thread nD τ).loc main_arg4)
abbrev argD (c : Dev nD) : Vec Ideal S32x512x2048 .f32 := m ((c : Thread nD τ).loc main_arg5)

/-- The expert of tile `t`. -/
def ex (n : ℕ) (h : n < 97) : Fin 32 := ⟨(T.te (at97 n h)).toNat, T.te_lt _⟩
/-- The row block tile `n` reads. -/
def rowOf (n : ℕ) : ℕ := min n ((T.na z1).toNat - 1)

theorem crd_at (t : Fin (cfgA T).N) : at97 ((crd T t) 0).val (coord_lt (crd T t)) = at97 t.val (lt97 T t) := by
  apply eq_at97; exact crd_val T t

theorem idx0 (t : Fin (cfgA T).N) : ((cfgA T).win (0 : Fin 5)).index t (0 : Fin 2) = rowOf T t.val ∧ ((cfgA T).win (0 : Fin 5)).index t (1 : Fin 2) = 0 := by
  have e : ((cfgA T).win (0 : Fin 5)).index t = ![rowOf T t.val, 0] := by
    show cc0_transform_0 inb_S1_S1_0 numel1_S1 T.pf (crd T t) = _
    rw [ix0_eq, crd_val]; rfl
  exact ⟨congrFun e (0 : Fin 2), congrFun e (1 : Fin 2)⟩
theorem idx1 (t : Fin (cfgA T).N) : ((cfgA T).win (1 : Fin 5)).index t (0 : Fin 3) = (ex T t.val (lt97 T t)).val ∧ ((cfgA T).win (1 : Fin 5)).index t (1 : Fin 3) = 0 ∧ ((cfgA T).win (1 : Fin 5)).index t (2 : Fin 3) = 0 := by
  have e : ((cfgA T).win (1 : Fin 5)).index t = ![(ex T t.val (lt97 T t)).val, 0, 0] := by
    show cc0_transform_1 k0_off1_inb numel1_S1 T.pf (crd T t) = _
    rw [ix1_eq, crd_at]; rfl
  exact ⟨congrFun e (0 : Fin 3), congrFun e (1 : Fin 3), congrFun e (2 : Fin 3)⟩
theorem idx2 (t : Fin (cfgA T).N) : ((cfgA T).win (2 : Fin 5)).index t (0 : Fin 3) = (ex T t.val (lt97 T t)).val ∧ ((cfgA T).win (2 : Fin 5)).index t (1 : Fin 3) = 0 ∧ ((cfgA T).win (2 : Fin 5)).index t (2 : Fin 3) = 0 := by
  have e : ((cfgA T).win (2 : Fin 5)).index t = ![(ex T t.val (lt97 T t)).val, 0, 0] := by
    show cc0_transform_2 k0_off1_inb numel1_S1 T.pf (crd T t) = _
    rw [ix2_eq, crd_at]; rfl
  exact ⟨congrFun e (0 : Fin 3), congrFun e (1 : Fin 3), congrFun e (2 : Fin 3)⟩
theorem idx3 (t : Fin (cfgA T).N) : ((cfgA T).win (3 : Fin 5)).index t (0 : Fin 3) = (ex T t.val (lt97 T t)).val ∧ ((cfgA T).win (3 : Fin 5)).index t (1 : Fin 3) = 0 ∧ ((cfgA T).win (3 : Fin 5)).index t (2 : Fin 3) = 0 := by
  have e : ((cfgA T).win (3 : Fin 5)).index t = ![(ex T t.val (lt97 T t)).val, 0, 0] := by
    show cc0_transform_3 k0_off1_inb numel1_S1 T.pf (crd T t) = _
    rw [ix3_eq, crd_at]; rfl
  exact ⟨congrFun e (0 : Fin 3), congrFun e (1 : Fin 3), congrFun e (2 : Fin 3)⟩

theorem rowOf_lt (n : ℕ) (h : n < 97) (r : Fin 256) : 256 * rowOf T n + r.val < 24832 := by
  have := r.isLt; unfold rowOf; omega

theorem read_x (c : Dev nD) (t : Fin (cfgA T).N) (r : Fin 256) (e : Fin 2048) :
    iblk T m ρ c (0 : Fin 5) t (ix2 r e) = argX m c (ix2 ⟨256 * rowOf T t.val + r.val, rowOf_lt T t.val (lt97 T t) r⟩ e) := by
  obtain ⟨e0, e1⟩ := idx0 T t
  blk_point [iblk, s₀, argX, e0, e1]
theorem read_g (c : Dev nD) (t : Fin (cfgA T).N) (d : Fin 2048) (f : Fin 512) :
    iblk T m ρ c (1 : Fin 5) t (ix3 0 d f) = argG m c (ix3 (ex T t.val (lt97 T t)) d f) := by
  obtain ⟨e0, e1, e2⟩ := idx1 T t
  blk_point [iblk, s₀, argG, e0, e1, e2]
theorem read_u (c : Dev nD) (t : Fin (cfgA T).N) (d : Fin 2048) (f : Fin 512) :
    iblk T m ρ c (2 : Fin 5) t (ix3 0 d f) = argU m c (ix3 (ex T t.val (lt97 T t)) d f) := by
  obtain ⟨e0, e1, e2⟩ := idx2 T t
  blk_point [iblk, s₀, argU, e0, e1, e2]
theorem read_d (c : Dev nD) (t : Fin (cfgA T).N) (f : Fin 512) (d : Fin 2048) :
    iblk T m ρ c (3 : Fin 5) t (ix3 0 f d) = argD m c (ix3 (ex T t.val (lt97 T t)) f d) := by
  obtain ⟨e0, e1, e2⟩ := idx3 T t
  blk_point [iblk, s₀, argD, e0, e1, e2]

/-- The blocks as arrays of their literal shapes. -/
abbrev bx (c : Dev nD) (t : Fin (cfgA T).N) : Vec Ideal S256x2048 .f32 := iblk T m ρ c (0 : Fin 5) t
abbrev bg (c : Dev nD) (t : Fin (cfgA T).N) : Vec Ideal S1x2048x512 .f32 := iblk T m ρ c (1 : Fin 5) t
abbrev bu (c : Dev nD) (t : Fin (cfgA T).N) : Vec Ideal S1x2048x512 .f32 := iblk T m ρ c (2 : Fin 5) t
abbrev bd (c : Dev nD) (t : Fin (cfgA T).N) : Vec Ideal S1x512x2048 .f32 := iblk T m ρ c (3 : Fin 5) t

theorem ext_blk {a b : ℕ} {α : Type} (f g : (⟨3, ![1, a, b]⟩ : Shape).Idx → α) (h : ∀ (i : Fin a) (j : Fin b), f (ix3 0 i j) = g (ix3 0 i j)) : f = g := by
  funext y
  have e : y = ix3 (0 : Fin 1) (y 1) (y 2) := funext fun k => by
    fin_cases k
    · exact Subsingleton.elim (α := Fin 1) _ _
    · rfl
    · rfl
  rw [e]; exact h _ _

/-- Two tiles of one expert read the same weight blocks. -/
theorem same_g (c : Dev nD) (t t' : Fin (cfgA T).N) (h : ex T t.val (lt97 T t) = ex T t'.val (lt97 T t')) : bg T m ρ c t = bg T m ρ c t' :=
  ext_blk _ _ fun i j => (read_g T m ρ c t i j).trans (by rw [h]; exact (read_g T m ρ c t' i j).symm)
theorem same_u (c : Dev nD) (t t' : Fin (cfgA T).N) (h : ex T t.val (lt97 T t) = ex T t'.val (lt97 T t')) : bu T m ρ c t = bu T m ρ c t' :=
  ext_blk _ _ fun i j => (read_u T m ρ c t i j).trans (by rw [h]; exact (read_u T m ρ c t' i j).symm)
theorem same_d (c : Dev nD) (t t' : Fin (cfgA T).N) (h : ex T t.val (lt97 T t) = ex T t'.val (lt97 T t')) : bd T m ρ c t = bd T m ρ c t' :=
  ext_blk _ _ fun i j => (read_d T m ρ c t i j).trans (by rw [h]; exact (read_d T m ρ c t' i j).symm)

end Cert.Kernel2Ideal.Moe
-- ==== Proof.Moe.Ideal.Frame.lean ====
/-
  The frame of the expert call at any tables in range: every execution ends, the argument arrays keep their contents,
  and the result holds, tile by tile, the feed-forward of the tile's rows through its expert, or zeros past the active
  tiles. Between points the scratch buffers hold the rounded weights of the expert of the tile before, if it was active.
-/
module

public import proofs.«01_k».proof.Proof.Moe.Ideal.Blocks
public import Idealize.ShloMosaic.Lib.Pipeline.TableIdle
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Tables

/-- The resource algebra of the pipeline's staging cells. -/
abbrev EP : Emb (UR sig nD τ) 𝕄 := emb₁

variable (T : Tables)
variable (m : (ℓ : Loc nD τ sig) → Buf (Elt Ideal) ℓ) (ρ : Dev nD → PrngReg)

/-- The staging buffer of each window at point `t`. -/
abbrev ms0_0 (t : Fin (cfgA T).N) : Memref sig .tc .vmem S256x2048 .f32 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x2048x512 .f32 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x2048x512 .f32 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x512x2048 .f32 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S256x2048 .f32 := spec0_4.stage ((cfgA T).slots t (4 : Fin 5))
abbrev hs0_4 (t : Fin (cfgA T).N) : (ms0_4 T t).IsWhole := hstage0_4 (((cfgA T).slots t (4 : Fin 5)).cast nbuf0_4)

/-! ## What is kept between points -/

def Kept0 (c : Dev nD) (n : ℕ) (a : Buf (Elt Ideal) ((c : Thread nD τ).loc cc0_scratch0)) : Prop :=
  ∀ s : Fin (cfgA T).N, n = s.val + 1 → act T s.val → a = held0 c (bg T m ρ c s)
def Kept1 (c : Dev nD) (n : ℕ) (a : Buf (Elt Ideal) ((c : Thread nD τ).loc cc0_scratch1)) : Prop :=
  ∀ s : Fin (cfgA T).N, n = s.val + 1 → act T s.val → a = held1 c (bu T m ρ c s)
def Kept2 (c : Dev nD) (n : ℕ) (a : Buf (Elt Ideal) ((c : Thread nD τ).loc cc0_scratch2)) : Prop :=
  ∀ s : Fin (cfgA T).N, n = s.val + 1 → act T s.val → a = held2 c (bd T m ρ c s)

theorem kept_next0 (c : Dev nD) (t : Fin (cfgA T).N) (a) (h : a = held0 c (bg T m ρ c t)) : Kept0 T m ρ c (t.val + 1) a := fun s hs _ => by
  have : s = t := Fin.ext (by omega)
  rw [this, h]
theorem kept_next1 (c : Dev nD) (t : Fin (cfgA T).N) (a) (h : a = held1 c (bu T m ρ c t)) : Kept1 T m ρ c (t.val + 1) a := fun s hs _ => by
  have : s = t := Fin.ext (by omega)
  rw [this, h]
theorem kept_next2 (c : Dev nD) (t : Fin (cfgA T).N) (a) (h : a = held2 c (bd T m ρ c t)) : Kept2 T m ρ c (t.val + 1) a := fun s hs _ => by
  have : s = t := Fin.ext (by omega)
  rw [this, h]
theorem kept_none0 (c : Dev nD) (t : Fin (cfgA T).N) (h : ¬ act T t.val) (a) : Kept0 T m ρ c (t.val + 1) a := fun s hs ha => by
  have : s = t := Fin.ext (by omega)
  exact absurd (this ▸ ha) h
theorem kept_none1 (c : Dev nD) (t : Fin (cfgA T).N) (h : ¬ act T t.val) (a) : Kept1 T m ρ c (t.val + 1) a := fun s hs ha => by
  have : s = t := Fin.ext (by omega)
  exact absurd (this ▸ ha) h
theorem kept_none2 (c : Dev nD) (t : Fin (cfgA T).N) (h : ¬ act T t.val) (a) : Kept2 T m ρ c (t.val + 1) a := fun s hs ha => by
  have : s = t := Fin.ext (by omega)
  exact absurd (this ▸ ha) h

/-- At an active point that does not load, the scratch buffers hold the rounded weights of its own expert. -/
theorem kept_here (c : Dev nD) (t : Fin (cfgA T).N) (a0 a1 a2) (ha : act T t.val) (h : ¬ Loads T.te (crd T t))
    (k0 : Kept0 T m ρ c t.val a0) (k1 : Kept1 T m ρ c t.val a1) (k2 : Kept2 T m ρ c t.val a2) :
    a0 = held0 c (bg T m ρ c t) ∧ a1 = held1 c (bu T m ρ c t) ∧ a2 = held2 c (bd T m ρ c t) := by
  obtain ⟨h0, h1⟩ := keeps T.te (crd T t) h
  have hv := crd_val T t
  have ht : t.val ≠ 0 := by rw [← hv]; exact h0
  have hN := lt97 T t
  let s : Fin (cfgA T).N := ⟨t.val - 1, by have := t.isLt; omega⟩
  have hs : t.val = s.val + 1 := by show t.val = t.val - 1 + 1; omega
  have hact : act T s.val := by unfold act at ha ⊢; rw [hs] at ha; push_cast at ha; omega
  have he : ex T s.val (lt97 T s) = ex T t.val (lt97 T t) := by
    apply Fin.ext
    show (T.te (at97 s.val (lt97 T s))).toNat = (T.te (at97 t.val (lt97 T t))).toNat
    have e1 : at97 ((crd T t 0).val - 1) (by have := coord_lt (crd T t); omega) = at97 s.val (lt97 T s) :=
      eq_at97 _ _ _ (by show (crd T t 0).val - 1 = t.val - 1; rw [hv])
    rw [crd_at, e1] at h1
    rw [h1]
  exact ⟨(k0 s hs hact).trans (by rw [same_g T m ρ c s t he]), (k1 s hs hact).trans (by rw [same_u T m ρ c s t he]),
    (k2 s hs hact).trans (by rw [same_d T m ρ c s t he])⟩

/-- The invariant before point `t`: the scratch buffers as kept, and the body's halves of the tables. -/
def Phi (c : Dev nD) (t : Fin ((cfgA T).N + 1)) : sProp 𝕄 :=
  iprop((∃ a, ⌜Kept0 T m ρ c t.val a⌝ ∗ (scM0_0.view.loc (c : Thread nD τ) ↦{fullShare} a)) ∗ (∃ a, ⌜Kept1 T m ρ c t.val a⌝ ∗ (scM0_1.view.loc (c : Thread nD τ) ↦{fullShare} a)) ∗ (∃ a, ⌜Kept2 T m ρ c t.val a⌝ ∗ (scM0_2.view.loc (c : Thread nD τ) ↦{fullShare} a)) ∗ (tbM0_0.view.loc (c : Thread nD τ) ↦{fullShare.right} T.te) ∗ (tbM0_1.view.loc (c : Thread nD τ) ↦{fullShare.right} T.na))

/-- What a tile's block of the result holds. -/
def tile (c : Dev nD) (t : Fin (cfgA T).N) : Vec Ideal S256x2048 .f32 :=
  if act T t.val then ffn (bx T m ρ c t) (bg T m ρ c t) (bu T m ρ c t) (bd T m ρ c t) else k0_pay5 (F := Ideal)

def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => tile T m ρ c t
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = tile T m ρ c t := rfl
theorem after0_4_ffn (c : Dev nD) (t : Fin (cfgA T).N) (h : act T t.val) : (dats T m ρ 0 c).after (4 : Fin 5) t = ffn (bx T m ρ c t) (bg T m ρ c t) (bu T m ρ c t) (bd T m ρ c t) :=
  (after0_4 T m ρ c t).trans (if_pos h)
theorem after0_4_zero (c : Dev nD) (t : Fin (cfgA T).N) (h : ¬ act T t.val) : (dats T m ρ 0 c).after (4 : Fin 5) t = k0_pay5 (F := Ideal) :=
  (after0_4 T m ρ c t).trans (if_neg h)

/-- An input window's buffer holds its block when the body runs. -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)
/-- The result's buffer is written back at every point, so it holds anything when the body runs. -/
theorem before0_4 (c : Dev nD) (t : Fin (cfgA T).N) (d) : (dats T m ρ 0 c).before (4 : Fin 5) t d = d := by
  rw [(dats T m ρ 0 c).before_out_traj (4 : Fin 5) rfl (fun _ _ => rfl) (fun t _ hi _ => absurd ((idle4 T t).symm.trans hi) Bool.false_ne_true) t.val t rfl d]
  rw [if_pos (fresh4 T t.val t.isLt)]

/-! ## The body at a point -/

abbrev bodyAt0 (t : Fin (cfgA T).N) : Prog (TpuEff nD τ sig (Elt Ideal) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _) (Memref.whole cc0_scratch1) (Memref.isWhole_whole _) (Memref.whole cc0_scratch2) (Memref.isWhole_whole _)

set_option maxHeartbeats 4000000 in
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  have i4 := idle4 T t
  have f4 := flush4 T t
  rewrite [i4]
  simp only [before0_0, before0_1, before0_2, before0_3, before0_4, after0_0, after0_1, after0_2, after0_3, f4]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  have hv := crd_val T t
  by_cases q0 : act T t.val
  · have k0_h1 : k0_cond1 (crd T t) (View.readAt (Elt Ideal) (tbM0_1).view (Rect.unit (s := S1) ![0] S1.size inb_S1_S1_0).toLoadRect T.na (Shape.Idx.first (numel1_S1.symm ▸ Nat.one_pos))) = 1#1 := by
      rw [cond1_iff, readAt_na, hv]; exact q0
    have k0_h3 : ¬ k0_cond3 (crd T t) (View.readAt (Elt Ideal) (tbM0_1).view (Rect.unit (s := S1) ![0] S1.size inb_S1_S1_0).toLoadRect T.na (Shape.Idx.first (numel1_S1.symm ▸ Nat.one_pos))) = 1#1 := by
      rw [cond3_iff, readAt_na, hv]; exact not_le.2 q0
    by_cases hc1 : Loads T.te (crd T t)
    · skip
      simp only [after0_4_ffn T m ρ c t q0]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.na (bx T m ρ c t) (bg T m ρ c t) (bu T m ρ c t) (bd T m ρ c t) k0_h1 hc1 k0_h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact kept_next0 T m ρ c t _ (s0_A _ _ _ _ _ _ _ _ _ _ _ _ _ _ _ _ _ _ k0_h1 hc1 k0_h3)
        isplitl [HS1]
        · iexists _; isplitr; swap
          · iexact HS1
          · ipureintro; exact kept_next1 T m ρ c t _ (s1_A _ _ _ _ _ _ _ _ _ _ _ _ _ _ _ _ _ _ k0_h1 hc1 k0_h3)
        isplitl [HS2]
        · iexists _; isplitr; swap
          · iexact HS2
          · ipureintro; exact kept_next2 T m ρ c t _ (s2_A _ _ _ _ _ _ _ _ _ _ _ _ _ _ _ _ _ _ k0_h1 hc1 k0_h3)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_A_4 c _ _ _ _ _ _ _ _ _ _ _ _ _ _ _ _ _ k0_h1 hc1 k0_h3)).trans (out_A _ _ _ _ _ _ _ _ _ _ _ _ _ _ _ _ _ _ k0_h1 hc1 k0_h3)
    · skip
      simp only [after0_4_ffn T m ρ c t q0]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      obtain ⟨e0, e1, e2⟩ := kept_here T m ρ c t a0 a1 a2 q0 hc1 ha0 ha1 ha2
      subst e0 e1 e2
      iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.na (bx T m ρ c t) (bg T m ρ c t) (bu T m ρ c t) (bd T m ρ c t) (held0 c (bg T m ρ c t)) (held1 c (bu T m ρ c t)) (held2 c (bd T m ρ c t)) k0_h1 hc1 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact kept_next0 T m ρ c t _ (s0_B _ _ _ _ _ _ _ _ _ _ _ _ _ _ _ _ _ _ _ _ _ k0_h1 hc1 k0_h3)
        isplitl [HS1]
        · iexists _; isplitr; swap
          · iexact HS1
          · ipureintro; exact kept_next1 T m ρ c t _ (s1_B _ _ _ _ _ _ _ _ _ _ _ _ _ _ _ _ _ _ _ _ _ k0_h1 hc1 k0_h3)
        isplitl [HS2]
        · iexists _; isplitr; swap
          · iexact HS2
          · ipureintro; exact kept_next2 T m ρ c t _ (s2_B _ _ _ _ _ _ _ _ _ _ _ _ _ _ _ _ _ _ _ _ _ k0_h1 hc1 k0_h3)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact (View.read_writes_of_cover _ _ _ _ _ (cover0_B_4 c _ _ _ _ _ _ _ _ _ _ _ _ _ _ _ _ _ _ _ _ k0_h1 hc1 k0_h3)).trans (out_B _ _ _ _ _ _ _ _ _ _ _ _ _ _ _ _ _ _ k0_h1 hc1 k0_h3)
  · have k0_h1 : ¬ k0_cond1 (crd T t) (View.readAt (Elt Ideal) (tbM0_1).view (Rect.unit (s := S1) ![0] S1.size inb_S1_S1_0).toLoadRect T.na (Shape.Idx.first (numel1_S1.symm ▸ Nat.one_pos))) = 1#1 := by
      rw [cond1_iff, readAt_na, hv]; exact q0
    have k0_h3 : k0_cond3 (crd T t) (View.readAt (Elt Ideal) (tbM0_1).view (Rect.unit (s := S1) ![0] S1.size inb_S1_S1_0).toLoadRect T.na (Shape.Idx.first (numel1_S1.symm ▸ Nat.one_pos))) = 1#1 := by
      rw [cond3_iff, readAt_na, hv]; exact not_lt.1 q0
    simp only [after0_4_zero T m ρ c t q0]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.na (bx T m ρ c t) (bg T m ρ c t) (bu T m ρ c t) (bd T m ρ c t) a0 a1 a2 k0_h1 k0_h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; exact kept_none0 T m ρ c t q0 _
      isplitl [HS1]
      · iexists _; isplitr; swap
        · iexact HS1
        · ipureintro; exact kept_none1 T m ρ c t q0 _
      isplitl [HS2]
      · iexists _; isplitr; swap
        · iexact HS2
        · ipureintro; exact kept_none2 T m ρ c t q0 _
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (View.read_writes_of_cover _ _ _ _ _ (cover0_C_4 c _ _ _ _ _ _ _ _ _ _ _ _ _ _ _ _ _ _ _ _ k0_h1 k0_h3)).trans (out_C _ _ _ _ _ _ _ _ _ _ _ _ _ _ _ _ _ _ _ _ _ k0_h1 k0_h3)

theorem body_obligation (c : Dev nD) : BodyObligation (dats T m ρ 0 c) (defs₀ (F := Ideal)) Variants.none () Set.univ := fun t => by
  rw [bigSep_W0]
  exact sound_body T m ρ c t

/-! ## The launch -/

def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro s hs; exact absurd hs.symm (Nat.succ_ne_zero _)
  isplitl [HS1]
  · iexists a1; isplitr; swap
    · iexact HS1
    · ipureintro; intro s hs; exact absurd hs.symm (Nat.succ_ne_zero _)
  isplitl [HS2]
  · iexists a2; isplitr; swap
    · iexact HS2
    · ipureintro; intro s hs; exact absurd hs.symm (Nat.succ_ne_zero _)
  isplitl [HT0]
  · iexact HT0
  iexact HT1

theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The final state: every array at what the pipeline leaves in it, the tables as they were. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds the tables. -/
def Holds (m : (ℓ : Loc nD τ sig) → Buf (Elt Ideal) ℓ) : Prop :=
  (∀ c : Dev nD, m ((c : Thread nD τ).loc main_arg0) = T.te) ∧ (∀ c : Dev nD, m ((c : Thread nD τ).loc main_arg1) = T.na)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds T m) : θ_run (defs (F := Ideal)) (onTc (τ := τ) (main (F := Ideal))) (s₀ m ρ) (QC T m ρ) :=
  (θ_run defs _ _).mono (fun _ h => h.1) (run_main_quiescent T m ρ hp)

/-- The argument arrays end unchanged. -/
theorem kept_args (hp : Holds T m) (r) (h : QC T m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩

/-- The frame at tables in range. -/
theorem frame_of (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept_args T m ρ hp r h.1, h.2⟩) (run_main_quiescent T m ρ hp)

end Cert.Kernel2Ideal.Moe
-- ==== Proof.Moe.Ideal.Frames.lean ====
/-
  The frame under the experts' precondition: the tables it speaks of are in range, whatever they hold.
-/
module

public import proofs.«01_k».proof.Proof.Moe.Ideal.Frame
public import proofs.«01_k».proof.Proof.Moe.Pre

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables in a launch memory, from the precondition. -/
def tablesOf (m : (ℓ : Loc nD τ sig) → Buf (Elt Ideal) ℓ) (c : Dev nD)
    (h : (∀ j, (m ((c : Thread nD τ).loc main_arg0) j : BitVec 32).toNat < 32) ∧ ∀ j, 1 ≤ (m ((c : Thread nD τ).loc main_arg1) j : BitVec 32).toInt) : Tables where
  te := m ((c : Thread nD τ).loc main_arg0)
  na := m ((c : Thread nD τ).loc main_arg1)
  te_lt := h.1
  na_pos := h.2

theorem holds_tablesOf (m : (ℓ : Loc nD τ sig) → Buf (Elt Ideal) ℓ) (c : Dev nD) (h) : Holds (tablesOf m c h) m :=
  ⟨fun c' => by obtain rfl : c' = c := Subsingleton.elim _ _; rfl, fun c' => by obtain rfl : c' = c := Subsingleton.elim _ _; rfl⟩

end Cert.Kernel2Ideal.Moe
-- ==== Proof.Moe.Math.lean ====
/-
  The gated feed-forward over the extended reals: the two forms of the gate's activation are one number, and a sum over
  all experts of terms weighted by a one-hot choice is the chosen expert's sum.
-/
module

public import Idealize.ShloMosaic.PureOps.Ideal

@[expose] public section

noncomputable section

namespace Cert.Moe

open Idealize.ShloMosaic

theorem exp_nonneg (x : EReal) : 0 ≤ Ideal.exp x := by
  induction x with
  | bot => simp
  | coe r => rw [Ideal.exp_coe]; exact EReal.coe_nonneg.2 (Real.exp_pos r).le
  | top => simp

theorem one_add_exp_ne (x : EReal) : 1 + Ideal.exp x ≠ 0 := by
  have h : (1 : EReal) ≤ 1 + Ideal.exp x := le_add_of_nonneg_right (exp_nonneg x)
  intro e
  rw [e] at h
  exact absurd h (by norm_num)

/-- The activation `a / (1 + exp(-a))`, as a product with a quotient. -/
theorem silu_eq (a : EReal) : Ideal.div a (1 + Ideal.exp (0 - a)) = a * Ideal.div 1 (1 + Ideal.exp (-a)) := by
  rw [zero_sub]
  unfold Ideal.div
  simp only [one_add_exp_ne, ↓reduceIte, one_mul]
  try simp only [div_eq_mul_inv, one_mul]

/-- An element of the gated feed-forward of one row `x` at an expert's weights. -/
def unit (x : Fin 2048 → EReal) (wg wu : Fin 2048 → Fin 512 → EReal) (wd : Fin 512 → EReal) : EReal :=
  ∑ f : Fin 512, (∑ e : Fin 2048, x e * wg e f) * Ideal.div 1 (1 + Ideal.exp (-(∑ e : Fin 2048, x e * wg e f))) * (∑ e : Fin 2048, x e * wu e f) * wd f

/-- The sum over the experts, each weighted by whether it is the chosen one. -/
theorem choose_sum (k : Fin 32) (g : Fin 32 → EReal) (hk : g k = 1) (h0 : ∀ j, j ≠ k → g j = 0) (a w : Fin 32 → Fin 512 → EReal) :
    ∑ j : Fin 32, ∑ f : Fin 512, a j f * g j * w j f = ∑ f : Fin 512, a k f * w k f := by
  rw [Finset.sum_eq_single k]
  · simp only [hk, mul_one]
  · intro j _ hj
    simp only [h0 j hj, mul_zero, zero_mul, Finset.sum_const_zero]
  · intro h; exact absurd (Finset.mem_univ k) h

theorem none_sum (g : Fin 32 → EReal) (h0 : ∀ j, g j = 0) (a w : Fin 32 → Fin 512 → EReal) :
    ∑ j : Fin 32, ∑ f : Fin 512, a j f * g j * w j f = 0 := by
  simp only [h0, mul_zero, zero_mul, Finset.sum_const_zero]

end Cert.Moe

end
-- ==== Proof.Moe.Ideal.Ffn.lean ====
/-
  A tile's stored block, element by element: the gated feed-forward of each of its rows.
-/
module

public import proofs.«01_k».proof.Proof.Moe.Ideal.Steps
public import proofs.«01_k».proof.Proof.Moe.Math
public import Idealize.ShloMosaic.Lib.Pointwise

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ffn_at (x : Vec Ideal S256x2048 .f32) (wg wu : Vec Ideal S1x2048x512 .f32) (wd : Vec Ideal S1x512x2048 .f32) (r : Fin 256) (d : Fin 2048) :
    ffn x wg wu wd (ix2 r d) = Cert.Moe.unit (fun e => x (ix2 r e)) (fun e f => wg (ix3 0 e f)) (fun e f => wu (ix3 0 e f)) (fun f => wd (ix3 0 f d)) := by
  unfold Cert.Moe.unit
  pointwise [ffn, k0_pay4, k0_pay1, k0_pay2, k0_pay3]
  simp only [Cert.Moe.silu_eq]

theorem zero_at (i : S256x2048.Idx) : k0_pay5 (F := Ideal) i = (0 : EReal) := by
  pointwise [k0_pay5]

end Cert.Kernel2Ideal.Moe
-- ==== Proof.Moe.Ideal.Result.lean ====
/-
  The experts' result array: row `256 t + r` is the feed-forward of row `256 t + r` of the arranged activations through
  the weights of tile `t`'s expert, where the tile is served, and zero elsewhere.
-/
module

public import proofs.«01_k».proof.Proof.Moe.Ideal.Frame
public import proofs.«01_k».proof.Proof.Moe.Ideal.Ffn
public import Idealize.ShloMosaic.Lib.Pipeline.Covers

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Tables
variable (T : Tables)
variable (m : (ℓ : Loc nD τ sig) → Buf (Elt Ideal) ℓ) (ρ : Dev nD → PrngReg)

/-- Row `i` of the result, a row of tile `n`. -/
def resultRow (c : Dev nD) (n : ℕ) (h : n < 97) (i : Fin 24832) (d : Fin 2048) : EReal :=
  if act T n then
    Cert.Moe.unit (fun e => argX m c (ix2 i e)) (fun e f => argG m c (ix3 (ex T n h) e f)) (fun e f => argU m c (ix3 (ex T n h) e f))
      (fun f => argD m c (ix3 (ex T n h) f d))
  else 0

/-- The result array of the tables and the operands. -/
def result (c : Dev nD) : Vec Ideal S24832x2048 .f32 := fun i =>
  resultRow T m c ((i 0).val / 256) (Nat.div_lt_of_lt_mul (i 0).isLt) (i 0) (i 1)

theorem resultRow_of (c : Dev nD) {n n' : ℕ} (h : n < 97) (h' : n' < 97) (e : n = n') (i : Fin 24832) (d : Fin 2048) :
    resultRow T m c n h i d = resultRow T m c n' h' i d := by subst e; rfl

theorem result_at (c : Dev nD) (i : Fin 24832) (d : Fin 2048) :
    result T m c (ix2 i d) = resultRow T m c (i.val / 256) (by omega) i d := rfl

/-- A served tile reads its own rows. -/
theorem rowOf_act {n : ℕ} (h : act T n) : rowOf T n = n := by
  unfold act at h
  unfold rowOf
  have := T.na_pos z1
  rw [BitVec.toInt_eq_toNat_cond] at h this
  split at h <;> omega

/-- An element of a tile's stored block. -/
theorem tile_at (c : Dev nD) (t : Fin (cfgA T).N) (r : Fin 256) (d : Fin 2048) (h : 256 * t.val + r.val < 24832) :
    tile T m ρ c t (ix2 r d) = result T m c (ix2 ⟨256 * t.val + r.val, h⟩ d) := by
  rw [result_at, resultRow_of T m c _ (lt97 T t) (by simp only; omega)]
  unfold tile resultRow
  by_cases ha : act T t.val
  · rw [if_pos ha, if_pos ha, ffn_at]
    have hx : ∀ e, bx T m ρ c t (ix2 r e) = argX m c (ix2 ⟨256 * t.val + r.val, h⟩ e) := fun e =>
      (read_x T m ρ c t r e).trans (congrArg (fun n => argX m c (ix2 n e)) (Fin.ext (by simp only [rowOf_act T ha])))
    have hg := read_g T m ρ c t
    have hu := read_u T m ρ c t
    have hw := read_d T m ρ c t
    simp only [hx, hg, hu, hw]
  · rw [if_neg ha, if_neg ha]
    exact zero_at _

theorem idx_out : ∀ t : Fin grid0.N, cc0_transform_4 (grid0.coords t) = ![t.val, 0] := by decide +kernel

theorem idx4 (t : Fin (cfgA T).N) : ((cfgA T).win (4 : Fin 5)).index t (0 : Fin 2) = t.val ∧ ((cfgA T).win (4 : Fin 5)).index t (1 : Fin 2) = 0 := by
  have e : ((cfgA T).win (4 : Fin 5)).index t = ![t.val, 0] := idx_out t
  exact ⟨congrFun e (0 : Fin 2), congrFun e (1 : Fin 2)⟩

theorem nblk4 : ((cfgA T).win (4 : Fin 5)).nblk (0 : Fin 2) = 97 ∧ ((cfgA T).win (4 : Fin 5)).nblk (1 : Fin 2) = 1 :=
  ⟨(by decide : (24832 + 256 - 1) / 256 = 97), (by decide : (2048 + 2048 - 1) / 2048 = 1)⟩

/-- The tiles' blocks cover the result array. -/
theorem covers4 : ((cfgA T).win (4 : Fin 5)).Covers := by
  refine Pipeline.Window.covers_of_index_surj _ rfl (by decide : ∀ a : Fin 2, 0 < (![256, 2048] : Fin 2 → ℕ) a) fun β => ?_
  have h0 : (β (0 : Fin 2)).val < 97 := lt_of_lt_of_eq (β (0 : Fin 2)).isLt (nblk4 T).1
  have h1 : (β (1 : Fin 2)).val < 1 := lt_of_lt_of_eq (β (1 : Fin 2)).isLt (nblk4 T).2
  refine ⟨(⟨(β (0 : Fin 2)).val, h0⟩ : Fin 97), fun a => ?_⟩
  obtain ⟨e0, e1⟩ := idx4 T (⟨(β (0 : Fin 2)).val, h0⟩ : Fin 97)
  match a with
  | (0 : Fin 2) => exact e0
  | (1 : Fin 2) => exact e1.trans (by omega)

/-- The result array after the run. -/
theorem final (c : Dev nD) : (dats T m ρ 0 c).arrAt (4 : Fin 5) (cfgA T).N = result T m c := by
  refine (dats T m ρ 0 c).arrAt_eq_of_covers (4 : Fin 5) _ (covers4 T) fun t _ y => ?_
  obtain ⟨e0, e1⟩ := idx4 T t
  blk_simp
  rw [after0_4]
  have ht := lt97 T t
  let z : S256x2048.Idx := y
  have key : ∀ z : S256x2048.Idx, tile T m ρ c t z = result T m c (((((cfgA T).win (4 : Fin 5)).blk t).view.emb z : S24832x2048.Idx)) := by
    intro z
    idx_vars z
    have hb : 256 * t.val + z0.val < 24832 := by have := z0.isLt; omega
    rw [tile_at T m ρ c t z0 z1 hb]
    congr 1
    blk_ext [e0, e1]
  exact key z

end Cert.Kernel2Ideal.Moe
-- ==== Proof.Moe.Ref.lean ====
/-
  The reference's result array, element by element: every expert's feed-forward of the row, weighted by the one-hot choice
  of the row's tile, which leaves the chosen expert's where the tile is served and nothing elsewhere.
-/
module

public import proofs.«01_k».proof.Proof.Gen.Reference2Ideal.Run
public import proofs.«01_k».proof.Proof.Moe.Math
public import Idealize.ShloMosaic.Lib.Pointwise
public import Idealize.ShloMosaic.Lib.Tactic.CleanTypes

@[expose] public section

set_option maxRecDepth 16384

noncomputable section

namespace Cert.Moe

open Cert.Reference2Ideal Cert.Reference2Ideal.Gen Idealize.ShloMosaic Idealize.ShloMosaic.TcCoe Idealize.SL.Sem

/-- Every row through every expert. -/
abbrev Hidden := FVec Ideal S24832x32x512 .f32

/-- A projection of the rows through every expert's matrix. -/
def proj (x : FVec Ideal S24832x2048 .f32) (w : FVec Ideal S32x2048x512 .f32) : Hidden :=
  Host.dotGeneral dot_S24832x2048_S32x2048x512_S24832x32x512_1_1_0_02_n_n none x w

/-- The gate's activation, with the plain quotient. -/
def act1 (a : Hidden) : Hidden :=
  mulf a (Host.divf (broadcastInDim S24832x32x512 ![] bcast_S_S24832x32x512 (constant S_ .f32 0x3F800000#32))
    (addf (broadcastInDim S24832x32x512 ![] bcast_S_S24832x32x512 (constant S_ .f32 0x3F800000#32)) (Host.exp (Host.negf a))))

/-- A value a tile, on the tile's rows and every expert. -/
def rows97 {α : Type} (v : S97.Idx → α) : S24832x32.Idx → α :=
  broadcastInDim S24832x32 ![0, 1] bcast_S24832x1_S24832x32_0_1 (broadcastInDim S24832x1 ![0] bcast_S24832_S24832x1_0
    (shapeCast _ (broadcastInDim S97x256 ![0, 1] bcast_S97x1_S97x256_0_1 (broadcastInDim S97x1 ![0] bcast_S97_S97x1_0 v)) shapeCasts_S97x256_S24832))

/-- Which tiles are served. -/
def served (na : IVec S1 32) : IVec S97 1 :=
  cmpi .slt (iotaInDim S97 32 0) (broadcastInDim S97 ![] bcast_S_S97 (shapeCast _ na shapeCasts_S1_S_))

/-- The one-hot choice of expert, row by row. -/
def hot (te : IVec S97 32) : FVec Ideal S24832x32 .f32 :=
  uitofp .f32 (cmpi .eq (rows97 te) (broadcastInDim S24832x32 ![0, 1] bcast_S1x32_S24832x32_0_1 (iotaInDim S1x32 32 1)))

/-- The choice, nothing where the tile is not served. -/
def gate (te : IVec S97 32) (na : IVec S1 32) : FVec Ideal S24832x32 .f32 :=
  select (rows97 (served na)) (hot te) (broadcastInDim S24832x32 ![] bcast_S_S24832x32 (id (constant S_ .f32 0x00000000#32)))

/-- The choice, along an expert's hidden row. -/
def wide (g : FVec Ideal S24832x32 .f32) : Hidden :=
  broadcastInDim S24832x32x512 ![0, 1, 2] bcast_S24832x32x1_S24832x32x512_0_1_2 (broadcastInDim S24832x32x1 ![0, 1] bcast_S24832x32_S24832x32x1_0_1 g)

/-- Back to the model's width, summed over the experts. -/
def down (a : Hidden) (w : FVec Ideal S32x512x2048 .f32) : FVec Ideal S24832x2048 .f32 :=
  Host.dotGeneral dot_S24832x32x512_S32x512x2048_S24832x2048_12_01_0_2_n_n none a w

theorem proj_at (x : FVec Ideal S24832x2048 .f32) (w : FVec Ideal S32x2048x512 .f32) (t : Fin 24832) (j : Fin 32) (f : Fin 512) :
    proj x w (ix3 t j f) = ∑ e : Fin 2048, x (ix2 t e) * w (ix3 j e f) := by
  pointwise [proj]

theorem act1_at (a : Hidden) (t : Fin 24832) (j : Fin 32) (f : Fin 512) :
    act1 a (ix3 t j f) = a (ix3 t j f) * Ideal.div 1 (1 + Ideal.exp (-(a (ix3 t j f)))) := by
  pointwise [act1]

theorem rows97_at {α : Type} (v : S97.Idx → α) (t : Fin 24832) (j : Fin 32) :
    rows97 v (ix2 t j) = v (ix1 ⟨t.val / 256, by omega⟩) := by
  pointwise [rows97]

theorem wide_at (g : FVec Ideal S24832x32 .f32) (t : Fin 24832) (j : Fin 32) (f : Fin 512) : wide g (ix3 t j f) = g (ix2 t j) := by
  pointwise [wide]

theorem served_at (na : IVec S1 32) (n : Fin 97) : served na (ix1 n) = IntOp.cmpi .slt (BitVec.ofNat 32 n.val) (na (ix1 0)) := by
  pointwise [served]

/-- A bit that is not one is zero. -/
theorem bit_zero {b : BitVec 1} (h : b ≠ 1#1) : b = 0#1 := by
  rcases (by decide +revert : ∀ b : BitVec 1, b = 0#1 ∨ b = 1#1) b with h' | h'
  · exact h'
  · exact absurd h' h

/-- A comparison for equality, as a number. -/
theorem one_hot (a b : BitVec 32) : (FloatOps.uitofp FTy.f32 (IntOp.cmpi CmpIPredicate.eq a b) : Ideal .f32) = if a = b then (1 : EReal) else 0 := by
  show (((IntOp.cmpi CmpIPredicate.eq a b).toNat : ℝ) : EReal) = _
  by_cases h : a = b
  · rw [if_pos h, IntOp.cmpi_eq.2 h]; simp
  · rw [if_neg h, bit_zero fun e => h (IntOp.cmpi_eq.1 e)]; simp

theorem hot_at (te : IVec S97 32) (t : Fin 24832) (j : Fin 32) :
    hot te (ix2 t j) = if te (ix1 ⟨t.val / 256, by omega⟩) = BitVec.ofNat 32 j.val then (1 : EReal) else 0 := by
  pointwise [hot, rows97_at]
  exact one_hot _ _

/-- A choice by a tile's number being below the count of served tiles. -/
theorem by_served (n : ℕ) (hn : n < 97) (na : BitVec 32) (x y : EReal) :
    Scalar.select (IntOp.cmpi .slt (BitVec.ofNat 32 n) na) x y = if (n : ℤ) < na.toInt then x else y := by
  have e : (BitVec.ofNat 32 n).toInt = (n : ℤ) := by rw [BitVec.toInt_eq_toNat_cond, BitVec.toNat_ofNat]; omega
  by_cases h : (n : ℤ) < na.toInt
  · rw [if_pos h, IntOp.cmpi_slt.2 (by rw [e]; exact h)]; rfl
  · rw [if_neg h]
    rw [bit_zero fun e' => h (e ▸ IntOp.cmpi_slt.1 e')]; rfl

theorem gate_at (te : IVec S97 32) (na : IVec S1 32) (t : Fin 24832) (j : Fin 32) :
    gate te na (ix2 t j) = if ((t.val / 256 : ℕ) : ℤ) < (na (ix1 0)).toInt then
      if te (ix1 ⟨t.val / 256, by omega⟩) = BitVec.ofNat 32 j.val then (1 : EReal) else 0 else 0 := by
  unfold gate
  pointwise [rows97_at, served_at, hot_at]
  have hz : (id (constant S_ .f32 0x00000000#32 : FVec Ideal S_ .f32) ix0 : EReal) = 0 := by
    rw [id_eq]
    pointwise
  rw [hz]
  exact by_served (t.val / 256) (by omega) _ _ _

theorem down_at (a : Hidden) (w : FVec Ideal S32x512x2048 .f32) (t : Fin 24832) (d : Fin 2048) :
    down a w (ix2 t d) = ∑ j : Fin 32, ∑ f : Fin 512, a (ix3 t j f) * w (ix3 j f d) := by
  pointwise [down]

/-- The reference's result array. -/
def refOut (te : IVec S97 32) (na : IVec S1 32) (x : FVec Ideal S24832x2048 .f32) (wg wu : FVec Ideal S32x2048x512 .f32)
    (wd : FVec Ideal S32x512x2048 .f32) : FVec Ideal S24832x2048 .f32 :=
  down (mulf (mulf (act1 (proj x wg)) (proj x wu)) (wide (gate te na))) wd

/-- One weighted element of the hidden rows. -/
theorem hidden_at (te : IVec S97 32) (na : IVec S1 32) (x : FVec Ideal S24832x2048 .f32) (wg wu : FVec Ideal S32x2048x512 .f32)
    (t : Fin 24832) (j : Fin 32) (f : Fin 512) :
    mulf (mulf (act1 (proj x wg)) (proj x wu)) (wide (gate te na)) (ix3 t j f)
      = (∑ e : Fin 2048, x (ix2 t e) * wg (ix3 j e f)) * Ideal.div 1 (1 + Ideal.exp (-(∑ e : Fin 2048, x (ix2 t e) * wg (ix3 j e f))))
        * (∑ e : Fin 2048, x (ix2 t e) * wu (ix3 j e f)) * gate te na (ix2 t j) := by
  pointwise [act1_at, proj_at, wide_at]

/-- A served row: the feed-forward of its tile's expert `k`. -/
theorem refOut_served (te : IVec S97 32) (na : IVec S1 32) (x : FVec Ideal S24832x2048 .f32) (wg wu : FVec Ideal S32x2048x512 .f32)
    (wd : FVec Ideal S32x512x2048 .f32) (t : Fin 24832) (d : Fin 2048) (k : Fin 32)
    (hk : (te (ix1 ⟨t.val / 256, by omega⟩)).toNat = k.val) (hs : ((t.val / 256 : ℕ) : ℤ) < (na (ix1 0)).toInt) :
    refOut te na x wg wu wd (ix2 t d)
      = unit (fun e => x (ix2 t e)) (fun e f => wg (ix3 k e f)) (fun e f => wu (ix3 k e f)) (fun f => wd (ix3 k f d)) := by
  unfold refOut
  rw [down_at]
  simp only [hidden_at]
  have hw : ∀ j : Fin 32, te (ix1 ⟨t.val / 256, by omega⟩) = BitVec.ofNat 32 j.val ↔ j = k := fun j => by
    constructor
    · intro e
      rw [e, BitVec.toNat_ofNat] at hk
      ext; omega
    · rintro rfl
      rw [← hk, BitVec.ofNat_toNat, BitVec.setWidth_eq]
  rw [choose_sum k (fun j => gate te na (ix2 t j)) (by rw [gate_at, if_pos hs, if_pos ((hw k).2 rfl)])
    (fun j hj => by rw [gate_at, if_pos hs, if_neg fun e => hj ((hw j).1 e)])
    (fun j f => (∑ e : Fin 2048, x (ix2 t e) * wg (ix3 j e f)) * Ideal.div 1 (1 + Ideal.exp (-(∑ e : Fin 2048, x (ix2 t e) * wg (ix3 j e f))))
        * (∑ e : Fin 2048, x (ix2 t e) * wu (ix3 j e f))) (fun j f => wd (ix3 j f d))]
  rfl

/-- A row of a tile that is not served. -/
theorem refOut_rest (te : IVec S97 32) (na : IVec S1 32) (x : FVec Ideal S24832x2048 .f32) (wg wu : FVec Ideal S32x2048x512 .f32)
    (wd : FVec Ideal S32x512x2048 .f32) (t : Fin 24832) (d : Fin 2048) (hs : ¬ ((t.val / 256 : ℕ) : ℤ) < (na (ix1 0)).toInt) :
    refOut te na x wg wu wd (ix2 t d) = (0 : EReal) := by
  unfold refOut
  rw [down_at]
  simp only [hidden_at]
  exact none_sum (fun j => gate te na (ix2 t j)) (fun j => by rw [gate_at, if_neg hs]) _ _

theorem ref_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  unfold refOut down wide gate hot served rows97 act1 proj
  exact Cert.Reference2Ideal.Value.run m ρ

end Cert.Moe

end
-- ==== Proof.Moe.Claims.lean ====
/-
  The claims of the experts' call: its frames, its reference's frame, and that both return the same array.
-/
module

public import proofs.«01_k».proof.Defs
public import proofs.«01_k».proof.Proof.Moe.Bits.Frames
public import proofs.«01_k».proof.Proof.Moe.Ideal.Frames
public import proofs.«01_k».proof.Proof.Moe.Ideal.Result
public import proofs.«01_k».proof.Proof.Moe.Ref
public import Idealize.ShloMosaic.Lib.Claim
public import Idealize.ShloMosaic.Lib.Quiescent
public import Idealize.ShloMosaic.Adequacy
public import Idealize.ShloMosaic.Init

@[expose] public section

noncomputable section

namespace Cert.Moe

open Idealize.ShloMosaic Idealize.ShloMosaic.TcCoe Idealize.SL.Sem

theorem frame_words : Cert.quiescent_Kernel2 := fun m ρ hpre =>
  Kernel2.Moe.frame_of (Kernel2.Moe.tablesOf m (0 : Fin 1) (in_range _ _ _ _ _ _ (hpre (0 : Fin 1)))) m ρ (Kernel2.Moe.holds_tablesOf m _ _)

theorem frame_ideal : Cert.quiescent_Kernel2Ideal := fun m ρ hpre =>
  Kernel2Ideal.Moe.frame_of (Kernel2Ideal.Moe.tablesOf m (0 : Fin 1) (in_range _ _ _ _ _ _ (hpre (0 : Fin 1)))) m ρ (Kernel2Ideal.Moe.holds_tablesOf m _ _)

theorem frame_reference : Cert.quiescent_Reference2Ideal := fun m ρ _ =>
  θ_run_mono (Cert.Reference2Ideal.Value.run m ρ) fun r h => ⟨fun c => (h c).2, sem_eq_zero_of_no_sems (by decide) r.2⟩

open Cert.Kernel2Ideal in
/-- The reference's array at the kernel's operands is the kernel's. -/
theorem same (T : Kernel2Ideal.Moe.Tables) (m : (ℓ : Loc nD τ sig) → Buf (Elt Ideal) ℓ) (c : Dev nD)
    (te : IVec Reference2Ideal.S97 32) (na : IVec Reference2Ideal.S1 32) (x : FVec Ideal Reference2Ideal.S24832x2048 .f32)
    (wg wu : FVec Ideal Reference2Ideal.S32x2048x512 .f32) (wd : FVec Ideal Reference2Ideal.S32x512x2048 .f32)
    (h0 : te = T.te) (h1 : na = T.na) (h2 : x = Kernel2Ideal.Moe.argX m c) (h3 : wg = Kernel2Ideal.Moe.argG m c)
    (h4 : wu = Kernel2Ideal.Moe.argU m c) (h5 : wd = Kernel2Ideal.Moe.argD m c) :
    refOut te na x wg wu wd = Kernel2Ideal.Moe.result T m c := by
  subst h0 h1 h2 h3 h4 h5
  have key : ∀ z : Kernel2Ideal.S24832x2048.Idx, refOut T.te T.na (Kernel2Ideal.Moe.argX m c) (Kernel2Ideal.Moe.argG m c)
      (Kernel2Ideal.Moe.argU m c) (Kernel2Ideal.Moe.argD m c) z = Kernel2Ideal.Moe.result T m c z := by
    intro z
    idx_vars z
    rw [Kernel2Ideal.Moe.result_at]
    unfold Kernel2Ideal.Moe.resultRow
    by_cases ha : Kernel2Ideal.Moe.act T (z0.val / 256)
    · rw [if_pos ha]
      exact refOut_served _ _ _ _ _ _ z0 z1 (Kernel2Ideal.Moe.ex T (z0.val / 256) (by omega)) rfl ha
    · rw [if_neg ha]
      exact refOut_rest _ _ _ _ _ _ z0 z1 ha
  exact funext key

theorem value : Cert.algebraic_Kernel2Ideal_Reference2Ideal := by
  intro m g m' g' hpre hagree
  have hp := Kernel2Ideal.Moe.holds_tablesOf m (0 : Fin 1) (in_range _ _ _ _ _ _ (hpre (0 : Fin 1)))
  refine ⟨fun c => Kernel2Ideal.Moe.result (Kernel2Ideal.Moe.tablesOf m (0 : Fin 1) (in_range _ _ _ _ _ _ (hpre (0 : Fin 1)))) m c, ?_, ?_⟩
  · refine θ_run_mono (Kernel2Ideal.Moe.run_main _ m g hp) fun r h c => ?_
    exact ⟨((h c).1 (4 : Fin 5)).trans (Kernel2Ideal.Moe.final _ m g c), Kernel2Ideal.Moe.kept_args _ m g hp r h c⟩
  · refine θ_run_mono (ref_term m' g') fun r h c => ?_
    obtain ⟨e0, e1, e2, e3, e4, e5⟩ := hagree c
    exact ⟨(h c).1.trans (same _ m c _ _ _ _ _ _ (e0.trans (hp.1 c)) (e1.trans (hp.2 c)) e2 e3 e4 e5), (h c).2⟩

end Cert.Moe

end
-- ==== Proof.Proj.Math.lean ====
/-
  The projections over the extended reals: a number of the modulation, a modulated row, a projection of it, a normalised
  head and a rotated head.
-/
module

public import Idealize.ShloMosaic.PureOps.Ideal
public import proofs.«01_k».proof.Proof.Moe.Math

@[expose] public section

noncomputable section

namespace Cert.Proj

open Idealize.ShloMosaic

/-- A number of the modulation: the activated condition row through a column of the matrix, and the bias. -/
def modulation (c w : Fin 2048 → EReal) (b : EReal) : EReal :=
  (∑ k : Fin 2048, c k * Ideal.div 1 (1 + Ideal.exp (-(c k))) * w k) + b

/-- The reciprocal root of a mean square. -/
def root {n : ℕ} (x : Fin n → EReal) (len : EReal) : EReal :=
  Ideal.rsqrt (Ideal.div (∑ k : Fin n, x k * x k) len + Ideal.ofBits .f32 0x358637BD#32)

/-- A row, normalised, scaled and shifted. -/
def modulated (x sc sh : Fin 2048 → EReal) (d : Fin 2048) : EReal :=
  x d * root x (Ideal.ofBits .f32 0x45000000#32) * (1 + sc d) + sh d

/-- A head, normalised, with its gain. -/
def normed (p g : Fin 128 → EReal) (e : Fin 128) : EReal := p e * root p (Ideal.ofBits .f32 0x43000000#32) * g e

end Cert.Proj

end
-- ==== Proof.Proj.Run.lean ====
/-
  The projection kernel's run: every buffer of the TensorCore that outlives the calls ends at the last boundary's contents.
-/
module

public import proofs.«01_k».proof.Proof.Gen.Kernel3Ideal.Frame
public import proofs.«01_k».proof.Proof.Proj.Math

@[expose] public section

set_option maxRecDepth 16384

noncomputable section

namespace Cert.Proj

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Cert.Kernel3Ideal Cert.Kernel3Ideal.Gen
open Cert.Kernel3Ideal.Facts

variable (m : (ℓ : Loc nD τ sig) → Buf (Elt Ideal) ℓ) (ρ : Dev nD → PrngReg)

set_option backward.isDefEq.respectTransparency.types false in
/-- Host stretches and regions in turn, from any memory; the last thread state read against the final one. -/
theorem run_bufs : θ_run defs (onTc (τ := τ) (main (F := Ideal))) ⟨m, fun _ => 0, ρ⟩ fun r =>
    ∀ c : Dev nD, ∀ b ∈ Pipeline.ucRefs τ sig, r.2.mem (((c : Thread nD τ)).1, b) = W7 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Proj

end
-- ==== Proof.Proj.Steps.lean ====
/-
  The values the projection kernels store, element by element.
-/
module

public import proofs.«01_k».proof.Proof.Gen.Kernel3Ideal.Skeleton
public import proofs.«01_k».proof.Proof.Proj.Math
public import Idealize.ShloMosaic.Lib.Pointwise

@[expose] public section

set_option maxRecDepth 16384

noncomputable section

namespace Cert.Proj

open Cert.Kernel3Ideal Cert.Kernel3Ideal.Gen Idealize.ShloMosaic Idealize.ShloMosaic.TcCoe
open Cert.Kernel3Ideal.Facts

/-- A tile of the modulation. -/
theorem adaln_at (c : Vec Ideal S40x2048 .f32) (w : Vec Ideal S2048x1024 .f32) (b : Vec Ideal S1x1024 .f32) (r : Fin 40) (n : Fin 1024) :
    k0_pay1 c w b (ix2 r n) = modulation (fun k => c (ix2 r k)) (fun k => w (ix2 k n)) (b (ix2 0 n)) := by
  unfold modulation
  pointwise [k0_pay1]
  simp only [Cert.Moe.silu_eq]

/-- A tile of modulated rows. -/
theorem rows_at (x : Vec Ideal S256x2048 .f32) (sc sh : Vec Ideal S1x1x2048 .f32) (r : Fin 256) (d : Fin 2048) :
    k1_pay3 x sc sh (ix2 r d) = modulated (fun k => x (ix2 r k)) (fun k => sc (ix3 0 0 k)) (fun k => sh (ix3 0 0 k)) d := by
  unfold modulated root
  pointwise [k1_pay3]

/-- A tile of values. -/
theorem val_at (h : FVec Ideal S256x2048 .bf16) (w : Vec Ideal S2048x1024 .bf16) (r : Fin 256) (n : Fin 1024) :
    k1_pay1 h w (ix2 r n) = ∑ k : Fin 2048, h (ix2 r k) * w (ix2 k n) := by
  pointwise [k1_pay1]

theorem key_at (h : FVec Ideal S256x2048 .bf16) (w : Vec Ideal S2048x1024 .bf16) (r : Fin 256) (n : Fin 1024) :
    k1_pay26 h w (ix2 r n) = ∑ k : Fin 2048, h (ix2 r k) * w (ix2 k n) := by
  pointwise [k1_pay26]

theorem head1_at (p : FVec Ideal S256x1024 .f32) (g : FVec Ideal S1x128 .f32) (r : Fin 256) (e : Fin 128) :
    k1_pay29 p g (ix2 r e) = normed (fun k => p (ix2 r ⟨128 + k.val, by omega⟩)) (fun k => g (ix2 0 k)) e := by
  unfold normed root
  pointwise [k1_pay29]

theorem head2_at (p : FVec Ideal S256x1024 .f32) (g : FVec Ideal S1x128 .f32) (r : Fin 256) (e : Fin 128) :
    k1_pay30 p g (ix2 r e) = normed (fun k => p (ix2 r ⟨256 + k.val, by omega⟩)) (fun k => g (ix2 0 k)) e := by
  unfold normed root
  pointwise [k1_pay30]

theorem head3_at (p : FVec Ideal S256x1024 .f32) (g : FVec Ideal S1x128 .f32) (r : Fin 256) (e : Fin 128) :
    k1_pay31 p g (ix2 r e) = normed (fun k => p (ix2 r ⟨384 + k.val, by omega⟩)) (fun k => g (ix2 0 k)) e := by
  unfold normed root
  pointwise [k1_pay31]

theorem head5_at (p : FVec Ideal S256x1024 .f32) (g : FVec Ideal S1x128 .f32) (r : Fin 256) (e : Fin 128) :
    k1_pay35 p g (ix2 r e) = normed (fun k => p (ix2 r ⟨640 + k.val, by omega⟩)) (fun k => g (ix2 0 k)) e := by
  unfold normed root
  pointwise [k1_pay35]

theorem head6_at (p : FVec Ideal S256x1024 .f32) (g : FVec Ideal S1x128 .f32) (r : Fin 256) (e : Fin 128) :
    k1_pay36 p g (ix2 r e) = normed (fun k => p (ix2 r ⟨768 + k.val, by omega⟩)) (fun k => g (ix2 0 k)) e := by
  unfold normed root
  pointwise [k1_pay36]

theorem head7_at (p : FVec Ideal S256x1024 .f32) (g : FVec Ideal S1x128 .f32) (r : Fin 256) (e : Fin 128) :
    k1_pay37 p g (ix2 r e) = normed (fun k => p (ix2 r ⟨896 + k.val, by omega⟩)) (fun k => g (ix2 0 k)) e := by
  unfold normed root
  pointwise [k1_pay37]

theorem head0_at (h : FVec Ideal S256x2048 .bf16) (w : Vec Ideal S2048x1024 .bf16) (g : Vec Ideal S1x128 .f32) (r : Fin 256) (e : Fin 128) :
    k1_pay28 h w g (ix2 r e) = normed (fun k => k1_pay26 h w (ix2 r ⟨k.val, by omega⟩)) (fun k => g (ix2 0 k)) e := by
  unfold normed root
  pointwise [k1_pay28, k1_pay27]

theorem head4_at (p : FVec Ideal S256x1024 .f32) (g : FVec Ideal S1x128 .f32) (r : Fin 256) (e : Fin 128) :
    k1_pay34 g (k1_pay32 p) (k1_pay33 p) (ix2 r e) = normed (fun k => p (ix2 r ⟨512 + k.val, by omega⟩)) (fun k => g (ix2 0 k)) e := by
  unfold normed root
  pointwise [k1_pay34, k1_pay32, k1_pay33]

/-- The other projection's tile of modulated rows. -/
theorem rows2_at (x : Vec Ideal S256x2048 .f32) (sc sh : Vec Ideal S1x1x2048 .f32) (r : Fin 256) (d : Fin 2048) :
    k2_pay4 x sc sh (ix2 r d) = modulated (fun k => x (ix2 r k)) (fun k => sc (ix3 0 0 k)) (fun k => sh (ix3 0 0 k)) d := by
  unfold modulated root
  pointwise [k2_pay4]

theorem val2_at (h : FVec Ideal S256x2048 .bf16) (w : Vec Ideal S2048x256 .bf16) (r : Fin 256) (n : Fin 256) :
    k2_pay40 h w (ix2 r n) = ∑ k : Fin 2048, h (ix2 r k) * w (ix2 k n) := by
  pointwise [k2_pay40]

theorem key2_at (h : FVec Ideal S256x2048 .bf16) (w : Vec Ideal S2048x256 .bf16) (r : Fin 256) (n : Fin 256) :
    k2_pay34 h w (ix2 r n) = ∑ k : Fin 2048, h (ix2 r k) * w (ix2 k n) := by
  pointwise [k2_pay34]

/-- Where a rotation by half a head's lanes reads. -/
def half (e : Fin 128) : Fin 128 := ⟨(e.val + 128 - 64) % 128, Nat.mod_lt _ (by decide)⟩

theorem rot0_at (h : FVec Ideal S256x2048 .bf16) (c s : FVec Ideal S256x128 .f32) (w : Vec Ideal S2048x256 .bf16) (g : Vec Ideal S1x128 .f32) (r : Fin 256) (e : Fin 128) :
    k2_pay36 h c s w g (ix2 r e)
      = normed (fun k => k2_pay34 h w (ix2 r ⟨k.val, by omega⟩)) (fun k => g (ix2 0 k)) e * c (ix2 r e)
        + normed (fun k => k2_pay34 h w (ix2 r ⟨k.val, by omega⟩)) (fun k => g (ix2 0 k)) (half e) * s (ix2 r e) := by
  unfold normed root half
  pointwise [k2_pay36, k2_pay35]

theorem rot1_at (h : FVec Ideal S256x2048 .bf16) (c s : FVec Ideal S256x128 .f32) (w : Vec Ideal S2048x256 .bf16) (g : Vec Ideal S1x128 .f32) (r : Fin 256) (e : Fin 128) :
    k2_pay38 h c s w g (ix2 r e)
      = normed (fun k => k2_pay34 h w (ix2 r ⟨128 + k.val, by omega⟩)) (fun k => g (ix2 0 k)) e * c (ix2 r e)
        + normed (fun k => k2_pay34 h w (ix2 r ⟨128 + k.val, by omega⟩)) (fun k => g (ix2 0 k)) (half e) * s (ix2 r e) := by
  unfold normed root half
  pointwise [k2_pay38, k2_pay35]

theorem misc_at (h : FVec Ideal S256x2048 .bf16) (w : Vec Ideal S2048x128 .bf16) (r : Fin 256) (n : Fin 128) :
    k2_pay55 h w (ix2 r n) = ∑ k : Fin 2048, h (ix2 r k) * w (ix2 k n) := by
  pointwise [k2_pay55]

/-- The log-sigmoid, from the smaller of the logit and nothing. -/
def gateK (x : EReal) : EReal := min x 0 - Ideal.log1p (Ideal.exp (0 - (FloatOps.absf (F := Ideal) (φ := .f32) x : EReal)))

theorem gate_at (h : FVec Ideal S256x2048 .bf16) (w : Vec Ideal S2048x128 .bf16) (b : Vec Ideal S1x128 .f32) (r : Fin 256) (n : Fin 128) :
    k2_pay57 h w b (ix2 r n) = gateK (k2_pay55 h w (ix2 r n) + b (ix2 0 n)) := by
  unfold gateK
  pointwise [k2_pay57]

/-- The lanes of the lower half of an index head. -/
theorem low_at (r : Fin 256) (n : Fin 128) :
    k2_pay10 (Scalar.select (Scalar.cmpi .eq 64#32 0#32) 1#32 64#32) k2_pay9 (ix2 r n) = if n.val % 64 < 32 then 1#1 else 0#1 := by
  pointwise [k2_pay10, k2_pay9]
  revert n
  decide +kernel

theorem idx_at (h : FVec Ideal S256x2048 .bf16) (c s : FVec Ideal S256x128 .f32) (mk : IVec S256x128 1) (w : Vec Ideal S2048x128 .bf16) (r : Fin 256) (n : Fin 128) :
    k2_pay56 h c s mk w (ix2 r n) = k2_pay55 h w (ix2 r n) * c (ix2 r n)
      + Scalar.select (mk (ix2 r n)) (k2_pay55 h w (ix2 r ⟨(n.val + 128 - 96) % 128, Nat.mod_lt _ (by decide)⟩)) (k2_pay55 h w (ix2 r ⟨(n.val + 128 - 32) % 128, Nat.mod_lt _ (by decide)⟩)) * s (ix2 r n) := by
  pointwise [k2_pay56]

theorem lane_at (a b c : FVec Ideal S256x128 .f32) (r : Fin 256) (n : Fin 128) :
    k2_pay1 (iota .tc S256x128 32 [1] iota_S256x128_d1_w32) a b c k2_pay60 (ix2 r n)
      = if n.val < 64 then a (ix2 r n) else if n.val < 72 then b (ix2 r n) else if n.val < 88 then c (ix2 r n) else 0 := by
  have h1 : IntOp.cmpi .slt (BitVec.ofNat 32 n.val) 64#32 = if n.val < 64 then 1#1 else 0#1 := by
    revert n; decide +kernel
  have h2 : IntOp.cmpi .slt (BitVec.ofNat 32 n.val) 72#32 = if n.val < 72 then 1#1 else 0#1 := by
    revert n; decide +kernel
  have h3 : IntOp.cmpi .slt (BitVec.ofNat 32 n.val) 88#32 = if n.val < 88 then 1#1 else 0#1 := by
    revert n; decide +kernel
  pointwise [k2_pay1, k2_pay60]
  rw [h1, h2, h3]
  split_ifs <;> rfl

end Cert.Proj

end
-- ==== Proof.Proj.Region1.lean ====
/-
  The first projection's two row arrays, element by element, from the arrays the region finds.
-/
module

public import proofs.«01_k».proof.Proof.Gen.Kernel3Ideal.Frame
public import proofs.«01_k».proof.Proof.Proj.Steps
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.Proj

open Cert.Kernel3Ideal Cert.Kernel3Ideal.Gen Idealize.ShloMosaic Idealize.ShloMosaic.TcCoe Idealize.SL.Sem
open Cert.Kernel3Ideal.Facts

theorem zz2 : (![0, 0] : Fin 2 → ℕ) = fun _ => 0 := by decide
theorem zz3 : (![0, 0, 0] : Fin 3 → ℕ) = fun _ => 0 := by decide

section Block

variable (x : Vec Ideal S256x2048 .f32) (sc sh : Vec Ideal S1x1x2048 .f32) (wq wk wv : Vec Ideal S2048x1024 .bf16) (gq gk : Vec Ideal S1x128 .f32)

/-- A row of a block, modulated. -/
def mrow (r : Fin 256) : Fin 2048 → EReal := modulated (fun k => x (ix2 r k)) (fun k => sc (ix3 0 0 k)) (fun k => sh (ix3 0 0 k))

theorem pay46_at (r : Fin 256) (d : Fin 2048) : k1_pay46 x sc sh wq wk wv gq gk (ix2 r d) = mrow x sc sh r d := by
  unfold k1_pay46
  rw [View.ld_unit_zero zz2, View.ld_unit_zero zz3, View.ld_unit_zero zz3]
  exact rows_at x sc sh r d

theorem out12_at (r : Fin 256) (n : Fin 1024) : out1_12 x sc sh wq wk wv gq gk (ix2 r n) = ∑ k : Fin 2048, mrow x sc sh r k * wv (ix2 k n) := by
  unfold out1_12
  rw [View.canon_unit_zero zz2, View.ld_unit_zero zz2, val_at]
  simp only [pay46_at]

theorem pay49_at (r : Fin 256) (n : Fin 1024) : k1_pay49 x sc sh wq wk wv gq gk (ix2 r n) = ∑ k : Fin 2048, mrow x sc sh r k * wk (ix2 k n) := by
  unfold k1_pay49
  rw [View.ld_unit_zero zz2, key_at]
  simp only [pay46_at]

theorem pay50_at : k1_pay50 x sc sh wq wk wv gq gk = gk := by
  unfold k1_pay50
  rw [View.ld_unit_zero zz2]
  funext i
  pointwise [k1_pay27]

/-- A block's keys: each head normalised, with its gain. -/
def keys (y : S256x1024.Idx) : EReal :=
  normed (fun e => ∑ k : Fin 2048, mrow x sc sh (y 0) k * wk (ix2 k ⟨128 * ((y 1).val / 128) + e.val, by have : (y 1).val < 1024 := (y 1).isLt; omega⟩))
    (fun e => gk (ix2 0 e)) ⟨(y 1).val % 128, Nat.mod_lt _ (by decide)⟩

theorem keys_at (r : Fin 256) (h : Fin 8) (e : Fin 128) (n : Fin 1024) (hn : n.val = 128 * h.val + e.val) :
    keys x sc sh wk gk (ix2 r n) = normed (fun e => ∑ k : Fin 2048, mrow x sc sh r k * wk (ix2 k ⟨128 * h.val + e.val, by omega⟩)) (fun e => gk (ix2 0 e)) e := by
  unfold keys
  have h1 : n.val / 128 = h.val := by omega
  have h2 : ∀ p, (⟨n.val % 128, p⟩ : Fin 128) = e := fun p => Fin.ext (by simp only; omega)
  simp only [ix2]
  simp only [h1, h2]

theorem emb_head (o : ℕ) (inb : ∀ a, (![0, o] : Fin 2 → ℕ) a + S256x128.size a ≤ S256x1024.size a) (r : Fin 256) (e : Fin 128) (h : o + e.val < 1024) :
    (Rect.unit (s := S256x1024) ![0, o] S256x128.size inb).emb (ix2 r e) = ix2 r ⟨o + e.val, h⟩ := by
  funext a
  fin_cases a
  · exact Fin.ext (by simp [Rect.emb, Rect.unit])
  · exact Fin.ext (by simp [Rect.emb, Rect.unit])

theorem out11_at (y : S256x1024.Idx) : out1_11 x sc sh wq wk wv gq gk y = keys x sc sh wk gk y := by
  unfold out1_11
  refine View.canon_apply_of_pieces (Val := Elt Ideal) (keys x sc sh wk gk) _ ?_ y (cover1_11 _ _ _ _ _ _ _ _ y)
  intro p hp
  simp only [List.mem_cons, List.not_mem_nil, or_false] at hp
  rcases hp with rfl | rfl | rfl | rfl | rfl | rfl | rfl | rfl <;> intro z <;> idx_vars z
  · refine Eq.trans ?_ (congrArg (keys x sc sh wk gk) (emb_head 896 _ z0 z1 (by omega))).symm
    rw [keys_at x sc sh wk gk z0 7 z1 _ rfl]
    show k1_pay58 x sc sh wq wk wv gq gk (ix2 z0 z1) = _
    unfold k1_pay58
    rw [head7_at]
    simp only [pay49_at, pay50_at]
    rfl
  · refine Eq.trans ?_ (congrArg (keys x sc sh wk gk) (emb_head 768 _ z0 z1 (by omega))).symm
    rw [keys_at x sc sh wk gk z0 6 z1 _ rfl]
    show k1_pay57 x sc sh wq wk wv gq gk (ix2 z0 z1) = _
    unfold k1_pay57
    rw [head6_at]
    simp only [pay49_at, pay50_at]
    rfl
  · refine Eq.trans ?_ (congrArg (keys x sc sh wk gk) (emb_head 640 _ z0 z1 (by omega))).symm
    rw [keys_at x sc sh wk gk z0 5 z1 _ rfl]
    show k1_pay56 x sc sh wq wk wv gq gk (ix2 z0 z1) = _
    unfold k1_pay56
    rw [head5_at]
    simp only [pay49_at, pay50_at]
    rfl
  · refine Eq.trans ?_ (congrArg (keys x sc sh wk gk) (emb_head 512 _ z0 z1 (by omega))).symm
    rw [keys_at x sc sh wk gk z0 4 z1 _ rfl]
    show k1_pay55 x sc sh wq wk wv gq gk (ix2 z0 z1) = _
    unfold k1_pay55
    rw [head4_at]
    simp only [pay49_at, pay50_at]
    rfl
  · refine Eq.trans ?_ (congrArg (keys x sc sh wk gk) (emb_head 384 _ z0 z1 (by omega))).symm
    rw [keys_at x sc sh wk gk z0 3 z1 _ rfl]
    show k1_pay54 x sc sh wq wk wv gq gk (ix2 z0 z1) = _
    unfold k1_pay54
    rw [head3_at]
    simp only [pay49_at, pay50_at]
    rfl
  · refine Eq.trans ?_ (congrArg (keys x sc sh wk gk) (emb_head 256 _ z0 z1 (by omega))).symm
    rw [keys_at x sc sh wk gk z0 2 z1 _ rfl]
    show k1_pay53 x sc sh wq wk wv gq gk (ix2 z0 z1) = _
    unfold k1_pay53
    rw [head2_at]
    simp only [pay49_at, pay50_at]
    rfl
  · refine Eq.trans ?_ (congrArg (keys x sc sh wk gk) (emb_head 128 _ z0 z1 (by omega))).symm
    rw [keys_at x sc sh wk gk z0 1 z1 _ rfl]
    show k1_pay52 x sc sh wq wk wv gq gk (ix2 z0 z1) = _
    unfold k1_pay52
    rw [head1_at]
    simp only [pay49_at, pay50_at]
    rfl
  · refine Eq.trans ?_ (congrArg (keys x sc sh wk gk) (emb_head 0 _ z0 z1 (by omega))).symm
    rw [keys_at x sc sh wk gk z0 0 z1 _ rfl]
    show k1_pay51 x sc sh wq wk wv gq gk (ix2 z0 z1) = _
    unfold k1_pay51
    rw [View.ld_unit_zero zz2, View.ld_unit_zero zz2, head0_at]
    simp only [key_at, pay46_at, Nat.mul_zero, Nat.zero_add, Fin.val_zero]

end Block

end Cert.Proj

end
-- ==== Proof.Proj.Region2.lean ====
/-
  The second projection's three row arrays, element by element, from the blocks a grid point reads.
-/
module

public import proofs.«01_k».proof.Proof.Proj.Region1

@[expose] public section

set_option maxRecDepth 16384

noncomputable section

namespace Cert.Proj

open Cert.Kernel3Ideal Cert.Kernel3Ideal.Gen Idealize.ShloMosaic Idealize.ShloMosaic.TcCoe Idealize.SL.Sem
open Cert.Kernel3Ideal.Facts

/-- A head, normalised and turned by its angles' cosines and (signed) sines. -/
def turned (p g c s : Fin 128 → EReal) (e : Fin 128) : EReal := normed p g e * c e + normed p g (half e) * s e

/-- Where the index key's rotation reads: half of its 64 lanes further, within them. -/
def turnLane (n : Fin 64) : Fin 64 := if n.val < 32 then ⟨(n.val + 32) % 64, by omega⟩ else ⟨n.val - 32, by omega⟩

/-- A lane of the narrow projection's row, as stored: the turned index key, the gates, the scaled index weights, nothing. -/
def lanes (m b c s : Fin 128 → EReal) (n : Fin 128) : EReal :=
  if h : n.val < 64 then m n * c n + m ⟨(turnLane ⟨n.val, h⟩).val, by omega⟩ * s n
  else if n.val < 72 then gateK (m n + b n) else if n.val < 88 then m n * Ideal.ofBits .f32 0x3E800000#32 else 0

section Block

variable (x0 : Vec Ideal S256x2048 .f32) (x1 x2 : Vec Ideal S1x1x2048 .f32) (x3 : Vec Ideal S2048x1024 .bf16) (x4 x5 : Vec Ideal S2048x256 .bf16)
  (x6 : Vec Ideal S2048x1024 .bf16) (x7 : Vec Ideal S2048x128 .bf16) (x8 x9 x10 : Vec Ideal S1x128 .f32) (x11 x12 x13 x14 : Vec Ideal S256x128 .f32)

theorem pay62_at (r : Fin 256) (d : Fin 2048) : k2_pay62 x0 x1 x2 x3 x4 x5 x6 x7 x8 x9 x10 x11 x12 x13 x14 (ix2 r d) = mrow x0 x1 x2 r d := by
  unfold k2_pay62
  rw [View.ld_unit_zero zz2, View.ld_unit_zero zz3, View.ld_unit_zero zz3]
  exact rows2_at x0 x1 x2 r d

theorem pay63_at : k2_pay63 x0 x1 x2 x3 x4 x5 x6 x7 x8 x9 x10 x11 x12 x13 x14 = x11 := by
  unfold k2_pay63
  rw [View.ld_unit_zero zz2]
  funext i
  pointwise [k2_pay5]

theorem pay64_at : k2_pay64 x0 x1 x2 x3 x4 x5 x6 x7 x8 x9 x10 x11 x12 x13 x14 = x12 := by
  unfold k2_pay64
  rw [View.ld_unit_zero zz2]
  funext i
  pointwise [k2_pay6]

theorem pay65_at : k2_pay65 x0 x1 x2 x3 x4 x5 x6 x7 x8 x9 x10 x11 x12 x13 x14 = x13 := by
  unfold k2_pay65
  rw [View.ld_unit_zero zz2]
  funext i
  pointwise [k2_pay7]

theorem pay66_at : k2_pay66 x0 x1 x2 x3 x4 x5 x6 x7 x8 x9 x10 x11 x12 x13 x14 = x14 := by
  unfold k2_pay66
  rw [View.ld_unit_zero zz2]
  funext i
  pointwise [k2_pay8]

theorem pay71_at : k2_pay71 x0 x1 x2 x3 x4 x5 x6 x7 x8 x9 x10 x11 x12 x13 x14 = x4 := by
  unfold k2_pay71
  rw [View.ld_unit_zero zz2]
  funext i
  pointwise [k2_pay33]

theorem out22_at (r : Fin 256) (n : Fin 256) :
    out2_22 x0 x1 x2 x3 x4 x5 x6 x7 x8 x9 x10 x11 x12 x13 x14 (ix2 r n) = ∑ k : Fin 2048, mrow x0 x1 x2 r k * x5 (ix2 k n) := by
  unfold out2_22
  rw [View.canon_unit_zero zz2, View.ld_unit_zero zz2, val2_at]
  simp only [pay62_at]

theorem out23_at (r : Fin 256) (n : Fin 128) :
    out2_23 x0 x1 x2 x3 x4 x5 x6 x7 x8 x9 x10 x11 x12 x13 x14 (ix2 r n)
      = lanes (fun n => ∑ k : Fin 2048, mrow x0 x1 x2 r k * x7 (ix2 k n)) (fun n => x10 (ix2 0 n)) (fun n => x13 (ix2 r n)) (fun n => x14 (ix2 r n)) n := by
  unfold out2_23
  rw [View.canon_unit_zero zz2, View.ld_unit_zero zz2, View.ld_unit_zero zz2]
  unfold k2_pay61
  rw [lane_at, pay65_at, pay66_at]
  unfold lanes
  by_cases h : n.val < 64
  · rw [if_pos h, dif_pos h, idx_at]
    unfold k2_pay67
    rw [low_at]
    simp only [misc_at, pay62_at]
    congr 2
    unfold turnLane
    by_cases h' : n.val < 32
    · rw [if_pos (by omega : n.val % 64 < 32)]
      have e : (⟨(n.val + 128 - 96) % 128, Nat.mod_lt _ (by decide)⟩ : Fin 128) = ⟨(n.val + 32) % 64, by omega⟩ := Fin.ext (by simp only; omega)
      rw [e]
      simp only [h', if_true]
      rfl
    · rw [if_neg (by omega : ¬ n.val % 64 < 32)]
      have e : (⟨(n.val + 128 - 32) % 128, Nat.mod_lt _ (by decide)⟩ : Fin 128) = ⟨n.val - 32, by omega⟩ := Fin.ext (by simp only; omega)
      rw [e]
      simp only [h', if_false]
      rfl
  · rw [if_neg h, dif_neg h]
    refine if_congr Iff.rfl ?_ (if_congr Iff.rfl ?_ rfl)
    · rw [gate_at, misc_at]
      simp only [pay62_at]
    · unfold k2_pay58
      pointwise []
      rw [misc_at]
      simp only [pay62_at]

/-- A block's keys: both heads normalised, with their gain, and turned. -/
def keys2 (y : S256x256.Idx) : EReal :=
  turned (fun e => ∑ k : Fin 2048, mrow x0 x1 x2 (y 0) k * x4 (ix2 k ⟨128 * ((y 1).val / 128) + e.val, by have : (y 1).val < 256 := (y 1).isLt; omega⟩))
    (fun e => x9 (ix2 0 e)) (fun e => x11 (ix2 (y 0) e)) (fun e => x12 (ix2 (y 0) e)) ⟨(y 1).val % 128, Nat.mod_lt _ (by decide)⟩

theorem keys2_at (r : Fin 256) (h : Fin 2) (e : Fin 128) (n : Fin 256) (hn : n.val = 128 * h.val + e.val) :
    keys2 x0 x1 x2 x4 x9 x11 x12 (ix2 r n) = turned (fun e => ∑ k : Fin 2048, mrow x0 x1 x2 r k * x4 (ix2 k ⟨128 * h.val + e.val, by omega⟩))
      (fun e => x9 (ix2 0 e)) (fun e => x11 (ix2 r e)) (fun e => x12 (ix2 r e)) e := by
  unfold keys2
  have h1 : n.val / 128 = h.val := by omega
  have h2 : ∀ p, (⟨n.val % 128, p⟩ : Fin 128) = e := fun p => Fin.ext (by simp only; omega)
  simp only [ix2]
  simp only [h1, h2]

theorem emb_head2 (o : ℕ) (inb : ∀ a, (![0, o] : Fin 2 → ℕ) a + S256x128.size a ≤ S256x256.size a) (r : Fin 256) (e : Fin 128) (h : o + e.val < 256) :
    (Rect.unit (s := S256x256) ![0, o] S256x128.size inb).emb (ix2 r e) = ix2 r ⟨o + e.val, h⟩ := by
  funext a
  fin_cases a
  · exact Fin.ext (by simp [Rect.emb, Rect.unit])
  · exact Fin.ext (by simp [Rect.emb, Rect.unit])

theorem out21_at (y : S256x256.Idx) : out2_21 x0 x1 x2 x3 x4 x5 x6 x7 x8 x9 x10 x11 x12 x13 x14 y = keys2 x0 x1 x2 x4 x9 x11 x12 y := by
  unfold out2_21
  refine View.canon_apply_of_pieces (Val := Elt Ideal) (keys2 x0 x1 x2 x4 x9 x11 x12) _ ?_ y (cover2_21 _ _ y)
  intro p hp
  simp only [List.mem_cons, List.not_mem_nil, or_false] at hp
  rcases hp with rfl | rfl <;> intro z <;> idx_vars z
  · refine Eq.trans ?_ (congrArg (keys2 x0 x1 x2 x4 x9 x11 x12) (emb_head2 128 _ z0 z1 (by omega))).symm
    rw [keys2_at x0 x1 x2 x4 x9 x11 x12 z0 1 z1 _ rfl]
    show k2_pay72 x0 x1 x2 x3 x4 x5 x6 x7 x8 x9 x10 x11 x12 x13 x14 (ix2 z0 z1) = _
    unfold k2_pay72
    rw [View.ld_unit_zero zz2, rot1_at]
    simp only [key2_at, pay62_at, pay63_at, pay64_at, pay71_at]
    rfl
  · refine Eq.trans ?_ (congrArg (keys2 x0 x1 x2 x4 x9 x11 x12) (emb_head2 0 _ z0 z1 (by omega))).symm
    rw [keys2_at x0 x1 x2 x4 x9 x11 x12 z0 0 z1 _ rfl]
    show k2_pay36 _ _ _ _ _ (ix2 z0 z1) = _
    rw [View.ld_unit_zero zz2, rot0_at]
    simp only [key2_at, pay62_at, pay63_at, pay64_at, pay71_at, Nat.mul_zero, Nat.zero_add, Fin.val_zero]
    rfl

end Block

end Cert.Proj

end
-- ==== Proof.Proj.Angle.lean ====
/-
  The angle by which a lane's pair is turned at a position, and the log-sigmoid.
-/
module

public import proofs.«01_k».proof.Proof.Proj.Math

@[expose] public section

noncomputable section

namespace Cert.Proj

open Idealize.ShloMosaic

/-- The angle of lane `j` at position `p`, `h` half the head's width as a number: `p · θ^(−j/h)`. -/
def angle (h : BitVec 32) (p j : ℕ) : EReal :=
  (FloatOps.sitofp (F := Ideal) .f32 (BitVec.ofNat 32 p) : EReal)
    * Ideal.pow (Ideal.ofBits .f32 1176256512#32) (Ideal.div (-(FloatOps.sitofp (F := Ideal) .f32 (BitVec.ofNat 32 j) : EReal)) (Ideal.ofBits .f32 h))

end Cert.Proj

end
-- ==== Proof.Proj.Spec.lean ====
/-
  The prompt's rows, as functions of the arguments' numbers: what both programs store.
-/
module

public import proofs.«01_k».proof.Proof.Proj.Region2
public import proofs.«01_k».proof.Proof.Proj.Angle

@[expose] public section

noncomputable section

namespace Cert.Proj

open Idealize.ShloMosaic

/-- The arguments' numbers: activations, conditions, the projection's matrix, the modulation's matrix and bias, the gates'
    bias and the two gains of the keys. -/
@[ext]
structure Args where
  x : Fin 4 → Fin 2048 → Fin 2048 → EReal
  c : Fin 4 → Fin 2048 → EReal
  w : Fin 2048 → Fin 5720 → EReal
  a : Fin 2048 → Fin 12288 → EReal
  ab : Fin 12288 → EReal
  bf : Fin 8 → EReal
  gf : Fin 128 → EReal
  gd : Fin 128 → EReal

namespace Args

variable (A : Args)

/-- Number `n` of batch `b`'s modulation. -/
def mod (b : Fin 4) (n : Fin 12288) : EReal := modulation (A.c b) (fun k => A.a k n) (A.ab n)

/-- A row of batch `b`, normalised, scaled and shifted. -/
def row (b : Fin 4) (p : Fin 2048) : Fin 2048 → EReal :=
  modulated (A.x b p) (fun k => A.mod b ⟨2048 + k.val, by omega⟩) (fun k => A.mod b ⟨k.val, by omega⟩)

/-- Its projection to column `n`. -/
def proj (b : Fin 4) (p : Fin 2048) (n : Fin 5720) : EReal := ∑ k : Fin 2048, A.row b p k * A.w k n

/-- The first attention's keys. -/
def kf (b : Fin 4) (p : Fin 2048) (h : Fin 8) (e : Fin 128) : EReal :=
  normed (fun e => A.proj b p ⟨1024 + (h.val * 128 + e.val), by omega⟩) A.gf e

/-- The first attention's values. -/
def vf (b : Fin 4) (p : Fin 2048) (h : Fin 8) (e : Fin 128) : EReal := A.proj b p ⟨2048 + (h.val * 128 + e.val), by omega⟩

/-- The logarithms of the forget gates. -/
def lf (b : Fin 4) (p : Fin 2048) (h : Fin 8) : EReal := gateK (A.proj b p ⟨3072 + h.val, by omega⟩ + A.bf h)

/-- The cosines and signed sines of a head of 128 lanes. -/
def cos2 (p : Fin 2048) (n : Fin 128) : EReal :=
  if n.val < 64 then Ideal.cos (angle 1115684864#32 p.val n.val) else Ideal.cos (angle 1115684864#32 p.val (n.val - 64))
def sin2 (p : Fin 2048) (n : Fin 128) : EReal :=
  if n.val < 64 then -Ideal.sin (angle 1115684864#32 p.val n.val) else Ideal.sin (angle 1115684864#32 p.val (n.val - 64))

/-- The cosines and signed sines of the index key's 64 lanes. -/
def cos1 (p : Fin 2048) (n : Fin 64) : EReal :=
  if n.val < 32 then Ideal.cos (angle 1107296256#32 p.val n.val) else Ideal.cos (angle 1107296256#32 p.val (n.val - 32))
def sin1 (p : Fin 2048) (n : Fin 64) : EReal :=
  if n.val < 32 then -Ideal.sin (angle 1107296256#32 p.val n.val) else Ideal.sin (angle 1107296256#32 p.val (n.val - 32))

/-- The second attention's keys. -/
def kd (b : Fin 4) (p : Fin 2048) (h : Fin 2) (e : Fin 128) : EReal :=
  turned (fun e => A.proj b p ⟨4104 + (h.val * 128 + e.val), by omega⟩) A.gd (cos2 p) (sin2 p) e

/-- The second attention's values. -/
def vd (b : Fin 4) (p : Fin 2048) (h : Fin 2) (e : Fin 128) : EReal := A.proj b p ⟨4360 + (h.val * 128 + e.val), by omega⟩

/-- The index keys. -/
def ki (b : Fin 4) (p : Fin 2048) (e : Fin 64) : EReal :=
  A.proj b p ⟨5640 + e.val, by omega⟩ * cos1 p e + A.proj b p ⟨5640 + (turnLane e).val, by omega⟩ * sin1 p e

end Args

end Cert.Proj

end
-- ==== Proof.Proj.Host.lean ====
/-
  What the host hands the regions and takes from them, number by number.
-/
module

public import proofs.«01_k».proof.Proof.Gen.Kernel3Ideal.Frame
public import proofs.«01_k».proof.Proof.Proj.Angle
public import Idealize.ShloMosaic.Lib.StableHlo.RunRead
public import Idealize.ShloMosaic.Lib.Routing.OpsSet
public import Idealize.ShloMosaic.Lib.Pointwise

@[expose] public section

set_option maxRecDepth 16384

noncomputable section

namespace Cert.Proj

open Cert.Kernel3Ideal Cert.Kernel3Ideal.Gen Idealize.ShloMosaic Idealize.ShloMosaic.TcCoe Idealize.SL.Sem
open Cert.Kernel3Ideal.Facts

variable (V0 : Valuation τ sig (Elt Ideal))

/-- The contents of an array among the valuation's, as numbers. -/
abbrev val2 (m n : ℕ) (x : (⟨⟨2, ![m, n]⟩, .f32⟩ : BufTy).Contents (Elt Ideal)) (i : Fin m) (j : Fin n) : EReal := x (ix2 i j)
abbrev val3 (l m n : ℕ) (x : (⟨⟨3, ![l, m, n]⟩, .f32⟩ : BufTy).Contents (Elt Ideal)) (h : Fin l) (i : Fin m) (j : Fin n) : EReal := x (ix3 h i j)

theorem h0_c (b : Fin 4) (k : Fin 2048) :
    (StableHlo.after hostOps0 V0 (Proc.devRef .tc main_v1) (ix2 ⟨b.val, by omega⟩ k : S40x2048.Idx) : EReal) = val2 4 2048 (V0 (Proc.devRef .tc main_arg1)) b k := by
  after_reads_simp
  pointwise []

theorem h0_w (k : Fin 2048) (n : Fin 12288) :
    (StableHlo.after hostOps0 V0 (Proc.devRef .tc main_v2) (ix2 k n : S2048x12288.Idx) : EReal) = val3 1 2048 12288 (V0 (Proc.devRef .tc main_arg9)) 0 k n := by
  after_reads_simp
  pointwise []

theorem h0_b (n : Fin 12288) :
    (StableHlo.after hostOps0 V0 (Proc.devRef .tc main_v4) (ix2 0 n : S1x12288.Idx) : EReal) = val2 1 12288 (V0 (Proc.devRef .tc main_arg10)) 0 n := by
  after_reads_simp
  pointwise []

theorem h1_sh (b : Fin 4) (k : Fin 2048) :
    (StableHlo.after hostOps1 V0 (Proc.devRef .tc main_v13) (ix3 b 0 k : S4x1x2048.Idx) : EReal) = val2 40 12288 (V0 (Proc.devRef .tc main_v5)) ⟨b.val, by omega⟩ ⟨k.val, by omega⟩ := by
  after_reads_simp
  pointwise []

theorem h1_sc (b : Fin 4) (k : Fin 2048) :
    (StableHlo.after hostOps1 V0 (Proc.devRef .tc main_v15) (ix3 b 0 k : S4x1x2048.Idx) : EReal) = val2 40 12288 (V0 (Proc.devRef .tc main_v5)) ⟨b.val, by omega⟩ ⟨2048 + k.val, by omega⟩ := by
  after_reads_simp
  pointwise []

theorem h1_x (t : Fin 8192) (k : Fin 2048) :
    (StableHlo.after hostOps1 V0 (Proc.devRef .tc main_v105) (ix2 t k : S8192x2048.Idx) : EReal) = val3 4 2048 2048 (V0 (Proc.devRef .tc main_arg0)) ⟨t.val / 2048, by omega⟩ ⟨t.val % 2048, by omega⟩ k := by
  after_reads_simp
  pointwise []

theorem h1_wk (k : Fin 2048) (n : Fin 1024) :
    (StableHlo.after hostOps1 V0 (Proc.devRef .tc main_v28) (ix2 k n : S2048x1024.Idx) : EReal) = val3 1 2048 5720 (V0 (Proc.devRef .tc main_arg3)) 0 k ⟨1024 + n.val, by omega⟩ := by
  after_reads_simp
  pointwise []

theorem h1_wv (k : Fin 2048) (n : Fin 1024) :
    (StableHlo.after hostOps1 V0 (Proc.devRef .tc main_v30) (ix2 k n : S2048x1024.Idx) : EReal) = val3 1 2048 5720 (V0 (Proc.devRef .tc main_arg3)) 0 k ⟨2048 + n.val, by omega⟩ := by
  after_reads_simp
  pointwise []

theorem h1_wk2 (k : Fin 2048) (n : Fin 256) :
    (StableHlo.after hostOps1 V0 (Proc.devRef .tc main_v35) (ix2 k n : S2048x256.Idx) : EReal) = val3 1 2048 5720 (V0 (Proc.devRef .tc main_arg3)) 0 k ⟨4104 + n.val, by omega⟩ := by
  after_reads_simp
  pointwise []

theorem h1_wv2 (k : Fin 2048) (n : Fin 256) :
    (StableHlo.after hostOps1 V0 (Proc.devRef .tc main_v37) (ix2 k n : S2048x256.Idx) : EReal) = val3 1 2048 5720 (V0 (Proc.devRef .tc main_arg3)) 0 k ⟨4360 + n.val, by omega⟩ := by
  after_reads_simp
  pointwise []

theorem h1_gk (n : Fin 128) :
    (StableHlo.after hostOps1 V0 (Proc.devRef .tc main_v53) (ix2 0 n : S1x128.Idx) : EReal) = val2 1 128 (V0 (Proc.devRef .tc main_arg6)) 0 n := by
  after_reads_simp
  pointwise []

theorem h1_gk2 (n : Fin 128) :
    (StableHlo.after hostOps1 V0 (Proc.devRef .tc main_v57) (ix2 0 n : S1x128.Idx) : EReal) = val2 1 128 (V0 (Proc.devRef .tc main_arg8)) 0 n := by
  after_reads_simp
  pointwise []

theorem h1_ki (k : Fin 2048) (n : Fin 64) :
    (StableHlo.after hostOps1 V0 (Proc.devRef .tc main_v43) (ix2 k ⟨n.val, by omega⟩ : S2048x128.Idx) : EReal) = val3 1 2048 5720 (V0 (Proc.devRef .tc main_arg3)) 0 k ⟨5640 + n.val, by omega⟩ := by
  after_reads_simp
  pointwise []
  after_reads_simp
  pointwise []

theorem h1_fl (k : Fin 2048) (n : Fin 8) :
    (StableHlo.after hostOps1 V0 (Proc.devRef .tc main_v43) (ix2 k ⟨64 + n.val, by omega⟩ : S2048x128.Idx) : EReal) = val3 1 2048 5720 (V0 (Proc.devRef .tc main_arg3)) 0 k ⟨3072 + n.val, by omega⟩ := by
  after_reads_simp
  pointwise []
  after_reads_simp
  pointwise []

theorem h1_bf (n : Fin 8) :
    (StableHlo.after hostOps1 V0 (Proc.devRef .tc main_v49) (ix2 0 ⟨64 + n.val, by omega⟩ : S1x128.Idx) : EReal) = val2 1 8 (V0 (Proc.devRef .tc main_arg4)) 0 n := by
  have hidx : ∀ i : S2.Idx, (concatenate S2 0 [⟨S1, broadcastInDim S1 ![] bcast_S_S1 (constantI S_ 32 0#32)⟩, ⟨S1, broadcastInDim S1 ![] bcast_S_S1 (constantI S_ 32 64#32)⟩] concatenates_S1_S1_S2_d0 : IVec S2 32) i = if (i 0).val = 0 then 0#32 else 64#32 := by
    intro i
    idx_vars i
    pointwise []
    fin_cases i0 <;> rfl
  have hr : ∀ k : Fin 8, scatter_S1x128_S2_S8_0_0_01_0.resultIdx? (w := 32) (ix1 k) (fun i => if (i 0).val = 0 then 0#32 else 64#32) = some (ix2 0 ⟨64 + k.val, by omega⟩) := by
    decide +kernel
  after_reads_simp
  refine (congrArg (fun J => Host.scatter scatter_S1x128_S2_S8_0_0_01_0 (fun _ b => b) _ J _ _) (a₂ := fun i => if (i 0).val = 0 then 0#32 else 64#32) ?_).trans ?_
  · after_reads_simp
    funext i
    exact hidx i
  · refine Routing.scatter_set_hit _ _ _ _ _ _ (fun k hk => ?_) (ix1 n) (hr n)
    idx_vars k
    rw [hr k0] at hk
    have e := congrArg Fin.val (congrFun (Option.some.inj hk) 1)
    have e' : k0 = n := Fin.ext (by simp only [ix2_1] at e; omega)
    subst e'
    pointwise []

theorem h1_c2 (p : Fin 2048) (n : Fin 128) :
    (StableHlo.after hostOps1 V0 (Proc.devRef .tc main_v76) (ix2 p n : S2048x128.Idx) : EReal) = if n.val < 64 then Ideal.cos (angle 1115684864#32 p.val (n.val)) else Ideal.cos (angle 1115684864#32 p.val (n.val - 64)) := by
  unfold angle
  after_reads_simp
  pointwise []
  after_reads_simp
  pointwise []
  rfl

theorem h1_s2 (p : Fin 2048) (n : Fin 128) :
    (StableHlo.after hostOps1 V0 (Proc.devRef .tc main_v81) (ix2 p n : S2048x128.Idx) : EReal) = if n.val < 64 then -Ideal.sin (angle 1115684864#32 p.val (n.val)) else Ideal.sin (angle 1115684864#32 p.val (n.val - 64)) := by
  unfold angle
  after_reads_simp
  pointwise []
  after_reads_simp
  pointwise []
  rfl

theorem h1_c1 (p : Fin 2048) (n : Fin 128) :
    (StableHlo.after hostOps1 V0 (Proc.devRef .tc main_v99) (ix2 p n : S2048x128.Idx) : EReal) = if n.val % 64 < 32 then Ideal.cos (angle 1107296256#32 p.val (n.val % 64)) else Ideal.cos (angle 1107296256#32 p.val (n.val % 64 - 32)) := by
  unfold angle
  after_reads_simp
  pointwise []
  after_reads_simp
  pointwise []
  rfl

theorem h1_s1 (p : Fin 2048) (n : Fin 128) :
    (StableHlo.after hostOps1 V0 (Proc.devRef .tc main_v104) (ix2 p n : S2048x128.Idx) : EReal) = if n.val % 64 < 32 then -Ideal.sin (angle 1107296256#32 p.val (n.val % 64)) else Ideal.sin (angle 1107296256#32 p.val (n.val % 64 - 32)) := by
  unfold angle
  after_reads_simp
  pointwise []
  after_reads_simp
  pointwise []
  rfl

theorem h2_m (k : Fin 2048) (n : Fin 128) :
    (StableHlo.after hostOps2 V0 (Proc.devRef .tc main_v108) (ix2 k n : S2048x128.Idx) : EReal) = val2 2048 128 (V0 (Proc.devRef .tc main_v43)) k n := by
  after_reads_simp
  pointwise []

theorem h3_kf (b : Fin 4) (p : Fin 2048) (h : Fin 8) (e : Fin 128) :
    (StableHlo.after hostOps3 V0 (Proc.devRef .tc main_v110) (ix5 0 b p h e : S1x4x2048x8x128.Idx) : EReal) = val2 8192 1024 (V0 (Proc.devRef .tc main_v106_3)) ⟨b.val * 2048 + p.val, by omega⟩ ⟨h.val * 128 + e.val, by omega⟩ := by
  after_reads_simp
  pointwise []

theorem h3_vf (b : Fin 4) (p : Fin 2048) (h : Fin 8) (e : Fin 128) :
    (StableHlo.after hostOps3 V0 (Proc.devRef .tc main_v111) (ix5 0 b p h e : S1x4x2048x8x128.Idx) : EReal) = val2 8192 1024 (V0 (Proc.devRef .tc main_v106_4)) ⟨b.val * 2048 + p.val, by omega⟩ ⟨h.val * 128 + e.val, by omega⟩ := by
  after_reads_simp
  pointwise []

theorem h3_kd (b : Fin 4) (p : Fin 2048) (h : Fin 2) (e : Fin 128) :
    (StableHlo.after hostOps3 V0 (Proc.devRef .tc main_v114) (ix5 0 b p h e : S1x4x2048x2x128.Idx) : EReal) = val2 8192 256 (V0 (Proc.devRef .tc main_v109_6)) ⟨b.val * 2048 + p.val, by omega⟩ ⟨h.val * 128 + e.val, by omega⟩ := by
  after_reads_simp
  pointwise []

theorem h3_vd (b : Fin 4) (p : Fin 2048) (h : Fin 2) (e : Fin 128) :
    (StableHlo.after hostOps3 V0 (Proc.devRef .tc main_v115) (ix5 0 b p h e : S1x4x2048x2x128.Idx) : EReal) = val2 8192 256 (V0 (Proc.devRef .tc main_v109_7)) ⟨b.val * 2048 + p.val, by omega⟩ ⟨h.val * 128 + e.val, by omega⟩ := by
  after_reads_simp
  pointwise []

theorem h3_lf (b : Fin 4) (p : Fin 2048) (h : Fin 8) :
    (StableHlo.after hostOps3 V0 (Proc.devRef .tc main_v113) (ix4 0 b p h : S1x4x2048x8.Idx) : EReal) = val2 8192 128 (V0 (Proc.devRef .tc main_v109_8)) ⟨b.val * 2048 + p.val, by omega⟩ ⟨64 + h.val, by omega⟩ := by
  after_reads_simp
  pointwise []

theorem h3_ki (b : Fin 4) (p : Fin 2048) (e : Fin 64) :
    (StableHlo.after hostOps3 V0 (Proc.devRef .tc main_v117) (ix4 0 b p e : S1x4x2048x64.Idx) : EReal) = val2 8192 128 (V0 (Proc.devRef .tc main_v109_8)) ⟨b.val * 2048 + p.val, by omega⟩ ⟨e.val, by omega⟩ := by
  after_reads_simp
  pointwise []

end Cert.Proj

end
-- ==== Proof.Proj.Final0.lean ====
/-
  The modulation's array after its region.
-/
module

public import proofs.«01_k».proof.Proof.Proj.Region1

@[expose] public section

set_option maxRecDepth 16384

noncomputable section

namespace Cert.Proj

open Cert.Kernel3Ideal Cert.Kernel3Ideal.Gen Idealize.ShloMosaic Idealize.ShloMosaic.TcCoe Idealize.SL.Sem
open Cert.Kernel3Ideal.Facts

/-- The modulation: every row of conditions, every column. -/
def modArr (C : Vec Ideal S40x2048 .f32) (W : Vec Ideal S2048x12288 .f32) (B : Vec Ideal S1x12288 .f32) : Vec Ideal S40x12288 .f32 := fun i =>
  modulation (fun k => C (ix2 (i 0) k)) (fun k => W (ix2 k (i 1))) (B (ix2 0 (i 1)))

theorem idx0 : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) := by
  decide +kernel

variable (V : (c : Dev nD) → (b : Ref sig .tc) → Buf (Elt Ideal) ((c : Thread nD τ).loc b))

theorem lt_N0 (t : Fin cfg0.N) : t.val < 12 := lt_of_lt_of_eq t.isLt N_0

def col0 (t : Fin cfg0.N) (n : Fin 1024) : Fin 12288 := ⟨1024 * t.val + n.val, by have := lt_N0 t; omega⟩

def aC (c : Dev nD) : Vec Ideal S40x2048 .f32 := V c main_v1
def aW (c : Dev nD) : Vec Ideal S2048x12288 .f32 := V c main_v2
def aB (c : Dev nD) : Vec Ideal S1x12288 .f32 := V c main_v4

theorem rd0_c (c : Dev nD) (t : Fin cfg0.N) (r : Fin 40) (k : Fin 2048) : iblk0 V c 0 t (ix2 r k) = aC V c (ix2 r k) := by
  unfold aC
  blk_point [iblk0, idx0 t]
theorem rd0_w (c : Dev nD) (t : Fin cfg0.N) (k : Fin 2048) (n : Fin 1024) : iblk0 V c 1 t (ix2 k n) = aW V c (ix2 k (col0 t n)) := by
  have := lt_N0 t
  unfold aW col0
  blk_point [iblk0, idx0 t]
theorem rd0_b (c : Dev nD) (t : Fin cfg0.N) (n : Fin 1024) : iblk0 V c 2 t (ix2 0 n) = aB V c (ix2 0 (col0 t n)) := by
  have := lt_N0 t
  unfold aB col0
  blk_point [iblk0, idx0 t]

theorem final0 (c : Dev nD) : (dat0 V c).arrAt 3 cfg0.N = modArr (aC V c) (aW V c) (aB V c) := by
  refine (dat0 V c).arrAt_eq_of_covers 3 _ (by decide +kernel) fun t _ y => ?_
  blk_simp
  rw [after0_3]
  idx_vars y
  unfold out0_3
  rw [View.canon_unit_zero zz2, View.ld_unit_zero zz2, View.ld_unit_zero zz2, View.ld_unit_zero zz2]
  refine (adaln_at _ _ _ y0 y1).trans ?_
  have e : (((cfg0.win 3).blk t).view.emb (ix2 y0 y1) : (⟨2, ![40, 12288]⟩ : Shape).Idx) = ix2 y0 (col0 t y1) := by
    have := lt_N0 t
    unfold col0
    blk_ext [idx0 t]
  rw [e]
  simp only [rd0_c, rd0_w, rd0_b]
  rfl

end Cert.Proj

end
-- ==== Proof.Proj.Final1.lean ====
/-
  The first projection's two row arrays after the region: every row of the activations modulated by its batch's numbers,
  projected, and the keys' heads normalised.
-/
module

public import proofs.«01_k».proof.Proof.Proj.Region1

@[expose] public section

set_option maxRecDepth 16384

noncomputable section

namespace Cert.Proj

open Cert.Kernel3Ideal Cert.Kernel3Ideal.Gen Idealize.ShloMosaic Idealize.ShloMosaic.TcCoe Idealize.SL.Sem
open Cert.Kernel3Ideal.Facts

/-- Row `t` of the activations, modulated by its batch's numbers. -/
def arow (X : Vec Ideal S8192x2048 .f32) (SC SH : Vec Ideal S4x1x2048 .f32) (t : Fin 8192) : Fin 2048 → EReal :=
  modulated (fun k => X (ix2 t k)) (fun k => SC (ix3 ⟨t.val / 2048, by omega⟩ 0 k)) (fun k => SH (ix3 ⟨t.val / 2048, by omega⟩ 0 k))

/-- The values' rows. -/
def valsArr (X : Vec Ideal S8192x2048 .f32) (SC SH : Vec Ideal S4x1x2048 .f32) (w : Vec Ideal S2048x1024 .bf16) : Vec Ideal S8192x1024 .f32 := fun i =>
  ∑ k : Fin 2048, arow X SC SH (i 0) k * w (ix2 k (i 1))

/-- The keys' rows. -/
def keysArr (X : Vec Ideal S8192x2048 .f32) (SC SH : Vec Ideal S4x1x2048 .f32) (w : Vec Ideal S2048x1024 .bf16) (g : Vec Ideal S1x128 .f32) : Vec Ideal S8192x1024 .f32 := fun i =>
  normed (fun e => ∑ k : Fin 2048, arow X SC SH (i 0) k * w (ix2 k ⟨128 * ((i 1).val / 128) + e.val, by have : (i 1).val < 1024 := (i 1).isLt; omega⟩))
    (fun e => g (ix2 0 e)) ⟨(i 1).val % 128, Nat.mod_lt _ (by decide)⟩

theorem idx1 : ∀ t : Fin grid1.N,
    (win1_0.index t 0 = t.val ∧ win1_0.index t 1 = 0)
    ∧ (win1_1.index t 0 = t.val / 8 ∧ win1_1.index t 1 = 0 ∧ win1_1.index t 2 = 0)
    ∧ (win1_2.index t 0 = t.val / 8 ∧ win1_2.index t 1 = 0 ∧ win1_2.index t 2 = 0)
    ∧ (win1_4.index t 0 = 0 ∧ win1_4.index t 1 = 0) ∧ (win1_5.index t 0 = 0 ∧ win1_5.index t 1 = 0)
    ∧ (win1_7.index t 0 = 0 ∧ win1_7.index t 1 = 0)
    ∧ (win1_11.index t 0 = t.val ∧ win1_11.index t 1 = 0) ∧ (win1_12.index t 0 = t.val ∧ win1_12.index t 1 = 0) := by
  decide +kernel

variable (V : (c : Dev nD) → (b : Ref sig .tc) → Buf (Elt Ideal) ((c : Thread nD τ).loc b))

theorem lt_N1 (t : Fin cfg1.N) : t.val < 32 := lt_of_lt_of_eq t.isLt N_1

def row1 (t : Fin cfg1.N) (r : Fin 256) : Fin 8192 := ⟨256 * t.val + r.val, by have := lt_N1 t; omega⟩

def aX (c : Dev nD) : Vec Ideal S8192x2048 .f32 := V c main_v105
def aSC (c : Dev nD) : Vec Ideal S4x1x2048 .f32 := V c main_v15
def aSH (c : Dev nD) : Vec Ideal S4x1x2048 .f32 := V c main_v13
def aWK (c : Dev nD) : Vec Ideal S2048x1024 .bf16 := V c main_v28
def aWV (c : Dev nD) : Vec Ideal S2048x1024 .bf16 := V c main_v30
def aGK (c : Dev nD) : Vec Ideal S1x128 .f32 := V c main_v53

theorem rd1_x (c : Dev nD) (t : Fin cfg1.N) (r : Fin 256) (k : Fin 2048) : iblk1 V c 0 t (ix2 r k) = aX V c (ix2 (row1 t r) k) := by
  have := lt_N1 t
  unfold aX row1
  blk_point [iblk1, idx1 t]
theorem rd1_sc (c : Dev nD) (t : Fin cfg1.N) (k : Fin 2048) (h : t.val / 8 < 4) : iblk1 V c 1 t (ix3 0 0 k) = aSC V c (ix3 ⟨t.val / 8, h⟩ 0 k) := by
  unfold aSC
  blk_point [iblk1, idx1 t]
theorem rd1_sh (c : Dev nD) (t : Fin cfg1.N) (k : Fin 2048) (h : t.val / 8 < 4) : iblk1 V c 2 t (ix3 0 0 k) = aSH V c (ix3 ⟨t.val / 8, h⟩ 0 k) := by
  unfold aSH
  blk_point [iblk1, idx1 t]
theorem rd1_wk (c : Dev nD) (t : Fin cfg1.N) (k : Fin 2048) (n : Fin 1024) : iblk1 V c 4 t (ix2 k n) = aWK V c (ix2 k n) := by
  unfold aWK
  blk_point [iblk1, idx1 t]
theorem rd1_wv (c : Dev nD) (t : Fin cfg1.N) (k : Fin 2048) (n : Fin 1024) : iblk1 V c 5 t (ix2 k n) = aWV V c (ix2 k n) := by
  unfold aWV
  blk_point [iblk1, idx1 t]
theorem rd1_gk (c : Dev nD) (t : Fin cfg1.N) (n : Fin 128) : iblk1 V c 7 t (ix2 0 n) = aGK V c (ix2 0 n) := by
  unfold aGK
  blk_point [iblk1, idx1 t]

theorem mrow1 (c : Dev nD) (t : Fin cfg1.N) (r : Fin 256) :
    mrow (iblk1 V c 0 t) (iblk1 V c 1 t) (iblk1 V c 2 t) r = arow (aX V c) (aSC V c) (aSH V c) (row1 t r) := by
  have := lt_N1 t
  have hb : t.val / 8 < 4 := by omega
  have e : ∀ p, (⟨(row1 t r).val / 2048, p⟩ : Fin 4) = ⟨t.val / 8, hb⟩ := fun p => Fin.ext (by simp only [row1]; omega)
  unfold mrow arow
  simp only [rd1_x, rd1_sc V c t _ hb, rd1_sh V c t _ hb, e]

theorem final1_12 (c : Dev nD) : (dat1 V c).arrAt 12 cfg1.N = valsArr (aX V c) (aSC V c) (aSH V c) (aWV V c) := by
  refine (dat1 V c).arrAt_eq_of_covers 12 _ (by decide +kernel) fun t _ y => ?_
  blk_simp
  rw [after1_12]
  idx_vars y
  refine (out12_at _ _ _ _ _ _ _ _ y0 y1).trans ?_
  have e : (((cfg1.win 12).blk t).view.emb (ix2 y0 y1) : (⟨2, ![8192, 1024]⟩ : Shape).Idx) = ix2 (row1 t y0) y1 := by
    have := lt_N1 t
    unfold row1
    blk_ext [idx1 t]
  rw [e, mrow1]
  simp only [rd1_wv]
  rfl

theorem final1_11 (c : Dev nD) : (dat1 V c).arrAt 11 cfg1.N = keysArr (aX V c) (aSC V c) (aSH V c) (aWK V c) (aGK V c) := by
  refine (dat1 V c).arrAt_eq_of_covers 11 _ (by decide +kernel) fun t _ y => ?_
  blk_simp
  rw [after1_11]
  idx_vars y
  refine (out11_at _ _ _ _ _ _ _ _ (ix2 y0 y1)).trans ?_
  have e : (((cfg1.win 11).blk t).view.emb (ix2 y0 y1) : (⟨2, ![8192, 1024]⟩ : Shape).Idx) = ix2 (row1 t y0) y1 := by
    have := lt_N1 t
    unfold row1
    blk_ext [idx1 t]
  rw [e]
  unfold keys
  simp only [ix2_0, ix2_1]
  rw [mrow1]
  simp only [rd1_wk, rd1_gk]
  rfl

end Cert.Proj

end
-- ==== Proof.Proj.Final2.lean ====
/-
  The second projection's three row arrays after the region.
-/
module

public import proofs.«01_k».proof.Proof.Proj.Region2
public import proofs.«01_k».proof.Proof.Proj.Final1

@[expose] public section

set_option maxRecDepth 16384

noncomputable section

namespace Cert.Proj

open Cert.Kernel3Ideal Cert.Kernel3Ideal.Gen Idealize.ShloMosaic Idealize.ShloMosaic.TcCoe Idealize.SL.Sem
open Cert.Kernel3Ideal.Facts

/-- The position of a row within its sequence. -/
def pos (t : Fin 8192) : Fin 2048 := ⟨t.val % 2048, Nat.mod_lt _ (by decide)⟩

/-- The values' rows. -/
def vals2Arr (X : Vec Ideal S8192x2048 .f32) (SC SH : Vec Ideal S4x1x2048 .f32) (w : Vec Ideal S2048x256 .bf16) : Vec Ideal S8192x256 .f32 := fun i =>
  ∑ k : Fin 2048, arow X SC SH (i 0) k * w (ix2 k (i 1))

/-- The keys' rows, turned by their positions' angles. -/
def keys2Arr (X : Vec Ideal S8192x2048 .f32) (SC SH : Vec Ideal S4x1x2048 .f32) (w : Vec Ideal S2048x256 .bf16) (g : Vec Ideal S1x128 .f32)
    (C S : Vec Ideal S2048x128 .f32) : Vec Ideal S8192x256 .f32 := fun i =>
  turned (fun e => ∑ k : Fin 2048, arow X SC SH (i 0) k * w (ix2 k ⟨128 * ((i 1).val / 128) + e.val, by have : (i 1).val < 256 := (i 1).isLt; omega⟩))
    (fun e => g (ix2 0 e)) (fun e => C (ix2 (pos (i 0)) e)) (fun e => S (ix2 (pos (i 0)) e)) ⟨(i 1).val % 128, Nat.mod_lt _ (by decide)⟩

/-- The narrow projection's rows. -/
def miscArr (X : Vec Ideal S8192x2048 .f32) (SC SH : Vec Ideal S4x1x2048 .f32) (w : Vec Ideal S2048x128 .bf16) (b : Vec Ideal S1x128 .f32)
    (C S : Vec Ideal S2048x128 .f32) : Vec Ideal S8192x128 .f32 := fun i =>
  lanes (fun n => ∑ k : Fin 2048, arow X SC SH (i 0) k * w (ix2 k n)) (fun n => b (ix2 0 n)) (fun e => C (ix2 (pos (i 0)) e)) (fun e => S (ix2 (pos (i 0)) e)) (i 1)

theorem idx2 : ∀ t : Fin grid2.N,
    (win2_0.index t 0 = t.val ∧ win2_0.index t 1 = 0)
    ∧ (win2_1.index t 0 = t.val / 8 ∧ win2_1.index t 1 = 0 ∧ win2_1.index t 2 = 0)
    ∧ (win2_2.index t 0 = t.val / 8 ∧ win2_2.index t 1 = 0 ∧ win2_2.index t 2 = 0)
    ∧ (win2_4.index t 0 = 0 ∧ win2_4.index t 1 = 0) ∧ (win2_5.index t 0 = 0 ∧ win2_5.index t 1 = 0)
    ∧ (win2_7.index t 0 = 0 ∧ win2_7.index t 1 = 0)
    ∧ (win2_9.index t 0 = 0 ∧ win2_9.index t 1 = 0) ∧ (win2_10.index t 0 = 0 ∧ win2_10.index t 1 = 0) := by
  decide +kernel

theorem idx2' : ∀ t : Fin grid2.N,
    (win2_11.index t 0 = t.val % 8 ∧ win2_11.index t 1 = 0) ∧ (win2_12.index t 0 = t.val % 8 ∧ win2_12.index t 1 = 0)
    ∧ (win2_13.index t 0 = t.val % 8 ∧ win2_13.index t 1 = 0) ∧ (win2_14.index t 0 = t.val % 8 ∧ win2_14.index t 1 = 0)
    ∧ (win2_21.index t 0 = t.val ∧ win2_21.index t 1 = 0) ∧ (win2_22.index t 0 = t.val ∧ win2_22.index t 1 = 0)
    ∧ (win2_23.index t 0 = t.val ∧ win2_23.index t 1 = 0) := by
  decide +kernel

variable (V : (c : Dev nD) → (b : Ref sig .tc) → Buf (Elt Ideal) ((c : Thread nD τ).loc b))

theorem lt_N2 (t : Fin cfg2.N) : t.val < 32 := lt_of_lt_of_eq t.isLt N_2

def row2 (t : Fin cfg2.N) (r : Fin 256) : Fin 8192 := ⟨256 * t.val + r.val, by have := lt_N2 t; omega⟩
def pos2 (t : Fin cfg2.N) (r : Fin 256) : Fin 2048 := ⟨256 * (t.val % 8) + r.val, by omega⟩

theorem pos_row2 (t : Fin cfg2.N) (r : Fin 256) : pos (row2 t r) = pos2 t r := Fin.ext (by simp only [pos, row2, pos2]; omega)

def aWK2 (c : Dev nD) : Vec Ideal S2048x256 .bf16 := V c main_v35
def aWV2 (c : Dev nD) : Vec Ideal S2048x256 .bf16 := V c main_v37
def aWM (c : Dev nD) : Vec Ideal S2048x128 .bf16 := V c main_v108
def aGK2 (c : Dev nD) : Vec Ideal S1x128 .f32 := V c main_v57
def aBF (c : Dev nD) : Vec Ideal S1x128 .f32 := V c main_v49
def aC2 (c : Dev nD) : Vec Ideal S2048x128 .f32 := V c main_v76
def aS2 (c : Dev nD) : Vec Ideal S2048x128 .f32 := V c main_v81
def aC1 (c : Dev nD) : Vec Ideal S2048x128 .f32 := V c main_v99
def aS1 (c : Dev nD) : Vec Ideal S2048x128 .f32 := V c main_v104

theorem rd2_x (c : Dev nD) (t : Fin cfg2.N) (r : Fin 256) (k : Fin 2048) : iblk2 V c 0 t (ix2 r k) = aX V c (ix2 (row2 t r) k) := by
  have := lt_N2 t
  unfold aX row2
  blk_point [iblk2, idx2 t]
theorem rd2_sc (c : Dev nD) (t : Fin cfg2.N) (k : Fin 2048) (h : t.val / 8 < 4) : iblk2 V c 1 t (ix3 0 0 k) = aSC V c (ix3 ⟨t.val / 8, h⟩ 0 k) := by
  unfold aSC
  blk_point [iblk2, idx2 t]
theorem rd2_sh (c : Dev nD) (t : Fin cfg2.N) (k : Fin 2048) (h : t.val / 8 < 4) : iblk2 V c 2 t (ix3 0 0 k) = aSH V c (ix3 ⟨t.val / 8, h⟩ 0 k) := by
  unfold aSH
  blk_point [iblk2, idx2 t]
theorem rd2_wk (c : Dev nD) (t : Fin cfg2.N) (k : Fin 2048) (n : Fin 256) : iblk2 V c 4 t (ix2 k n) = aWK2 V c (ix2 k n) := by
  unfold aWK2
  blk_point [iblk2, idx2 t]
theorem rd2_wv (c : Dev nD) (t : Fin cfg2.N) (k : Fin 2048) (n : Fin 256) : iblk2 V c 5 t (ix2 k n) = aWV2 V c (ix2 k n) := by
  unfold aWV2
  blk_point [iblk2, idx2 t]
theorem rd2_wm (c : Dev nD) (t : Fin cfg2.N) (k : Fin 2048) (n : Fin 128) : iblk2 V c 7 t (ix2 k n) = aWM V c (ix2 k n) := by
  unfold aWM
  blk_point [iblk2, idx2 t]
theorem rd2_gk (c : Dev nD) (t : Fin cfg2.N) (n : Fin 128) : iblk2 V c 9 t (ix2 0 n) = aGK2 V c (ix2 0 n) := by
  unfold aGK2
  blk_point [iblk2, idx2 t]
theorem rd2_bf (c : Dev nD) (t : Fin cfg2.N) (n : Fin 128) : iblk2 V c 10 t (ix2 0 n) = aBF V c (ix2 0 n) := by
  unfold aBF
  blk_point [iblk2, idx2 t]
theorem rd2_c2 (c : Dev nD) (t : Fin cfg2.N) (r : Fin 256) (n : Fin 128) : iblk2 V c 11 t (ix2 r n) = aC2 V c (ix2 (pos2 t r) n) := by
  unfold aC2 pos2
  blk_point [iblk2, idx2' t]
theorem rd2_s2 (c : Dev nD) (t : Fin cfg2.N) (r : Fin 256) (n : Fin 128) : iblk2 V c 12 t (ix2 r n) = aS2 V c (ix2 (pos2 t r) n) := by
  unfold aS2 pos2
  blk_point [iblk2, idx2' t]
theorem rd2_c1 (c : Dev nD) (t : Fin cfg2.N) (r : Fin 256) (n : Fin 128) : iblk2 V c 13 t (ix2 r n) = aC1 V c (ix2 (pos2 t r) n) := by
  unfold aC1 pos2
  blk_point [iblk2, idx2' t]
theorem rd2_s1 (c : Dev nD) (t : Fin cfg2.N) (r : Fin 256) (n : Fin 128) : iblk2 V c 14 t (ix2 r n) = aS1 V c (ix2 (pos2 t r) n) := by
  unfold aS1 pos2
  blk_point [iblk2, idx2' t]

theorem mrow2 (c : Dev nD) (t : Fin cfg2.N) (r : Fin 256) :
    mrow (iblk2 V c 0 t) (iblk2 V c 1 t) (iblk2 V c 2 t) r = arow (aX V c) (aSC V c) (aSH V c) (row2 t r) := by
  have := lt_N2 t
  have hb : t.val / 8 < 4 := by omega
  have e : ∀ p, (⟨(row2 t r).val / 2048, p⟩ : Fin 4) = ⟨t.val / 8, hb⟩ := fun p => Fin.ext (by simp only [row2]; omega)
  unfold mrow arow
  simp only [rd2_x, rd2_sc V c t _ hb, rd2_sh V c t _ hb, e]

theorem final2_22 (c : Dev nD) : (dat2 V c).arrAt 22 cfg2.N = vals2Arr (aX V c) (aSC V c) (aSH V c) (aWV2 V c) := by
  refine (dat2 V c).arrAt_eq_of_covers 22 _ (by decide +kernel) fun t _ y => ?_
  blk_simp
  rw [after2_22]
  idx_vars y
  refine (out22_at _ _ _ _ _ _ _ _ _ _ _ _ _ _ _ y0 y1).trans ?_
  have e : (((cfg2.win 22).blk t).view.emb (ix2 y0 y1) : (⟨2, ![8192, 256]⟩ : Shape).Idx) = ix2 (row2 t y0) y1 := by
    have := lt_N2 t
    unfold row2
    blk_ext [idx2' t]
  rw [e, mrow2]
  simp only [rd2_wv]
  rfl

theorem final2_21 (c : Dev nD) : (dat2 V c).arrAt 21 cfg2.N = keys2Arr (aX V c) (aSC V c) (aSH V c) (aWK2 V c) (aGK2 V c) (aC2 V c) (aS2 V c) := by
  refine (dat2 V c).arrAt_eq_of_covers 21 _ (by decide +kernel) fun t _ y => ?_
  blk_simp
  rw [after2_21]
  idx_vars y
  refine (out21_at _ _ _ _ _ _ _ _ _ _ _ _ _ _ _ (ix2 y0 y1)).trans ?_
  have e : (((cfg2.win 21).blk t).view.emb (ix2 y0 y1) : (⟨2, ![8192, 256]⟩ : Shape).Idx) = ix2 (row2 t y0) y1 := by
    have := lt_N2 t
    unfold row2
    blk_ext [idx2' t]
  rw [e]
  unfold keys2 keys2Arr
  simp only [ix2_0, ix2_1]
  rw [mrow2, pos_row2]
  simp only [rd2_wk, rd2_gk, rd2_c2, rd2_s2]

theorem final2_23 (c : Dev nD) : (dat2 V c).arrAt 23 cfg2.N = miscArr (aX V c) (aSC V c) (aSH V c) (aWM V c) (aBF V c) (aC1 V c) (aS1 V c) := by
  refine (dat2 V c).arrAt_eq_of_covers 23 _ (by decide +kernel) fun t _ y => ?_
  blk_simp
  rw [after2_23]
  idx_vars y
  refine (out23_at _ _ _ _ _ _ _ _ _ _ _ _ _ _ _ y0 y1).trans ?_
  have e : (((cfg2.win 23).blk t).view.emb (ix2 y0 y1) : (⟨2, ![8192, 128]⟩ : Shape).Idx) = ix2 (row2 t y0) y1 := by
    have := lt_N2 t
    unfold row2
    blk_ext [idx2' t]
  rw [e]
  unfold miscArr
  simp only [ix2_0, ix2_1]
  rw [mrow2, pos_row2]
  simp only [rd2_wm, rd2_bf, rd2_c1, rd2_s1]

end Cert.Proj

end
-- ==== Proof.Proj.Chain.lean ====
/-
  The projection kernel's six results as the arguments' rows (Spec.lean), through the host's stretches and the three regions.
-/
module

public import proofs.«01_k».proof.Proof.Proj.Spec
public import proofs.«01_k».proof.Proof.Proj.Host
public import proofs.«01_k».proof.Proof.Proj.Final0
public import proofs.«01_k».proof.Proof.Proj.Final1
public import proofs.«01_k».proof.Proof.Proj.Final2

@[expose] public section

set_option maxRecDepth 16384

noncomputable section

namespace Cert.Proj

open Cert.Kernel3Ideal Cert.Kernel3Ideal.Gen Idealize.ShloMosaic Idealize.ShloMosaic.TcCoe Idealize.SL.Sem
open Cert.Kernel3Ideal.Facts

variable (m : (ℓ : Loc nD τ sig) → Buf (Elt Ideal) ℓ) (ρ : Dev nD → PrngReg) (c : Dev nD)

/-- The arguments' numbers. -/
def args : Args where
  x b p k := val3 4 2048 2048 (m ((c : Thread nD τ).loc main_arg0)) b p k
  c b k := val2 4 2048 (m ((c : Thread nD τ).loc main_arg1)) b k
  w k n := val3 1 2048 5720 (m ((c : Thread nD τ).loc main_arg3)) 0 k n
  a k n := val3 1 2048 12288 (m ((c : Thread nD τ).loc main_arg9)) 0 k n
  ab n := val2 1 12288 (m ((c : Thread nD τ).loc main_arg10)) 0 n
  bf n := val2 1 8 (m ((c : Thread nD τ).loc main_arg4)) 0 n
  gf n := val2 1 128 (m ((c : Thread nD τ).loc main_arg6)) 0 n
  gd n := val2 1 128 (m ((c : Thread nD τ).loc main_arg8)) 0 n

theorem mod_at (b : Fin 4) (n : Fin 12288) :
    val2 40 12288 (W2 m ρ c (Proc.devRef .tc main_v5)) ⟨b.val, by omega⟩ n = (args m c).mod b n := by
  have h : W2 m ρ c (Proc.devRef .tc main_v5) = modArr (aC (V1 m ρ) c) (aW (V1 m ρ) c) (aB (V1 m ρ) c) :=
    (W2_arr m ρ c 3).trans (final0 (V1 m ρ) c)
  unfold val2
  rw [h]
  unfold modArr Args.mod
  simp only [ix2_0, ix2_1]
  have h1 : (fun k => aC (V1 m ρ) c (ix2 ⟨b.val, by omega⟩ k)) = (args m c).c b := funext fun k => h0_c (W0 m ρ c) b k
  have h2 : (fun k => aW (V1 m ρ) c (ix2 k n)) = fun k => (args m c).a k n := funext fun k => h0_w (W0 m ρ c) k n
  have h3 : aB (V1 m ρ) c (ix2 0 n) = (args m c).ab n := h0_b (W0 m ρ c) n
  rw [h1, h2, h3]

theorem arg_W2 (a : Ref sig .tc) (h : a ∈ argRefs) : W2 m ρ c (Proc.devRef .tc a) = m ((c : Thread nD τ).loc a) := W2_args m ρ c a h

theorem x_at (t : Fin 8192) (k : Fin 2048) : aX (V3 m ρ) c (ix2 t k) = (args m c).x ⟨t.val / 2048, by omega⟩ ⟨t.val % 2048, by omega⟩ k := by
  refine (h1_x (W2 m ρ c) t k).trans ?_
  rw [arg_W2 m ρ c main_arg0 (by decide)]
  rfl
theorem sc_at (b : Fin 4) (k : Fin 2048) : aSC (V3 m ρ) c (ix3 b 0 k) = (args m c).mod b ⟨2048 + k.val, by omega⟩ :=
  (h1_sc (W2 m ρ c) b k).trans (mod_at m ρ c b _)
theorem sh_at (b : Fin 4) (k : Fin 2048) : aSH (V3 m ρ) c (ix3 b 0 k) = (args m c).mod b ⟨k.val, by omega⟩ :=
  (h1_sh (W2 m ρ c) b k).trans (mod_at m ρ c b _)

/-- A row of the modulated activations, in either region. -/
theorem arow_at (b : Fin 4) (p : Fin 2048) (h : b.val * 2048 + p.val < 8192) :
    arow (aX (V3 m ρ) c) (aSC (V3 m ρ) c) (aSH (V3 m ρ) c) ⟨b.val * 2048 + p.val, h⟩ = (args m c).row b p := by
  have e1 : ∀ q, (⟨(b.val * 2048 + p.val) / 2048, q⟩ : Fin 4) = b := fun q => Fin.ext (by simp only; omega)
  have e2 : ∀ q, (⟨(b.val * 2048 + p.val) % 2048, q⟩ : Fin 2048) = p := fun q => Fin.ext (by simp only; omega)
  unfold arow Args.row
  simp only [x_at, sc_at, sh_at, e1, e2]
theorem keep5 (r : Ref sig .tc) (h : r ∉ hostOps2_W) (h' : ∀ w : Fin cfg1.W, Pipeline.arrRef spec1 w = r → (cfg1.win w).isOut = false) :
    V5 m ρ c r = V3 m ρ c r := (W5_of m ρ c r h).trans (W4_of m ρ c r h')
theorem aX5 : aX (V5 m ρ) c = aX (V3 m ρ) c := keep5 m ρ c main_v105 (by decide) (by decide +kernel)
theorem aSC5 : aSC (V5 m ρ) c = aSC (V3 m ρ) c := keep5 m ρ c main_v15 (by decide) (by decide +kernel)
theorem aSH5 : aSH (V5 m ρ) c = aSH (V3 m ρ) c := keep5 m ρ c main_v13 (by decide) (by decide +kernel)

theorem wk_at (k : Fin 2048) (n : Fin 1024) : aWK (V3 m ρ) c (ix2 k n) = (args m c).w k ⟨1024 + n.val, by omega⟩ := by
  refine (h1_wk (W2 m ρ c) k n).trans ?_
  rw [arg_W2 m ρ c main_arg3 (by decide)]
  rfl
theorem wv_at (k : Fin 2048) (n : Fin 1024) : aWV (V3 m ρ) c (ix2 k n) = (args m c).w k ⟨2048 + n.val, by omega⟩ := by
  refine (h1_wv (W2 m ρ c) k n).trans ?_
  rw [arg_W2 m ρ c main_arg3 (by decide)]
  rfl
theorem gk_at (n : Fin 128) : aGK (V3 m ρ) c (ix2 0 n) = (args m c).gf n := by
  refine (h1_gk (W2 m ρ c) n).trans ?_
  rw [arg_W2 m ρ c main_arg6 (by decide)]
  rfl
theorem wk2_at (k : Fin 2048) (n : Fin 256) : aWK2 (V5 m ρ) c (ix2 k n) = (args m c).w k ⟨4104 + n.val, by omega⟩ := by
  unfold aWK2
  rw [keep5 m ρ c main_v35 (by decide) (by decide +kernel)]
  refine (h1_wk2 (W2 m ρ c) k n).trans ?_
  rw [arg_W2 m ρ c main_arg3 (by decide)]
  rfl
theorem wv2_at (k : Fin 2048) (n : Fin 256) : aWV2 (V5 m ρ) c (ix2 k n) = (args m c).w k ⟨4360 + n.val, by omega⟩ := by
  unfold aWV2
  rw [keep5 m ρ c main_v37 (by decide) (by decide +kernel)]
  refine (h1_wv2 (W2 m ρ c) k n).trans ?_
  rw [arg_W2 m ρ c main_arg3 (by decide)]
  rfl
theorem gk2_at (n : Fin 128) : aGK2 (V5 m ρ) c (ix2 0 n) = (args m c).gd n := by
  unfold aGK2
  rw [keep5 m ρ c main_v57 (by decide) (by decide +kernel)]
  refine (h1_gk2 (W2 m ρ c) n).trans ?_
  rw [arg_W2 m ρ c main_arg8 (by decide)]
  rfl
theorem bf_at (n : Fin 8) : aBF (V5 m ρ) c (ix2 0 ⟨64 + n.val, by omega⟩) = (args m c).bf n := by
  unfold aBF
  rw [keep5 m ρ c main_v49 (by decide) (by decide +kernel)]
  refine (h1_bf (W2 m ρ c) n).trans ?_
  rw [arg_W2 m ρ c main_arg4 (by decide)]
  rfl
theorem c2_at (p : Fin 2048) (n : Fin 128) : aC2 (V5 m ρ) c (ix2 p n) = Args.cos2 p n := by
  unfold aC2
  rw [keep5 m ρ c main_v76 (by decide) (by decide +kernel)]
  exact h1_c2 (W2 m ρ c) p n
theorem s2_at (p : Fin 2048) (n : Fin 128) : aS2 (V5 m ρ) c (ix2 p n) = Args.sin2 p n := by
  unfold aS2
  rw [keep5 m ρ c main_v81 (by decide) (by decide +kernel)]
  exact h1_s2 (W2 m ρ c) p n
theorem c1_at (p : Fin 2048) (n : Fin 64) : aC1 (V5 m ρ) c (ix2 p ⟨n.val, by omega⟩) = Args.cos1 p n := by
  unfold aC1
  rw [keep5 m ρ c main_v99 (by decide) (by decide +kernel)]
  refine (h1_c1 (W2 m ρ c) p ⟨n.val, by omega⟩).trans ?_
  simp only [Nat.mod_eq_of_lt n.isLt]
  rfl
theorem s1_at (p : Fin 2048) (n : Fin 64) : aS1 (V5 m ρ) c (ix2 p ⟨n.val, by omega⟩) = Args.sin1 p n := by
  unfold aS1
  rw [keep5 m ρ c main_v104 (by decide) (by decide +kernel)]
  refine (h1_s1 (W2 m ρ c) p ⟨n.val, by omega⟩).trans ?_
  simp only [Nat.mod_eq_of_lt n.isLt]
  rfl
theorem v43_4 : W4 m ρ c (Proc.devRef .tc main_v43) = W3 m ρ c (Proc.devRef .tc main_v43) := W4_of m ρ c main_v43 (by decide +kernel)
theorem ki_at (k : Fin 2048) (n : Fin 64) : aWM (V5 m ρ) c (ix2 k ⟨n.val, by omega⟩) = (args m c).w k ⟨5640 + n.val, by omega⟩ := by
  refine (h2_m (W4 m ρ c) k ⟨n.val, by omega⟩).trans ?_
  rw [v43_4]
  refine (h1_ki (W2 m ρ c) k n).trans ?_
  rw [arg_W2 m ρ c main_arg3 (by decide)]
  rfl
theorem fl_at (k : Fin 2048) (n : Fin 8) : aWM (V5 m ρ) c (ix2 k ⟨64 + n.val, by omega⟩) = (args m c).w k ⟨3072 + n.val, by omega⟩ := by
  refine (h2_m (W4 m ρ c) k ⟨64 + n.val, by omega⟩).trans ?_
  rw [v43_4]
  refine (h1_fl (W2 m ρ c) k n).trans ?_
  rw [arg_W2 m ρ c main_arg3 (by decide)]
  rfl

/-- Region 1's arrays reach the end. -/
theorem keep6 (r : Ref sig .tc) (h' : ∀ w : Fin cfg2.W, Pipeline.arrRef spec2 w = r → (cfg2.win w).isOut = false) (h : r ∉ hostOps2_W) :
    W6 m ρ c (Proc.devRef .tc r) = W4 m ρ c (Proc.devRef .tc r) := (W6_of m ρ c r h').trans (W5_of m ρ c r h)

theorem kf_arr : W6 m ρ c (Proc.devRef .tc main_v106_3) = keysArr (aX (V3 m ρ) c) (aSC (V3 m ρ) c) (aSH (V3 m ρ) c) (aWK (V3 m ρ) c) (aGK (V3 m ρ) c) :=
  (keep6 m ρ c main_v106_3 (by decide +kernel) (by decide)).trans ((W4_arr m ρ c 11).trans (final1_11 (V3 m ρ) c))
theorem vf_arr : W6 m ρ c (Proc.devRef .tc main_v106_4) = valsArr (aX (V3 m ρ) c) (aSC (V3 m ρ) c) (aSH (V3 m ρ) c) (aWV (V3 m ρ) c) :=
  (keep6 m ρ c main_v106_4 (by decide +kernel) (by decide)).trans ((W4_arr m ρ c 12).trans (final1_12 (V3 m ρ) c))
theorem kd_arr : W6 m ρ c (Proc.devRef .tc main_v109_6) = keys2Arr (aX (V3 m ρ) c) (aSC (V3 m ρ) c) (aSH (V3 m ρ) c) (aWK2 (V5 m ρ) c) (aGK2 (V5 m ρ) c) (aC2 (V5 m ρ) c) (aS2 (V5 m ρ) c) := by
  refine ((W6_arr m ρ c 21).trans (final2_21 (V5 m ρ) c)).trans ?_
  rw [aX5, aSC5, aSH5]
theorem vd_arr : W6 m ρ c (Proc.devRef .tc main_v109_7) = vals2Arr (aX (V3 m ρ) c) (aSC (V3 m ρ) c) (aSH (V3 m ρ) c) (aWV2 (V5 m ρ) c) := by
  refine ((W6_arr m ρ c 22).trans (final2_22 (V5 m ρ) c)).trans ?_
  rw [aX5, aSC5, aSH5]
theorem misc_arr : W6 m ρ c (Proc.devRef .tc main_v109_8) = miscArr (aX (V3 m ρ) c) (aSC (V3 m ρ) c) (aSH (V3 m ρ) c) (aWM (V5 m ρ) c) (aBF (V5 m ρ) c) (aC1 (V5 m ρ) c) (aS1 (V5 m ρ) c) := by
  refine ((W6_arr m ρ c 23).trans (final2_23 (V5 m ρ) c)).trans ?_
  rw [aX5, aSC5, aSH5]

theorem res_kf (b : Fin 4) (p : Fin 2048) (h : Fin 8) (e : Fin 128) :
    (W7 m ρ c (Proc.devRef .tc main_v110) (ix5 0 b p h e : S1x4x2048x8x128.Idx) : EReal) = (args m c).kf b p h e := by
  refine (h3_kf (W6 m ρ c) b p h e).trans ?_
  unfold val2
  rw [kf_arr]
  unfold keysArr Args.kf Args.proj
  have e1 : (h.val * 128 + e.val) / 128 = h.val := by omega
  have e2 : ∀ q, (⟨(h.val * 128 + e.val) % 128, q⟩ : Fin 128) = e := fun q => Fin.ext (by simp only; omega)
  simp only [ix2_0, ix2_1, e1, e2, arow_at, wk_at, gk_at, Nat.mul_comm 128]

theorem res_vf (b : Fin 4) (p : Fin 2048) (h : Fin 8) (e : Fin 128) :
    (W7 m ρ c (Proc.devRef .tc main_v111) (ix5 0 b p h e : S1x4x2048x8x128.Idx) : EReal) = (args m c).vf b p h e := by
  refine (h3_vf (W6 m ρ c) b p h e).trans ?_
  unfold val2
  rw [vf_arr]
  unfold valsArr Args.vf Args.proj
  simp only [ix2_0, ix2_1, arow_at, wv_at]

theorem res_kd (b : Fin 4) (p : Fin 2048) (h : Fin 2) (e : Fin 128) :
    (W7 m ρ c (Proc.devRef .tc main_v114) (ix5 0 b p h e : S1x4x2048x2x128.Idx) : EReal) = (args m c).kd b p h e := by
  refine (h3_kd (W6 m ρ c) b p h e).trans ?_
  unfold val2
  rw [kd_arr]
  unfold keys2Arr Args.kd Args.proj pos
  have e1 : (h.val * 128 + e.val) / 128 = h.val := by omega
  have e2 : ∀ q, (⟨(h.val * 128 + e.val) % 128, q⟩ : Fin 128) = e := fun q => Fin.ext (by simp only; omega)
  have e3 : ∀ q, (⟨(b.val * 2048 + p.val) % 2048, q⟩ : Fin 2048) = p := fun q => Fin.ext (by simp only; omega)
  simp only [ix2_0, ix2_1, e1, e2, e3, arow_at, wk2_at, gk2_at, c2_at, s2_at, Nat.mul_comm 128]

theorem res_vd (b : Fin 4) (p : Fin 2048) (h : Fin 2) (e : Fin 128) :
    (W7 m ρ c (Proc.devRef .tc main_v115) (ix5 0 b p h e : S1x4x2048x2x128.Idx) : EReal) = (args m c).vd b p h e := by
  refine (h3_vd (W6 m ρ c) b p h e).trans ?_
  unfold val2
  rw [vd_arr]
  unfold vals2Arr Args.vd Args.proj
  simp only [ix2_0, ix2_1, arow_at, wv2_at]

theorem lanes_gate (mm bb cc ss : Fin 128 → EReal) (h : Fin 8) :
    lanes mm bb cc ss ⟨64 + h.val, by omega⟩ = gateK (mm ⟨64 + h.val, by omega⟩ + bb ⟨64 + h.val, by omega⟩) := by
  unfold lanes
  rw [dif_neg (by simp only; omega), if_pos (by simp only; omega)]

theorem lanes_idx (mm bb cc ss : Fin 128 → EReal) (e : Fin 64) :
    lanes mm bb cc ss ⟨e.val, by omega⟩
      = mm ⟨e.val, by omega⟩ * cc ⟨e.val, by omega⟩ + mm ⟨(turnLane e).val, by omega⟩ * ss ⟨e.val, by omega⟩ := by
  unfold lanes
  rw [dif_pos e.isLt]

theorem res_lf (b : Fin 4) (p : Fin 2048) (h : Fin 8) :
    (W7 m ρ c (Proc.devRef .tc main_v113) (ix4 0 b p h : S1x4x2048x8.Idx) : EReal) = (args m c).lf b p h := by
  refine (h3_lf (W6 m ρ c) b p h).trans ?_
  unfold val2
  rw [misc_arr]
  unfold miscArr Args.lf Args.proj
  refine (lanes_gate _ _ _ _ h).trans ?_
  simp only [ix2_0, arow_at, fl_at, bf_at]

theorem res_ki (b : Fin 4) (p : Fin 2048) (e : Fin 64) :
    (W7 m ρ c (Proc.devRef .tc main_v117) (ix4 0 b p e : S1x4x2048x64.Idx) : EReal) = (args m c).ki b p e := by
  refine (h3_ki (W6 m ρ c) b p e).trans ?_
  unfold val2
  rw [misc_arr]
  unfold miscArr Args.ki Args.proj pos
  have e3 : ∀ q, (⟨(b.val * 2048 + p.val) % 2048, q⟩ : Fin 2048) = p := fun q => Fin.ext (by simp only; omega)
  refine (lanes_idx _ _ _ _ e).trans ?_
  simp only [ix2_0, e3, arow_at, c1_at, s1_at, ki_at]

end Cert.Proj

end
-- ==== Proof.Proj.Ref.lean ====
/-
  The reference's six results as the same functions of the arguments' numbers (Spec.lean).
-/
module

public import proofs.«01_k».proof.Proof.Gen.Reference3Ideal.Run
public import proofs.«01_k».proof.Proof.Proj.Spec

@[expose] public section

set_option maxRecDepth 16384

noncomputable section

namespace Cert.Proj.Ref

open Cert.Reference3Ideal Cert.Reference3Ideal.Value Idealize.ShloMosaic Idealize.ShloMosaic.TcCoe
open Cert.Reference3Ideal.Facts

variable (V0 : Valuation τ sig (Elt Ideal))

/-- The contents of an array, as numbers. -/
abbrev num2 (m n : ℕ) (x : (⟨⟨2, ![m, n]⟩, .f32⟩ : BufTy).Contents (Elt Ideal)) (i : Fin m) (j : Fin n) : EReal := x (ix2 i j)
abbrev num3 (l m n : ℕ) (x : (⟨⟨3, ![l, m, n]⟩, .f32⟩ : BufTy).Contents (Elt Ideal)) (h : Fin l) (i : Fin m) (j : Fin n) : EReal := x (ix3 h i j)

/-- The arguments' numbers. -/
def args : Args where
  x b p k := num3 4 2048 2048 (V0 (Proc.devRef .tc main_arg0)) b p k
  c b k := num2 4 2048 (V0 (Proc.devRef .tc main_arg1)) b k
  w k n := num3 1 2048 5720 (V0 (Proc.devRef .tc main_arg3)) 0 k n
  a k n := num3 1 2048 12288 (V0 (Proc.devRef .tc main_arg9)) 0 k n
  ab n := num2 1 12288 (V0 (Proc.devRef .tc main_arg10)) 0 n
  bf n := num2 1 8 (V0 (Proc.devRef .tc main_arg4)) 0 n
  gf n := num2 1 128 (V0 (Proc.devRef .tc main_arg6)) 0 n
  gd n := num2 1 128 (V0 (Proc.devRef .tc main_arg8)) 0 n

theorem mod_at (b : Fin 4) (n : Fin 12288) : (res_main_v8 V0 (ix3 b 0 n : S4x1x12288.Idx) : EReal) = (args V0).mod b n := by
  unfold Args.mod modulation args
  pointwise [res_main_v8]

theorem proj_at (b : Fin 4) (p : Fin 2048) (n : Fin 5720) : (res_main_v32 V0 (ix3 b p n : S4x2048x5720.Idx) : EReal) = (args V0).proj b p n := by
  unfold Args.proj Args.row modulated root
  simp only [← mod_at]
  unfold args
  pointwise [res_main_v32]

theorem k43_at (b : Fin 4) (p : Fin 2048) (h : Fin 8) (e : Fin 128) : (res_main_v43 V0 (ix4 b p h e : S4x2048x8x128.Idx) : EReal)
    = (args V0).proj b p ⟨1024 + (h.val * 128 + e.val), by omega⟩ := by
  rw [← proj_at]
  pointwise [res_main_v43]

theorem k64_at (b : Fin 4) (p : Fin 2048) (h : Fin 2) (e : Fin 128) : (res_main_v64 V0 (ix4 b p h e : S4x2048x2x128.Idx) : EReal)
    = (args V0).proj b p ⟨4104 + (h.val * 128 + e.val), by omega⟩ := by
  rw [← proj_at]
  pointwise [res_main_v64]

theorem k78_at (b : Fin 4) (p : Fin 2048) (h : Fin 2) (e : Fin 128) : (res_main_v78 V0 (ix4 b p h e : S4x2048x2x128.Idx) : EReal)
    = normed (fun e => (args V0).proj b p ⟨4104 + (h.val * 128 + e.val), by omega⟩) (args V0).gd e := by
  unfold normed root
  simp only [← k64_at]
  unfold args
  pointwise [res_main_v78]

theorem a90_at (p : Fin 2048) (n : Fin 64) : (res_main_v90 V0 (ix2 p n : S2048x64.Idx) : EReal) = angle 1115684864#32 p.val n.val := by
  unfold angle
  pointwise [res_main_v90, res_main_v0]

theorem a121_at (p : Fin 2048) (n : Fin 32) : (res_main_v121 V0 (ix2 p n : S2048x32.Idx) : EReal) = angle 1107296256#32 p.val n.val := by
  unfold angle
  pointwise [res_main_v121, res_main_v0]

theorem k109_at (b : Fin 4) (p : Fin 2048) (e : Fin 64) : (res_main_v109 V0 (ix4 b p 0 e : S4x2048x1x64.Idx) : EReal)
    = (args V0).proj b p ⟨5640 + e.val, by omega⟩ := by
  rw [← proj_at]
  pointwise [res_main_v109]

theorem z_at (b : Fin 4) (p : Fin 2048) (h : Fin 8) : (res_main_call1_v0 V0 (ix3 b p h : S4x2048x8.Idx) : EReal)
    = -((args V0).proj b p ⟨3072 + h.val, by omega⟩ + (args V0).bf h) := by
  rw [← proj_at]
  unfold args
  pointwise [res_main_call1_v0]

end Cert.Proj.Ref

end
-- ==== Proof.Proj.RefRun.lean ====
/-
  The reference's run: its six results are the arguments' rows (Spec.lean).
-/
module

public import proofs.«01_k».proof.Proof.Proj.Ref

@[expose] public section

set_option maxRecDepth 16384

noncomputable section

namespace Cert.Proj.Ref

open Cert.Reference3Ideal Cert.Reference3Ideal.Value Idealize.ShloMosaic Idealize.ShloMosaic.TcCoe Idealize.SL.Sem
open Cert.Reference3Ideal.Facts

theorem log_ne_bot {y : EReal} (h : 1 ≤ y) : Ideal.log y ≠ ⊥ := by
  induction y with
  | bot => exact absurd h (not_le.mpr (EReal.bot_lt_coe 1))
  | top => exact top_ne_bot
  | coe r =>
    have h' : (1 : ℝ) ≤ r := by exact_mod_cast h
    show (if r ≤ 0 then ⊥ else (Real.log r : EReal)) ≠ ⊥
    rw [if_neg (by linarith)]
    exact EReal.coe_ne_bot _

theorem log1p_exp_ne_bot (y : EReal) : Ideal.log1p (Ideal.exp y) ≠ ⊥ :=
  log_ne_bot (le_add_of_nonneg_right (Cert.Moe.exp_nonneg y))

/-- The negated softplus of the negated logit is the log-sigmoid. -/
theorem gate_eq (x : EReal) :
    -(max (-x) 0 + Ideal.log1p (Ideal.exp (-(FloatOps.absf (F := Ideal) (φ := .f32) (-x) : EReal)))) = gateK x := by
  have habs : (FloatOps.absf (F := Ideal) (φ := .f32) (-x) : EReal) = FloatOps.absf (F := Ideal) (φ := .f32) x := by
    show max (-x) (-(-x)) = max x (-x)
    rw [neg_neg, max_comm]
  have hmax : -(max (-x) 0) = min x 0 := by
    rw [← EReal.min_neg_neg, neg_neg, neg_zero]
  unfold gateK
  rw [habs, zero_sub]
  rw [EReal.neg_add (Or.inl (fun h => absurd (le_max_right (-x) (0 : EReal)) (by rw [h]; simp)))
    (Or.inr (log1p_exp_ne_bot _)), hmax]

variable (V0 : Valuation τ sig (Elt Ideal))

/-- The two halves' turning, written as one sum: 128 lanes. -/
theorem turn_key (e : Fin 128) (x : Fin 128 → EReal) (c s : ℕ → EReal) :
    (if h : e.val < 64 then x e * c e.val - x ⟨64 + e.val, by omega⟩ * s e.val
      else x ⟨64 + (e.val - 64), by omega⟩ * c (e.val - 64) + x ⟨e.val - 64, by omega⟩ * s (e.val - 64))
      = (x e * if e.val < 64 then c e.val else c (e.val - 64))
        + x (half e) * if e.val < 64 then -s e.val else s (e.val - 64) := by
  by_cases h : e.val < 64
  · rw [dif_pos h, if_pos h, if_pos h, show half e = ⟨64 + e.val, by omega⟩ from Fin.ext (by show (e.val + 128 - 64) % 128 = 64 + e.val; omega),
      mul_neg, ← sub_eq_add_neg]
  · rw [dif_neg h, if_neg h, if_neg h, show half e = ⟨e.val - 64, by omega⟩ from Fin.ext (by show (e.val + 128 - 64) % 128 = e.val - 64; omega),
      show (⟨64 + (e.val - 64), by omega⟩ : Fin 128) = e from Fin.ext (by show 64 + (e.val - 64) = _; omega)]

/-- The same of the 64 lanes of the index key. -/
theorem turn_index (e : Fin 64) (x : Fin 64 → EReal) (c s : ℕ → EReal) :
    (if h : e.val < 32 then x e * c e.val - x ⟨32 + e.val, by omega⟩ * s e.val
      else x ⟨32 + (e.val - 32), by omega⟩ * c (e.val - 32) + x ⟨e.val - 32, by omega⟩ * s (e.val - 32))
      = (x e * if e.val < 32 then c e.val else c (e.val - 32))
        + x (turnLane e) * if e.val < 32 then -s e.val else s (e.val - 32) := by
  by_cases h : e.val < 32
  · rw [dif_pos h, if_pos h, if_pos h, show turnLane e = ⟨32 + e.val, by omega⟩ from by
        unfold turnLane; rw [if_pos h]; exact Fin.ext (by show (e.val + 32) % 64 = 32 + e.val; omega),
      mul_neg, ← sub_eq_add_neg]
  · rw [dif_neg h, if_neg h, if_neg h, show turnLane e = ⟨e.val - 32, by omega⟩ from by unfold turnLane; rw [if_neg h],
      show (⟨32 + (e.val - 32), by omega⟩ : Fin 64) = e from Fin.ext (by show 32 + (e.val - 32) = _; omega)]

/-- The rows as arrays. -/
def kfArr (A : Args) : S1x4x2048x8x128.Idx → EReal := fun i => A.kf (i 1) (i 2) (i 3) (i 4)
def vfArr (A : Args) : S1x4x2048x8x128.Idx → EReal := fun i => A.vf (i 1) (i 2) (i 3) (i 4)
def lfArr (A : Args) : S1x4x2048x8.Idx → EReal := fun i => A.lf (i 1) (i 2) (i 3)
def kdArr (A : Args) : S1x4x2048x2x128.Idx → EReal := fun i => A.kd (i 1) (i 2) (i 3) (i 4)
def vdArr (A : Args) : S1x4x2048x2x128.Idx → EReal := fun i => A.vd (i 1) (i 2) (i 3) (i 4)
def kiArr (A : Args) : S1x4x2048x64.Idx → EReal := fun i => A.ki (i 1) (i 2) (i 3)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = kfArr (args (StableHlo.launchContents m c))
      ∧ r.2.mem ((c.tc : Thread nD τ).loc main_v141) = vfArr (args (StableHlo.launchContents m c))
      ∧ r.2.mem ((c.tc : Thread nD τ).loc main_v142) = lfArr (args (StableHlo.launchContents m c))
      ∧ r.2.mem ((c.tc : Thread nD τ).loc main_v143) = kdArr (args (StableHlo.launchContents m c))
      ∧ r.2.mem ((c.tc : Thread nD τ).loc main_v144) = vdArr (args (StableHlo.launchContents m c))
      ∧ r.2.mem ((c.tc : Thread nD τ).loc main_v145) = kiArr (args (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine θ_run_mono (Value.run m ρ) fun r h c => ?_
  obtain ⟨h1, h2, h3, h4, h5, h6, hr⟩ := h c
  refine ⟨h1.trans ?_, h2.trans ?_, h3.trans ?_, h4.trans ?_, h5.trans ?_, h6.trans ?_, hr⟩ <;> clear h h1 h2 h3 h4 h5 h6 hr <;>
    generalize StableHlo.launchContents m c = V0 <;> funext i <;> idx_vars i
  · show _ = (args V0).kf i1 i2 i3 i4
    unfold Args.kf normed root
    simp only [← k43_at]
    unfold args
    pointwise []
  · show _ = (args V0).vf i1 i2 i3 i4
    unfold Args.vf
    rw [← proj_at]
    pointwise []
  · show _ = (args V0).lf i1 i2 i3
    unfold Args.lf
    rw [← gate_eq, ← z_at]
    pointwise [res_main_call1_call0_v3, res_main_call1_call0_cst]
    exact congrArg Neg.neg (if_neg (fun h => h rfl))
  · show _ = (args V0).kd i1 i2 i3 i4
    unfold Args.kd turned
    simp only [← k78_at]
    unfold Args.cos2 Args.sin2
    pointwise [res_main_v95, res_main_v96, res_main_v92, res_main_v94, a90_at]
    exact turn_key i4 (fun e => res_main_v78 V0 (ix4 i1 i2 i3 e)) (fun j => Ideal.cos (angle 1115684864#32 i2.val j))
      (fun j => Ideal.sin (angle 1115684864#32 i2.val j))
  · show _ = (args V0).vd i1 i2 i3 i4
    unfold Args.vd
    rw [← proj_at]
    pointwise []
  · show _ = (args V0).ki i1 i2 i3
    unfold Args.ki
    simp only [← k109_at]
    unfold Args.cos1 Args.sin1
    pointwise [res_main_v126, res_main_v127, res_main_v123, res_main_v125, a121_at]
    exact turn_index i3 (fun e => res_main_v109 V0 (ix4 i1 i2 0 e)) (fun j => Ideal.cos (angle 1107296256#32 i2.val j))
      (fun j => Ideal.sin (angle 1107296256#32 i2.val j))

end Cert.Proj.Ref

end
-- ==== Proof.Proj.Claims.lean ====
/-
  The claims of the projections' program: its reference's frame, and that both return the same six arrays.
-/
module

public import proofs.«01_k».proof.Defs
public import proofs.«01_k».proof.Proof.Proj.Run
public import proofs.«01_k».proof.Proof.Proj.Chain
public import proofs.«01_k».proof.Proof.Proj.RefRun
public import Idealize.ShloMosaic.Lib.Claim
public import Idealize.ShloMosaic.Lib.Quiescent

@[expose] public section

set_option maxRecDepth 16384

noncomputable section

namespace Cert.Proj

open Idealize.ShloMosaic Idealize.ShloMosaic.TcCoe Idealize.SL.Sem

theorem frame_reference : Cert.quiescent_Reference3Ideal := fun m ρ _ =>
  θ_run_mono (Cert.Reference3Ideal.Value.run m ρ) fun r h =>
    ⟨fun c => (h c).2.2.2.2.2.2, sem_eq_zero_of_no_sems (by decide) r.2⟩

section
open Cert.Kernel3Ideal Cert.Kernel3Ideal.Gen

/-- The kernel's six results are the arguments' rows; its arguments end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110) = Ref.kfArr (args m c)
      ∧ r.2.mem ((c.tc : Thread nD τ).loc main_v111) = Ref.vfArr (args m c)
      ∧ r.2.mem ((c.tc : Thread nD τ).loc main_v113) = Ref.lfArr (args m c)
      ∧ r.2.mem ((c.tc : Thread nD τ).loc main_v114) = Ref.kdArr (args m c)
      ∧ r.2.mem ((c.tc : Thread nD τ).loc main_v115) = Ref.vdArr (args m c)
      ∧ r.2.mem ((c.tc : Thread nD τ).loc main_v117) = Ref.kiArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine θ_run_mono (run_bufs m ρ) fun r h c => ?_
  refine ⟨(h c _ (mem_uc main_v110 (by decide))).trans ?_, (h c _ (mem_uc main_v111 (by decide))).trans ?_, (h c _ (mem_uc main_v113 (by decide))).trans ?_, (h c _ (mem_uc main_v114 (by decide))).trans ?_, (h c _ (mem_uc main_v115 (by decide))).trans ?_, (h c _ (mem_uc main_v117 (by decide))).trans ?_,
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩ <;>
    funext i <;> idx_vars i
  · fin_cases i0; exact res_kf m ρ c i1 i2 i3 i4
  · fin_cases i0; exact res_vf m ρ c i1 i2 i3 i4
  · fin_cases i0; exact res_lf m ρ c i1 i2 i3
  · fin_cases i0; exact res_kd m ρ c i1 i2 i3 i4
  · fin_cases i0; exact res_vd m ρ c i1 i2 i3 i4
  · fin_cases i0; exact res_ki m ρ c i1 i2 i3

end

/-- Memories that agree on the arguments hold the same numbers. -/
theorem args_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (e3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (e4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (e6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (e8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (e9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (e10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) :
    Ref.args (StableHlo.launchContents m' c) = args m c := by
  refine Args.ext ?_ ?_ ?_ ?_ ?_ ?_ ?_ ?_
  · funext b p k; exact congrFun e0 (ix3 b p k)
  · funext b k; exact congrFun e1 (ix2 b k)
  · funext k n; exact congrFun e3 (ix3 0 k n)
  · funext k n; exact congrFun e9 (ix3 0 k n)
  · funext n; exact congrFun e10 (ix2 0 n)
  · funext n; exact congrFun e4 (ix2 0 n)
  · funext n; exact congrFun e6 (ix2 0 n)
  · funext n; exact congrFun e8 (ix2 0 n)

theorem value : Cert.algebraic_Kernel3Ideal_Reference3Ideal := by
  intro m g m' g' _ hagree
  refine ⟨fun c => Ref.kfArr (args m c), fun c => Ref.vfArr (args m c), fun c => Ref.lfArr (args m c), fun c => Ref.kdArr (args m c), fun c => Ref.vdArr (args m c), fun c => Ref.kiArr (args m c), run m g, ?_⟩
  refine θ_run_mono (Ref.run m' g') fun r h c => ?_
  obtain ⟨e0, e1, -, e3, e4, -, e6, -, e8, e9, e10⟩ := hagree c
  have ha := args_agree m m' c e0 e1 e3 e4 e6 e8 e9 e10
  obtain ⟨h1, h2, h3, h4, h5, h6, hr⟩ := h c
  rw [ha] at h1 h2 h3 h4 h5 h6
  exact ⟨h1, h2, h3, h4, h5, h6, hr⟩

end Cert.Proj

end
-- ==== Proof.ProjS.Run.lean ====
/-
  The sample's projection kernel's run: every buffer of the TensorCore that outlives the calls ends at the last boundary's contents.
-/
module

public import proofs.«01_k».proof.Proof.Gen.Kernel4Ideal.Frame
public import proofs.«01_k».proof.Proof.Proj.Math

@[expose] public section

set_option maxRecDepth 16384

noncomputable section

namespace Cert.ProjS

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Cert.Kernel4Ideal Cert.Kernel4Ideal.Gen
open Cert.Kernel4Ideal.Facts

variable (m : (ℓ : Loc nD τ sig) → Buf (Elt Ideal) ℓ) (ρ : Dev nD → PrngReg)

set_option backward.isDefEq.respectTransparency.types false in
/-- Host stretches and regions in turn, from any memory; the last thread state read against the final one. -/
theorem run_bufs : θ_run defs (onTc (τ := τ) (main (F := Ideal))) ⟨m, fun _ => 0, ρ⟩ fun r =>
    ∀ c : Dev nD, ∀ b ∈ Pipeline.ucRefs τ sig, r.2.mem (((c : Thread nD τ)).1, b) = W6 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.ProjS

end
-- ==== Proof.ProjS.Spec.lean ====
/-
  The sample's rows, as functions of the arguments' numbers: what both programs store.
-/
module

public import proofs.«01_k».proof.Proof.Proj.Region2
public import proofs.«01_k».proof.Proof.Proj.Angle

@[expose] public section

noncomputable section

namespace Cert.ProjS

open Idealize.ShloMosaic
open Cert.Proj (modulation modulated normed turned turnLane gateK angle)

/-- The arguments' numbers: activations, conditions, the projection's matrix, the modulation's matrix and bias, the gates'
    bias and the two gains of the keys. -/
@[ext]
structure Args where
  x : Fin 32 → Fin 2048 → EReal
  c : Fin 32 → Fin 2048 → EReal
  w : Fin 2048 → Fin 5720 → EReal
  a : Fin 2048 → Fin 12288 → EReal
  ab : Fin 12288 → EReal
  bf : Fin 8 → EReal
  gf : Fin 128 → EReal
  gd : Fin 128 → EReal

namespace Args

variable (A : Args)

/-- Number `n` of row `b`'s modulation. -/
def mod (b : Fin 32) (n : Fin 12288) : EReal := modulation (A.c b) (fun k => A.a k n) (A.ab n)

/-- Row `b`, normalised, scaled and shifted. -/
def row (b : Fin 32) : Fin 2048 → EReal :=
  modulated (A.x b) (fun k => A.mod b ⟨2048 + k.val, by omega⟩) (fun k => A.mod b ⟨k.val, by omega⟩)

/-- Its projection to column `n`. -/
def proj (b : Fin 32) (n : Fin 5720) : EReal := ∑ k : Fin 2048, A.row b k * A.w k n

/-- The first attention's keys. -/
def kf (b : Fin 32) (h : Fin 8) (e : Fin 128) : EReal :=
  normed (fun e => A.proj b ⟨1024 + (h.val * 128 + e.val), by omega⟩) A.gf e

/-- The first attention's values. -/
def vf (b : Fin 32) (h : Fin 8) (e : Fin 128) : EReal := A.proj b ⟨2048 + (h.val * 128 + e.val), by omega⟩

/-- The logarithms of the forget gates. -/
def lf (b : Fin 32) (h : Fin 8) : EReal := gateK (A.proj b ⟨3072 + h.val, by omega⟩ + A.bf h)

/-- The cosines and signed sines of a head of 128 lanes. -/
def cos2 (n : Fin 128) : EReal :=
  if n.val < 64 then Ideal.cos (angle 1115684864#32 16384 n.val) else Ideal.cos (angle 1115684864#32 16384 (n.val - 64))
def sin2 (n : Fin 128) : EReal :=
  if n.val < 64 then -Ideal.sin (angle 1115684864#32 16384 n.val) else Ideal.sin (angle 1115684864#32 16384 (n.val - 64))

/-- The cosines and signed sines of the index key's 64 lanes. -/
def cos1 (n : Fin 64) : EReal :=
  if n.val < 32 then Ideal.cos (angle 1107296256#32 16384 n.val) else Ideal.cos (angle 1107296256#32 16384 (n.val - 32))
def sin1 (n : Fin 64) : EReal :=
  if n.val < 32 then -Ideal.sin (angle 1107296256#32 16384 n.val) else Ideal.sin (angle 1107296256#32 16384 (n.val - 32))

/-- The second attention's keys. -/
def kd (b : Fin 32) (h : Fin 2) (e : Fin 128) : EReal :=
  turned (fun e => A.proj b ⟨4104 + (h.val * 128 + e.val), by omega⟩) A.gd cos2 sin2 e

/-- The second attention's values. -/
def vd (b : Fin 32) (h : Fin 2) (e : Fin 128) : EReal := A.proj b ⟨4360 + (h.val * 128 + e.val), by omega⟩

/-- The index keys. -/
def ki (b : Fin 32) (e : Fin 64) : EReal :=
  A.proj b ⟨5640 + e.val, by omega⟩ * cos1 e + A.proj b ⟨5640 + (turnLane e).val, by omega⟩ * sin1 e

end Args

end Cert.ProjS

end
-- ==== Proof.ProjS.Host.lean ====
/-
  What the host hands the regions and takes from them, number by number: the sample.
-/
module

public import proofs.«01_k».proof.Proof.Gen.Kernel4Ideal.Frame
public import proofs.«01_k».proof.Proof.Proj.Angle
public import Idealize.ShloMosaic.Lib.StableHlo.RunRead
public import Idealize.ShloMosaic.Lib.Routing.OpsSet
public import Idealize.ShloMosaic.Lib.Pointwise

@[expose] public section

set_option maxRecDepth 16384

noncomputable section

namespace Cert.ProjS

open Cert.Kernel4Ideal Cert.Kernel4Ideal.Gen Idealize.ShloMosaic Idealize.ShloMosaic.TcCoe Idealize.SL.Sem
open Cert.Kernel4Ideal.Facts
open Cert.Proj (angle)

variable (V0 : Valuation τ sig (Elt Ideal))

/-- The contents of an array among the valuation's, as numbers. -/
abbrev val2 (m n : ℕ) (x : (⟨⟨2, ![m, n]⟩, .f32⟩ : BufTy).Contents (Elt Ideal)) (i : Fin m) (j : Fin n) : EReal := x (ix2 i j)
abbrev val3 (l m n : ℕ) (x : (⟨⟨3, ![l, m, n]⟩, .f32⟩ : BufTy).Contents (Elt Ideal)) (h : Fin l) (i : Fin m) (j : Fin n) : EReal := x (ix3 h i j)

theorem h0_c (b : Fin 32) (k : Fin 2048) :
    (StableHlo.after hostOps0 V0 (Proc.devRef .tc main_v1) (ix2 ⟨4 + b.val, by omega⟩ k : S40x2048.Idx) : EReal) = val2 32 2048 (V0 (Proc.devRef .tc main_arg2)) b k := by
  after_reads_simp
  pointwise []

theorem h0_w (k : Fin 2048) (n : Fin 12288) :
    (StableHlo.after hostOps0 V0 (Proc.devRef .tc main_v2) (ix2 k n : S2048x12288.Idx) : EReal) = val3 1 2048 12288 (V0 (Proc.devRef .tc main_arg9)) 0 k n := by
  after_reads_simp
  pointwise []

theorem h0_b (n : Fin 12288) :
    (StableHlo.after hostOps0 V0 (Proc.devRef .tc main_v4) (ix2 0 n : S1x12288.Idx) : EReal) = val2 1 12288 (V0 (Proc.devRef .tc main_arg10)) 0 n := by
  after_reads_simp
  pointwise []

theorem h1_sh (b : Fin 32) (k : Fin 2048) :
    (StableHlo.after hostOps1 V0 (Proc.devRef .tc main_v13) (ix3 0 b k : S1x32x2048.Idx) : EReal) = val2 40 12288 (V0 (Proc.devRef .tc main_v5)) ⟨4 + b.val, by omega⟩ ⟨k.val, by omega⟩ := by
  after_reads_simp
  pointwise []

theorem h1_sc (b : Fin 32) (k : Fin 2048) :
    (StableHlo.after hostOps1 V0 (Proc.devRef .tc main_v15) (ix3 0 b k : S1x32x2048.Idx) : EReal) = val2 40 12288 (V0 (Proc.devRef .tc main_v5)) ⟨4 + b.val, by omega⟩ ⟨2048 + k.val, by omega⟩ := by
  after_reads_simp
  pointwise []

theorem h1_x (t : Fin 32) (k : Fin 2048) :
    (StableHlo.after hostOps1 V0 (Proc.devRef .tc main_v105) (ix2 t k : S32x2048.Idx) : EReal) = val3 32 1 2048 (V0 (Proc.devRef .tc main_arg0)) t 0 k := by
  after_reads_simp
  pointwise []

theorem h1_wk (k : Fin 2048) (n : Fin 1024) :
    (StableHlo.after hostOps1 V0 (Proc.devRef .tc main_v28) (ix2 k n : S2048x1024.Idx) : EReal) = val3 1 2048 5720 (V0 (Proc.devRef .tc main_arg3)) 0 k ⟨1024 + n.val, by omega⟩ := by
  after_reads_simp
  pointwise []

theorem h1_wv (k : Fin 2048) (n : Fin 1024) :
    (StableHlo.after hostOps1 V0 (Proc.devRef .tc main_v30) (ix2 k n : S2048x1024.Idx) : EReal) = val3 1 2048 5720 (V0 (Proc.devRef .tc main_arg3)) 0 k ⟨2048 + n.val, by omega⟩ := by
  after_reads_simp
  pointwise []

theorem h1_wk2 (k : Fin 2048) (n : Fin 256) :
    (StableHlo.after hostOps1 V0 (Proc.devRef .tc main_v35) (ix2 k n : S2048x256.Idx) : EReal) = val3 1 2048 5720 (V0 (Proc.devRef .tc main_arg3)) 0 k ⟨4104 + n.val, by omega⟩ := by
  after_reads_simp
  pointwise []

theorem h1_wv2 (k : Fin 2048) (n : Fin 256) :
    (StableHlo.after hostOps1 V0 (Proc.devRef .tc main_v37) (ix2 k n : S2048x256.Idx) : EReal) = val3 1 2048 5720 (V0 (Proc.devRef .tc main_arg3)) 0 k ⟨4360 + n.val, by omega⟩ := by
  after_reads_simp
  pointwise []

theorem h1_gk (n : Fin 128) :
    (StableHlo.after hostOps1 V0 (Proc.devRef .tc main_v53) (ix2 0 n : S1x128.Idx) : EReal) = val2 1 128 (V0 (Proc.devRef .tc main_arg6)) 0 n := by
  after_reads_simp
  pointwise []

theorem h1_gk2 (n : Fin 128) :
    (StableHlo.after hostOps1 V0 (Proc.devRef .tc main_v57) (ix2 0 n : S1x128.Idx) : EReal) = val2 1 128 (V0 (Proc.devRef .tc main_arg8)) 0 n := by
  after_reads_simp
  pointwise []

theorem h1_ki (k : Fin 2048) (n : Fin 64) :
    (StableHlo.after hostOps1 V0 (Proc.devRef .tc main_v43) (ix2 k ⟨n.val, by omega⟩ : S2048x128.Idx) : EReal) = val3 1 2048 5720 (V0 (Proc.devRef .tc main_arg3)) 0 k ⟨5640 + n.val, by omega⟩ := by
  after_reads_simp
  pointwise []
  after_reads_simp
  pointwise []

theorem h1_fl (k : Fin 2048) (n : Fin 8) :
    (StableHlo.after hostOps1 V0 (Proc.devRef .tc main_v43) (ix2 k ⟨64 + n.val, by omega⟩ : S2048x128.Idx) : EReal) = val3 1 2048 5720 (V0 (Proc.devRef .tc main_arg3)) 0 k ⟨3072 + n.val, by omega⟩ := by
  after_reads_simp
  pointwise []
  after_reads_simp
  pointwise []

theorem h1_bf (n : Fin 8) :
    (StableHlo.after hostOps1 V0 (Proc.devRef .tc main_v49) (ix2 0 ⟨64 + n.val, by omega⟩ : S1x128.Idx) : EReal) = val2 1 8 (V0 (Proc.devRef .tc main_arg4)) 0 n := by
  have hidx : ∀ i : S2.Idx, (concatenate S2 0 [⟨S1, broadcastInDim S1 ![] bcast_S_S1 (constantI S_ 32 0#32)⟩, ⟨S1, broadcastInDim S1 ![] bcast_S_S1 (constantI S_ 32 64#32)⟩] concatenates_S1_S1_S2_d0 : IVec S2 32) i = if (i 0).val = 0 then 0#32 else 64#32 := by
    intro i
    idx_vars i
    pointwise []
    fin_cases i0 <;> rfl
  have hr : ∀ k : Fin 8, scatter_S1x128_S2_S8_0_0_01_0.resultIdx? (w := 32) (ix1 k) (fun i => if (i 0).val = 0 then 0#32 else 64#32) = some (ix2 0 ⟨64 + k.val, by omega⟩) := by
    decide +kernel
  after_reads_simp
  refine (congrArg (fun J => Host.scatter scatter_S1x128_S2_S8_0_0_01_0 (fun _ b => b) _ J _ _) (a₂ := fun i => if (i 0).val = 0 then 0#32 else 64#32) ?_).trans ?_
  · after_reads_simp
    funext i
    exact hidx i
  · refine Routing.scatter_set_hit _ _ _ _ _ _ (fun k hk => ?_) (ix1 n) (hr n)
    idx_vars k
    rw [hr k0] at hk
    have e := congrArg Fin.val (congrFun (Option.some.inj hk) 1)
    have e' : k0 = n := Fin.ext (by simp only [ix2_1] at e; omega)
    subst e'
    pointwise []

theorem h1_c2 (p : Fin 32) (n : Fin 128) :
    (StableHlo.after hostOps1 V0 (Proc.devRef .tc main_v76) (ix2 p n : S32x128.Idx) : EReal) = if n.val < 64 then Ideal.cos (angle 1115684864#32 16384 (n.val)) else Ideal.cos (angle 1115684864#32 16384 (n.val - 64)) := by
  unfold angle
  after_reads_simp
  pointwise []
  after_reads_simp
  pointwise []
  rfl

theorem h1_s2 (p : Fin 32) (n : Fin 128) :
    (StableHlo.after hostOps1 V0 (Proc.devRef .tc main_v81) (ix2 p n : S32x128.Idx) : EReal) = if n.val < 64 then -Ideal.sin (angle 1115684864#32 16384 (n.val)) else Ideal.sin (angle 1115684864#32 16384 (n.val - 64)) := by
  unfold angle
  after_reads_simp
  pointwise []
  after_reads_simp
  pointwise []
  rfl

theorem h1_c1 (p : Fin 32) (n : Fin 128) :
    (StableHlo.after hostOps1 V0 (Proc.devRef .tc main_v99) (ix2 p n : S32x128.Idx) : EReal) = if n.val % 64 < 32 then Ideal.cos (angle 1107296256#32 16384 (n.val % 64)) else Ideal.cos (angle 1107296256#32 16384 (n.val % 64 - 32)) := by
  unfold angle
  after_reads_simp
  pointwise []
  after_reads_simp
  pointwise []
  rfl

theorem h1_s1 (p : Fin 32) (n : Fin 128) :
    (StableHlo.after hostOps1 V0 (Proc.devRef .tc main_v104) (ix2 p n : S32x128.Idx) : EReal) = if n.val % 64 < 32 then -Ideal.sin (angle 1107296256#32 16384 (n.val % 64)) else Ideal.sin (angle 1107296256#32 16384 (n.val % 64 - 32)) := by
  unfold angle
  after_reads_simp
  pointwise []
  after_reads_simp
  pointwise []
  rfl

theorem h3_kf (b : Fin 32) (h : Fin 8) (e : Fin 128) :
    (StableHlo.after hostOps3 V0 (Proc.devRef .tc main_v108) (ix5 0 b 0 h e : S1x32x1x8x128.Idx) : EReal) = val2 32 1024 (V0 (Proc.devRef .tc main_v106_3)) b ⟨h.val * 128 + e.val, by omega⟩ := by
  after_reads_simp
  pointwise []

theorem h3_vf (b : Fin 32) (h : Fin 8) (e : Fin 128) :
    (StableHlo.after hostOps3 V0 (Proc.devRef .tc main_v109) (ix5 0 b 0 h e : S1x32x1x8x128.Idx) : EReal) = val2 32 1024 (V0 (Proc.devRef .tc main_v106_4)) b ⟨h.val * 128 + e.val, by omega⟩ := by
  after_reads_simp
  pointwise []

theorem h3_kd (b : Fin 32) (h : Fin 2) (e : Fin 128) :
    (StableHlo.after hostOps3 V0 (Proc.devRef .tc main_v112) (ix5 0 b 0 h e : S1x32x1x2x128.Idx) : EReal) = val2 32 256 (V0 (Proc.devRef .tc main_v107_6)) b ⟨h.val * 128 + e.val, by omega⟩ := by
  after_reads_simp
  pointwise []

theorem h3_vd (b : Fin 32) (h : Fin 2) (e : Fin 128) :
    (StableHlo.after hostOps3 V0 (Proc.devRef .tc main_v113) (ix5 0 b 0 h e : S1x32x1x2x128.Idx) : EReal) = val2 32 256 (V0 (Proc.devRef .tc main_v107_7)) b ⟨h.val * 128 + e.val, by omega⟩ := by
  after_reads_simp
  pointwise []

theorem h3_lf (b : Fin 32) (h : Fin 8) :
    (StableHlo.after hostOps3 V0 (Proc.devRef .tc main_v111) (ix4 0 b 0 h : S1x32x1x8.Idx) : EReal) = val2 32 128 (V0 (Proc.devRef .tc main_v107_8)) b ⟨64 + h.val, by omega⟩ := by
  after_reads_simp
  pointwise []

theorem h3_ki (b : Fin 32) (e : Fin 64) :
    (StableHlo.after hostOps3 V0 (Proc.devRef .tc main_v115) (ix4 0 b 0 e : S1x32x1x64.Idx) : EReal) = val2 32 128 (V0 (Proc.devRef .tc main_v107_8)) b ⟨e.val, by omega⟩ := by
  after_reads_simp
  pointwise []

end Cert.ProjS

end
-- ==== Proof.ProjS.Steps.lean ====
/-
  The values the projection kernels store, element by element: the sample's rows.
-/
module

public import proofs.«01_k».proof.Proof.Gen.Kernel4Ideal.Skeleton
public import proofs.«01_k».proof.Proof.Proj.Region2
public import Idealize.ShloMosaic.Lib.Pointwise

@[expose] public section

set_option maxRecDepth 16384

noncomputable section

namespace Cert.ProjS

open Cert.Kernel4Ideal Cert.Kernel4Ideal.Gen Idealize.ShloMosaic Idealize.ShloMosaic.TcCoe
open Cert.Kernel4Ideal.Facts
open Cert.Proj (modulation modulated root normed half gateK zz2 zz3 turned turnLane lanes)

/-- A tile of the modulation. -/
theorem adaln_at (c : Vec Ideal S40x2048 .f32) (w : Vec Ideal S2048x1024 .f32) (b : Vec Ideal S1x1024 .f32) (r : Fin 40) (n : Fin 1024) :
    k0_pay1 c w b (ix2 r n) = modulation (fun k => c (ix2 r k)) (fun k => w (ix2 k n)) (b (ix2 0 n)) := by
  unfold modulation
  pointwise [k0_pay1]
  simp only [Cert.Moe.silu_eq]

/-- A tile of modulated rows. -/
theorem rows_at (x : Vec Ideal S32x2048 .f32) (sc sh : Vec Ideal S1x32x2048 .f32) (r : Fin 32) (d : Fin 2048) :
    k1_pay3 x sc sh (ix2 r d) = modulated (fun k => x (ix2 r k)) (fun k => sc (ix3 0 r k)) (fun k => sh (ix3 0 r k)) d := by
  unfold modulated root
  pointwise [k1_pay3]

/-- A tile of values. -/
theorem val_at (h : FVec Ideal S32x2048 .bf16) (w : Vec Ideal S2048x1024 .bf16) (r : Fin 32) (n : Fin 1024) :
    k1_pay1 h w (ix2 r n) = ∑ k : Fin 2048, h (ix2 r k) * w (ix2 k n) := by
  pointwise [k1_pay1]

theorem key_at (h : FVec Ideal S32x2048 .bf16) (w : Vec Ideal S2048x1024 .bf16) (r : Fin 32) (n : Fin 1024) :
    k1_pay24 h w (ix2 r n) = ∑ k : Fin 2048, h (ix2 r k) * w (ix2 k n) := by
  pointwise [k1_pay24]

theorem head1_at (h : FVec Ideal S32x2048 .bf16) (w : Vec Ideal S2048x1024 .bf16) (g : FVec Ideal S1x128 .f32) (r : Fin 32) (e : Fin 128) :
    k1_pay29 g (k1_pay27 h w) (k1_pay28 h w) (ix2 r e) = normed (fun k => k1_pay24 h w (ix2 r ⟨128 + k.val, by omega⟩)) (fun k => g (ix2 0 k)) e := by
  unfold normed root
  pointwise [k1_pay29, k1_pay28, k1_pay27]

theorem head2_at (p : FVec Ideal S32x1024 .f32) (g : FVec Ideal S1x128 .f32) (r : Fin 32) (e : Fin 128) :
    k1_pay30 p g (ix2 r e) = normed (fun k => p (ix2 r ⟨256 + k.val, by omega⟩)) (fun k => g (ix2 0 k)) e := by
  unfold normed root
  pointwise [k1_pay30]

theorem head3_at (p : FVec Ideal S32x1024 .f32) (g : FVec Ideal S1x128 .f32) (r : Fin 32) (e : Fin 128) :
    k1_pay31 p g (ix2 r e) = normed (fun k => p (ix2 r ⟨384 + k.val, by omega⟩)) (fun k => g (ix2 0 k)) e := by
  unfold normed root
  pointwise [k1_pay31]

theorem head5_at (p : FVec Ideal S32x1024 .f32) (g : FVec Ideal S1x128 .f32) (r : Fin 32) (e : Fin 128) :
    k1_pay34 p g (ix2 r e) = normed (fun k => p (ix2 r ⟨640 + k.val, by omega⟩)) (fun k => g (ix2 0 k)) e := by
  unfold normed root
  pointwise [k1_pay34]

theorem head6_at (p : FVec Ideal S32x1024 .f32) (g : FVec Ideal S1x128 .f32) (r : Fin 32) (e : Fin 128) :
    k1_pay35 p g (ix2 r e) = normed (fun k => p (ix2 r ⟨768 + k.val, by omega⟩)) (fun k => g (ix2 0 k)) e := by
  unfold normed root
  pointwise [k1_pay35]

theorem head7_at (p : FVec Ideal S32x1024 .f32) (g : FVec Ideal S1x128 .f32) (r : Fin 32) (e : Fin 128) :
    k1_pay36 p g (ix2 r e) = normed (fun k => p (ix2 r ⟨896 + k.val, by omega⟩)) (fun k => g (ix2 0 k)) e := by
  unfold normed root
  pointwise [k1_pay36]

theorem head0_at (h : FVec Ideal S32x2048 .bf16) (w : Vec Ideal S2048x1024 .bf16) (g : Vec Ideal S1x128 .f32) (r : Fin 32) (e : Fin 128) :
    k1_pay26 h w g (ix2 r e) = normed (fun k => k1_pay24 h w (ix2 r ⟨k.val, by omega⟩)) (fun k => g (ix2 0 k)) e := by
  unfold normed root
  pointwise [k1_pay26, k1_pay25]

theorem head4_at (p : FVec Ideal S32x1024 .f32) (g : FVec Ideal S1x128 .f32) (r : Fin 32) (e : Fin 128) :
    k1_pay33 g (k1_pay32 p) (ix2 r e) = normed (fun k => p (ix2 r ⟨512 + k.val, by omega⟩)) (fun k => g (ix2 0 k)) e := by
  unfold normed root
  pointwise [k1_pay33, k1_pay32]

/-- The other projection's tile of modulated rows. -/
theorem rows2_at (x : Vec Ideal S32x2048 .f32) (sc sh : Vec Ideal S1x32x2048 .f32) (r : Fin 32) (d : Fin 2048) :
    k2_pay4 x sc sh (ix2 r d) = modulated (fun k => x (ix2 r k)) (fun k => sc (ix3 0 r k)) (fun k => sh (ix3 0 r k)) d := by
  unfold modulated root
  pointwise [k2_pay4]

theorem rows2b_at (x : Vec Ideal S32x2048 .f32) (sc sh : Vec Ideal S1x32x2048 .f32) (r : Fin 32) (d : Fin 2048) :
    k2_pay5 x sc sh (ix2 r d) = modulated (fun k => x (ix2 r k)) (fun k => sc (ix3 0 r k)) (fun k => sh (ix3 0 r k)) d := by
  rw [← rows2_at]
  pointwise [k2_pay5]

theorem val2_at (h : FVec Ideal S32x2048 .bf16) (w : Vec Ideal S2048x256 .bf16) (r : Fin 32) (n : Fin 256) :
    k2_pay40 h w (ix2 r n) = ∑ k : Fin 2048, h (ix2 r k) * w (ix2 k n) := by
  pointwise [k2_pay40]

theorem key2_at (h : FVec Ideal S32x2048 .bf16) (w : Vec Ideal S2048x256 .bf16) (r : Fin 32) (n : Fin 256) :
    k2_pay34 h w (ix2 r n) = ∑ k : Fin 2048, h (ix2 r k) * w (ix2 k n) := by
  pointwise [k2_pay34]

theorem rot0_at (p : FVec Ideal S32x256 .f32) (c s : FVec Ideal S32x128 .f32) (g : Vec Ideal S1x128 .f32) (r : Fin 32) (e : Fin 128) :
    k2_pay36 c s p g (ix2 r e)
      = normed (fun k => p (ix2 r ⟨k.val, by omega⟩)) (fun k => g (ix2 0 k)) e * c (ix2 r e)
        + normed (fun k => p (ix2 r ⟨k.val, by omega⟩)) (fun k => g (ix2 0 k)) (half e) * s (ix2 r e) := by
  unfold normed root half
  pointwise [k2_pay36, k2_pay35]

theorem rot1_at (p : FVec Ideal S32x256 .f32) (c s : FVec Ideal S32x128 .f32) (g : Vec Ideal S1x128 .f32) (r : Fin 32) (e : Fin 128) :
    k2_pay38 c s p g (ix2 r e)
      = normed (fun k => p (ix2 r ⟨128 + k.val, by omega⟩)) (fun k => g (ix2 0 k)) e * c (ix2 r e)
        + normed (fun k => p (ix2 r ⟨128 + k.val, by omega⟩)) (fun k => g (ix2 0 k)) (half e) * s (ix2 r e) := by
  unfold normed root half
  pointwise [k2_pay38, k2_pay35]

theorem misc_at (h : FVec Ideal S32x2048 .f32) (w : Vec Ideal S2048x128 .f32) (r : Fin 32) (n : Fin 128) :
    k2_pay53 h w (ix2 r n) = ∑ k : Fin 2048, h (ix2 r k) * w (ix2 k n) := by
  pointwise [k2_pay53]

theorem gate_at (h : FVec Ideal S32x2048 .f32) (w : Vec Ideal S2048x128 .f32) (b : Vec Ideal S1x128 .f32) (r : Fin 32) (n : Fin 128) :
    k2_pay55 h w b (ix2 r n) = gateK (k2_pay53 h w (ix2 r n) + b (ix2 0 n)) := by
  unfold gateK
  pointwise [k2_pay55]

/-- The lanes of the lower half of an index head. -/
theorem low_at (r : Fin 32) (n : Fin 128) :
    k2_pay12 (Scalar.select (Scalar.cmpi .eq 64#32 0#32) 1#32 64#32) k2_pay10 k2_pay11 (ix2 r n) = if n.val % 64 < 32 then 1#1 else 0#1 := by
  pointwise [k2_pay12, k2_pay11, k2_pay10]
  revert n
  decide +kernel

theorem idx_at (h : FVec Ideal S32x2048 .f32) (c s : FVec Ideal S32x128 .f32) (mk : IVec S32x128 1) (w : Vec Ideal S2048x128 .f32) (r : Fin 32) (n : Fin 128) :
    k2_pay54 h c s mk w (ix2 r n) = k2_pay53 h w (ix2 r n) * c (ix2 r n)
      + Scalar.select (mk (ix2 r n)) (k2_pay53 h w (ix2 r ⟨(n.val + 128 - 96) % 128, Nat.mod_lt _ (by decide)⟩)) (k2_pay53 h w (ix2 r ⟨(n.val + 128 - 32) % 128, Nat.mod_lt _ (by decide)⟩)) * s (ix2 r n) := by
  pointwise [k2_pay54]

theorem lane_at (a b : FVec Ideal S32x128 .f32) (h : FVec Ideal S32x2048 .f32) (w : Vec Ideal S2048x128 .f32) (r : Fin 32) (n : Fin 128) :
    k2_pay1 a b (k2_pay57 (iota .tc S32x128 32 [1] iota_S32x128_d1_w32)) (k2_pay58 (iota .tc S32x128 32 [1] iota_S32x128_d1_w32))
        (k2_pay59 h (iota .tc S32x128 32 [1] iota_S32x128_d1_w32) w) (ix2 r n)
      = if n.val < 64 then a (ix2 r n) else if n.val < 72 then b (ix2 r n) else if n.val < 88 then k2_pay53 h w (ix2 r n) * Ideal.ofBits .f32 0x3E800000#32 else 0 := by
  have h1 : IntOp.cmpi .slt (BitVec.ofNat 32 n.val) 64#32 = if n.val < 64 then 1#1 else 0#1 := by
    revert n; decide +kernel
  have h2 : IntOp.cmpi .slt (BitVec.ofNat 32 n.val) 72#32 = if n.val < 72 then 1#1 else 0#1 := by
    revert n; decide +kernel
  have h3 : IntOp.cmpi .slt (BitVec.ofNat 32 n.val) 88#32 = if n.val < 88 then 1#1 else 0#1 := by
    revert n; decide +kernel
  pointwise [k2_pay1, k2_pay57, k2_pay58, k2_pay59]
  rw [h1, h2, h3]
  split_ifs <;> rfl

end Cert.ProjS

end
-- ==== Proof.ProjS.Region1.lean ====
/-
  The first projection's two row arrays, element by element, from the blocks the region reads: the sample's rows.
-/
module

public import proofs.«01_k».proof.Proof.Gen.Kernel4Ideal.Frame
public import proofs.«01_k».proof.Proof.ProjS.Steps
public import Idealize.ShloMosaic.Lib.Pipeline.ValueKit
public import Idealize.ShloMosaic.Lib.Pipeline.ReadBack
public import Idealize.ShloMosaic.Lib.Pipeline.Covers

@[expose] public section

set_option maxRecDepth 16384

noncomputable section

namespace Cert.ProjS

open Cert.Kernel4Ideal Cert.Kernel4Ideal.Gen Idealize.ShloMosaic Idealize.ShloMosaic.TcCoe Idealize.SL.Sem
open Cert.Kernel4Ideal.Facts
open Cert.Proj (modulation modulated root normed half gateK zz2 zz3 turned turnLane lanes)

section Block

variable (x : Vec Ideal S32x2048 .f32) (sc sh : Vec Ideal S1x32x2048 .f32) (wq wk wv : Vec Ideal S2048x1024 .bf16) (gq gk : Vec Ideal S1x128 .f32)

/-- A row of a block, modulated. -/
def mrow (r : Fin 32) : Fin 2048 → EReal := modulated (fun k => x (ix2 r k)) (fun k => sc (ix3 0 r k)) (fun k => sh (ix3 0 r k))

theorem pay45_at (r : Fin 32) (d : Fin 2048) : k1_pay45 x sc sh wq wk wv gq gk (ix2 r d) = mrow x sc sh r d := by
  unfold k1_pay45
  rw [View.ld_unit_zero zz2, View.ld_unit_zero zz3, View.ld_unit_zero zz3]
  exact rows_at x sc sh r d

theorem out12_at (r : Fin 32) (n : Fin 1024) : out1_12 x sc sh wq wk wv gq gk (ix2 r n) = ∑ k : Fin 2048, mrow x sc sh r k * wv (ix2 k n) := by
  unfold out1_12
  rw [View.canon_unit_zero zz2, View.ld_unit_zero zz2, val_at]
  simp only [pay45_at]

theorem pay48_at (r : Fin 32) (n : Fin 1024) : k1_pay48 x sc sh wq wk wv gq gk (ix2 r n) = ∑ k : Fin 2048, mrow x sc sh r k * wk (ix2 k n) := by
  unfold k1_pay48
  rw [View.ld_unit_zero zz2, key_at]
  simp only [pay45_at]

theorem pay49_at : k1_pay49 x sc sh wq wk wv gq gk = gk := by
  unfold k1_pay49
  rw [View.ld_unit_zero zz2]
  funext i
  pointwise [k1_pay25]

/-- A block's keys: each head normalised, with its gain. -/
def keys (y : S32x1024.Idx) : EReal :=
  normed (fun e => ∑ k : Fin 2048, mrow x sc sh (y 0) k * wk (ix2 k ⟨128 * ((y 1).val / 128) + e.val, by have : (y 1).val < 1024 := (y 1).isLt; omega⟩))
    (fun e => gk (ix2 0 e)) ⟨(y 1).val % 128, Nat.mod_lt _ (by decide)⟩

theorem keys_at (r : Fin 32) (h : Fin 8) (e : Fin 128) (n : Fin 1024) (hn : n.val = 128 * h.val + e.val) :
    keys x sc sh wk gk (ix2 r n) = normed (fun e => ∑ k : Fin 2048, mrow x sc sh r k * wk (ix2 k ⟨128 * h.val + e.val, by omega⟩)) (fun e => gk (ix2 0 e)) e := by
  unfold keys
  have h1 : n.val / 128 = h.val := by omega
  have h2 : ∀ p, (⟨n.val % 128, p⟩ : Fin 128) = e := fun p => Fin.ext (by simp only; omega)
  simp only [ix2]
  simp only [h1, h2]

theorem emb_head (o : ℕ) (inb : ∀ a, (![0, o] : Fin 2 → ℕ) a + S32x128.size a ≤ S32x1024.size a) (r : Fin 32) (e : Fin 128) (h : o + e.val < 1024) :
    (Rect.unit (s := S32x1024) ![0, o] S32x128.size inb).emb (ix2 r e) = ix2 r ⟨o + e.val, h⟩ := by
  funext a
  fin_cases a
  · exact Fin.ext (by simp [Rect.emb, Rect.unit])
  · exact Fin.ext (by simp [Rect.emb, Rect.unit])

theorem out11_at (y : S32x1024.Idx) : out1_11 x sc sh wq wk wv gq gk y = keys x sc sh wk gk y := by
  unfold out1_11
  refine View.canon_apply_of_pieces (Val := Elt Ideal) (keys x sc sh wk gk) _ ?_ y (cover1_11 _ _ _ _ _ _ _ _ y)
  intro p hp
  simp only [List.mem_cons, List.not_mem_nil, or_false] at hp
  rcases hp with rfl | rfl | rfl | rfl | rfl | rfl | rfl | rfl <;> intro z <;> idx_vars z
  · refine Eq.trans ?_ (congrArg (keys x sc sh wk gk) (emb_head 896 _ z0 z1 (by omega))).symm
    rw [keys_at x sc sh wk gk z0 7 z1 _ rfl]
    show k1_pay57 x sc sh wq wk wv gq gk (ix2 z0 z1) = _
    unfold k1_pay57
    rw [head7_at]
    simp only [pay48_at, pay49_at]
    rfl
  · refine Eq.trans ?_ (congrArg (keys x sc sh wk gk) (emb_head 768 _ z0 z1 (by omega))).symm
    rw [keys_at x sc sh wk gk z0 6 z1 _ rfl]
    show k1_pay56 x sc sh wq wk wv gq gk (ix2 z0 z1) = _
    unfold k1_pay56
    rw [head6_at]
    simp only [pay48_at, pay49_at]
    rfl
  · refine Eq.trans ?_ (congrArg (keys x sc sh wk gk) (emb_head 640 _ z0 z1 (by omega))).symm
    rw [keys_at x sc sh wk gk z0 5 z1 _ rfl]
    show k1_pay55 x sc sh wq wk wv gq gk (ix2 z0 z1) = _
    unfold k1_pay55
    rw [head5_at]
    simp only [pay48_at, pay49_at]
    rfl
  · refine Eq.trans ?_ (congrArg (keys x sc sh wk gk) (emb_head 512 _ z0 z1 (by omega))).symm
    rw [keys_at x sc sh wk gk z0 4 z1 _ rfl]
    show k1_pay54 x sc sh wq wk wv gq gk (ix2 z0 z1) = _
    unfold k1_pay54
    rw [head4_at]
    simp only [pay48_at, pay49_at]
    rfl
  · refine Eq.trans ?_ (congrArg (keys x sc sh wk gk) (emb_head 384 _ z0 z1 (by omega))).symm
    rw [keys_at x sc sh wk gk z0 3 z1 _ rfl]
    show k1_pay53 x sc sh wq wk wv gq gk (ix2 z0 z1) = _
    unfold k1_pay53
    rw [head3_at]
    simp only [pay48_at, pay49_at]
    rfl
  · refine Eq.trans ?_ (congrArg (keys x sc sh wk gk) (emb_head 256 _ z0 z1 (by omega))).symm
    rw [keys_at x sc sh wk gk z0 2 z1 _ rfl]
    show k1_pay52 x sc sh wq wk wv gq gk (ix2 z0 z1) = _
    unfold k1_pay52
    rw [head2_at]
    simp only [pay48_at, pay49_at]
    rfl
  · refine Eq.trans ?_ (congrArg (keys x sc sh wk gk) (emb_head 128 _ z0 z1 (by omega))).symm
    rw [keys_at x sc sh wk gk z0 1 z1 _ rfl]
    show k1_pay51 x sc sh wq wk wv gq gk (ix2 z0 z1) = _
    unfold k1_pay51
    rw [View.ld_unit_zero zz2, head1_at]
    simp only [key_at, pay45_at, pay49_at]
    rfl
  · refine Eq.trans ?_ (congrArg (keys x sc sh wk gk) (emb_head 0 _ z0 z1 (by omega))).symm
    rw [keys_at x sc sh wk gk z0 0 z1 _ rfl]
    show k1_pay50 x sc sh wq wk wv gq gk (ix2 z0 z1) = _
    unfold k1_pay50
    rw [View.ld_unit_zero zz2, View.ld_unit_zero zz2, head0_at]
    simp only [key_at, pay45_at, Nat.mul_zero, Nat.zero_add, Fin.val_zero]

end Block

end Cert.ProjS

end
-- ==== Proof.ProjS.Final0.lean ====
/-
  The modulation's array after its region.
-/
module

public import proofs.«01_k».proof.Proof.ProjS.Region1

@[expose] public section

set_option maxRecDepth 16384

noncomputable section

namespace Cert.ProjS

open Cert.Kernel4Ideal Cert.Kernel4Ideal.Gen Idealize.ShloMosaic Idealize.ShloMosaic.TcCoe Idealize.SL.Sem
open Cert.Kernel4Ideal.Facts
open Cert.Proj (modulation modulated root normed half gateK zz2 zz3 turned turnLane lanes)

/-- The modulation: every row of conditions, every column. -/
def modArr (C : Vec Ideal S40x2048 .f32) (W : Vec Ideal S2048x12288 .f32) (B : Vec Ideal S1x12288 .f32) : Vec Ideal S40x12288 .f32 := fun i =>
  modulation (fun k => C (ix2 (i 0) k)) (fun k => W (ix2 k (i 1))) (B (ix2 0 (i 1)))

theorem idx0 : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) := by
  decide +kernel

variable (V : (c : Dev nD) → (b : Ref sig .tc) → Buf (Elt Ideal) ((c : Thread nD τ).loc b))

theorem lt_N0 (t : Fin cfg0.N) : t.val < 12 := lt_of_lt_of_eq t.isLt N_0

def col0 (t : Fin cfg0.N) (n : Fin 1024) : Fin 12288 := ⟨1024 * t.val + n.val, by have := lt_N0 t; omega⟩

def aC (c : Dev nD) : Vec Ideal S40x2048 .f32 := V c main_v1
def aW (c : Dev nD) : Vec Ideal S2048x12288 .f32 := V c main_v2
def aB (c : Dev nD) : Vec Ideal S1x12288 .f32 := V c main_v4

theorem rd0_c (c : Dev nD) (t : Fin cfg0.N) (r : Fin 40) (k : Fin 2048) : iblk0 V c 0 t (ix2 r k) = aC V c (ix2 r k) := by
  unfold aC
  blk_point [iblk0, idx0 t]
theorem rd0_w (c : Dev nD) (t : Fin cfg0.N) (k : Fin 2048) (n : Fin 1024) : iblk0 V c 1 t (ix2 k n) = aW V c (ix2 k (col0 t n)) := by
  have := lt_N0 t
  unfold aW col0
  blk_point [iblk0, idx0 t]
theorem rd0_b (c : Dev nD) (t : Fin cfg0.N) (n : Fin 1024) : iblk0 V c 2 t (ix2 0 n) = aB V c (ix2 0 (col0 t n)) := by
  have := lt_N0 t
  unfold aB col0
  blk_point [iblk0, idx0 t]

theorem final0 (c : Dev nD) : (dat0 V c).arrAt 3 cfg0.N = modArr (aC V c) (aW V c) (aB V c) := by
  refine (dat0 V c).arrAt_eq_of_covers 3 _ (by decide +kernel) fun t _ y => ?_
  blk_simp
  rw [after0_3]
  idx_vars y
  unfold out0_3
  rw [View.canon_unit_zero zz2, View.ld_unit_zero zz2, View.ld_unit_zero zz2, View.ld_unit_zero zz2]
  refine (adaln_at _ _ _ y0 y1).trans ?_
  have e : (((cfg0.win 3).blk t).view.emb (ix2 y0 y1) : (⟨2, ![40, 12288]⟩ : Shape).Idx) = ix2 y0 (col0 t y1) := by
    have := lt_N0 t
    unfold col0
    blk_ext [idx0 t]
  rw [e]
  simp only [rd0_c, rd0_w, rd0_b]
  rfl

end Cert.ProjS

end
-- ==== Proof.ProjS.Final1.lean ====
/-
  The first projection's two row arrays after the region: every sample row modulated by its own numbers, projected, and the
  keys' heads normalised.
-/
module

public import proofs.«01_k».proof.Proof.ProjS.Region1

@[expose] public section

set_option maxRecDepth 16384

noncomputable section

namespace Cert.ProjS

open Cert.Kernel4Ideal Cert.Kernel4Ideal.Gen Idealize.ShloMosaic Idealize.ShloMosaic.TcCoe Idealize.SL.Sem
open Cert.Kernel4Ideal.Facts
open Cert.Proj (modulation modulated root normed half gateK zz2 zz3 turned turnLane lanes)

/-- Row `t` of the activations, modulated by its numbers. -/
def arow (X : Vec Ideal S32x2048 .f32) (SC SH : Vec Ideal S1x32x2048 .f32) (t : Fin 32) : Fin 2048 → EReal :=
  modulated (fun k => X (ix2 t k)) (fun k => SC (ix3 0 t k)) (fun k => SH (ix3 0 t k))

/-- The values' rows. -/
def valsArr (X : Vec Ideal S32x2048 .f32) (SC SH : Vec Ideal S1x32x2048 .f32) (w : Vec Ideal S2048x1024 .bf16) : Vec Ideal S32x1024 .f32 := fun i =>
  ∑ k : Fin 2048, arow X SC SH (i 0) k * w (ix2 k (i 1))

/-- The keys' rows. -/
def keysArr (X : Vec Ideal S32x2048 .f32) (SC SH : Vec Ideal S1x32x2048 .f32) (w : Vec Ideal S2048x1024 .bf16) (g : Vec Ideal S1x128 .f32) : Vec Ideal S32x1024 .f32 := fun i =>
  normed (fun e => ∑ k : Fin 2048, arow X SC SH (i 0) k * w (ix2 k ⟨128 * ((i 1).val / 128) + e.val, by have : (i 1).val < 1024 := (i 1).isLt; omega⟩))
    (fun e => g (ix2 0 e)) ⟨(i 1).val % 128, Nat.mod_lt _ (by decide)⟩

theorem idx1 : ∀ t : Fin grid1.N,
    (win1_0.index t 0 = 0 ∧ win1_0.index t 1 = 0)
    ∧ (win1_1.index t 0 = 0 ∧ win1_1.index t 1 = 0 ∧ win1_1.index t 2 = 0)
    ∧ (win1_2.index t 0 = 0 ∧ win1_2.index t 1 = 0 ∧ win1_2.index t 2 = 0)
    ∧ (win1_4.index t 0 = 0 ∧ win1_4.index t 1 = 0) ∧ (win1_5.index t 0 = 0 ∧ win1_5.index t 1 = 0)
    ∧ (win1_7.index t 0 = 0 ∧ win1_7.index t 1 = 0)
    ∧ (win1_11.index t 0 = 0 ∧ win1_11.index t 1 = 0) ∧ (win1_12.index t 0 = 0 ∧ win1_12.index t 1 = 0) := by
  decide +kernel

variable (V : (c : Dev nD) → (b : Ref sig .tc) → Buf (Elt Ideal) ((c : Thread nD τ).loc b))

def aX (c : Dev nD) : Vec Ideal S32x2048 .f32 := V c main_v105
def aSC (c : Dev nD) : Vec Ideal S1x32x2048 .f32 := V c main_v15
def aSH (c : Dev nD) : Vec Ideal S1x32x2048 .f32 := V c main_v13
def aWK (c : Dev nD) : Vec Ideal S2048x1024 .bf16 := V c main_v28
def aWV (c : Dev nD) : Vec Ideal S2048x1024 .bf16 := V c main_v30
def aGK (c : Dev nD) : Vec Ideal S1x128 .f32 := V c main_v53

theorem rd1_x (c : Dev nD) (t : Fin cfg1.N) (r : Fin 32) (k : Fin 2048) : iblk1 V c 0 t (ix2 r k) = aX V c (ix2 r k) := by
  unfold aX
  blk_point [iblk1, idx1 t]
theorem rd1_sc (c : Dev nD) (t : Fin cfg1.N) (r : Fin 32) (k : Fin 2048) : iblk1 V c 1 t (ix3 0 r k) = aSC V c (ix3 0 r k) := by
  unfold aSC
  blk_point [iblk1, idx1 t]
theorem rd1_sh (c : Dev nD) (t : Fin cfg1.N) (r : Fin 32) (k : Fin 2048) : iblk1 V c 2 t (ix3 0 r k) = aSH V c (ix3 0 r k) := by
  unfold aSH
  blk_point [iblk1, idx1 t]
theorem rd1_wk (c : Dev nD) (t : Fin cfg1.N) (k : Fin 2048) (n : Fin 1024) : iblk1 V c 4 t (ix2 k n) = aWK V c (ix2 k n) := by
  unfold aWK
  blk_point [iblk1, idx1 t]
theorem rd1_wv (c : Dev nD) (t : Fin cfg1.N) (k : Fin 2048) (n : Fin 1024) : iblk1 V c 5 t (ix2 k n) = aWV V c (ix2 k n) := by
  unfold aWV
  blk_point [iblk1, idx1 t]
theorem rd1_gk (c : Dev nD) (t : Fin cfg1.N) (n : Fin 128) : iblk1 V c 7 t (ix2 0 n) = aGK V c (ix2 0 n) := by
  unfold aGK
  blk_point [iblk1, idx1 t]

theorem mrow1 (c : Dev nD) (t : Fin cfg1.N) (r : Fin 32) :
    mrow (iblk1 V c 0 t) (iblk1 V c 1 t) (iblk1 V c 2 t) r = arow (aX V c) (aSC V c) (aSH V c) r := by
  unfold mrow arow
  simp only [rd1_x, rd1_sc, rd1_sh]

theorem final1_12 (c : Dev nD) : (dat1 V c).arrAt 12 cfg1.N = valsArr (aX V c) (aSC V c) (aSH V c) (aWV V c) := by
  refine (dat1 V c).arrAt_eq_of_covers 12 _ (by decide +kernel) fun t _ y => ?_
  blk_simp
  rw [after1_12]
  idx_vars y
  refine (out12_at _ _ _ _ _ _ _ _ y0 y1).trans ?_
  have e : (((cfg1.win 12).blk t).view.emb (ix2 y0 y1) : (⟨2, ![32, 1024]⟩ : Shape).Idx) = ix2 y0 y1 := by
    blk_ext [idx1 t]
  rw [e, mrow1]
  simp only [rd1_wv]
  rfl

theorem final1_11 (c : Dev nD) : (dat1 V c).arrAt 11 cfg1.N = keysArr (aX V c) (aSC V c) (aSH V c) (aWK V c) (aGK V c) := by
  refine (dat1 V c).arrAt_eq_of_covers 11 _ (by decide +kernel) fun t _ y => ?_
  blk_simp
  rw [after1_11]
  idx_vars y
  refine (out11_at _ _ _ _ _ _ _ _ (ix2 y0 y1)).trans ?_
  have e : (((cfg1.win 11).blk t).view.emb (ix2 y0 y1) : (⟨2, ![32, 1024]⟩ : Shape).Idx) = ix2 y0 y1 := by
    blk_ext [idx1 t]
  rw [e]
  unfold keys
  simp only [ix2_0, ix2_1]
  rw [mrow1]
  simp only [rd1_wk, rd1_gk]
  rfl

end Cert.ProjS

end
-- ==== Proof.ProjS.Region2.lean ====
/-
  The second projection's three row arrays, element by element, from the blocks the region reads: the sample's rows.
-/
module

public import proofs.«01_k».proof.Proof.ProjS.Region1

@[expose] public section

set_option maxRecDepth 16384

noncomputable section

namespace Cert.ProjS

open Cert.Kernel4Ideal Cert.Kernel4Ideal.Gen Idealize.ShloMosaic Idealize.ShloMosaic.TcCoe Idealize.SL.Sem
open Cert.Kernel4Ideal.Facts
open Cert.Proj (modulation modulated root normed half gateK zz2 zz3 turned turnLane lanes)

section Block

variable (x0 : Vec Ideal S32x2048 .f32) (x1 x2 : Vec Ideal S1x32x2048 .f32) (x3 : Vec Ideal S2048x1024 .bf16) (x4 x5 : Vec Ideal S2048x256 .bf16)
  (x6 : Vec Ideal S2048x1024 .f32) (x7 : Vec Ideal S2048x128 .f32) (x8 x9 x10 : Vec Ideal S1x128 .f32) (x11 x12 x13 x14 : Vec Ideal S32x128 .f32)

theorem pay62_at (r : Fin 32) (d : Fin 2048) : k2_pay62 x0 x1 x2 x3 x4 x5 x6 x7 x8 x9 x10 x11 x12 x13 x14 (ix2 r d) = mrow x0 x1 x2 r d := by
  unfold k2_pay62
  rw [View.ld_unit_zero zz2, View.ld_unit_zero zz3, View.ld_unit_zero zz3]
  exact rows2b_at x0 x1 x2 r d

theorem pay61_at (r : Fin 32) (d : Fin 2048) : k2_pay61 x0 x1 x2 x3 x4 x5 x6 x7 x8 x9 x10 x11 x12 x13 x14 (ix2 r d) = mrow x0 x1 x2 r d := by
  unfold k2_pay61
  rw [View.ld_unit_zero zz2, View.ld_unit_zero zz3, View.ld_unit_zero zz3]
  exact rows2_at x0 x1 x2 r d

theorem pay63_at : k2_pay63 x0 x1 x2 x3 x4 x5 x6 x7 x8 x9 x10 x11 x12 x13 x14 = x11 := by
  unfold k2_pay63
  rw [View.ld_unit_zero zz2]
  funext i
  pointwise [k2_pay6]

theorem pay64_at : k2_pay64 x0 x1 x2 x3 x4 x5 x6 x7 x8 x9 x10 x11 x12 x13 x14 = x12 := by
  unfold k2_pay64
  rw [View.ld_unit_zero zz2]
  funext i
  pointwise [k2_pay7]

theorem pay65_at : k2_pay65 x0 x1 x2 x3 x4 x5 x6 x7 x8 x9 x10 x11 x12 x13 x14 = x13 := by
  unfold k2_pay65
  rw [View.ld_unit_zero zz2]
  funext i
  pointwise [k2_pay8]

theorem pay66_at : k2_pay66 x0 x1 x2 x3 x4 x5 x6 x7 x8 x9 x10 x11 x12 x13 x14 = x14 := by
  unfold k2_pay66
  rw [View.ld_unit_zero zz2]
  funext i
  pointwise [k2_pay9]

theorem pay70_at (r : Fin 32) (n : Fin 256) : k2_pay70 x0 x1 x2 x3 x4 x5 x6 x7 x8 x9 x10 x11 x12 x13 x14 (ix2 r n) = ∑ k : Fin 2048, mrow x0 x1 x2 r k * x4 (ix2 k n) := by
  unfold k2_pay70
  rw [View.ld_unit_zero zz2, key2_at]
  simp only [pay62_at]

theorem out22_at (r : Fin 32) (n : Fin 256) :
    out2_22 x0 x1 x2 x3 x4 x5 x6 x7 x8 x9 x10 x11 x12 x13 x14 (ix2 r n) = ∑ k : Fin 2048, mrow x0 x1 x2 r k * x5 (ix2 k n) := by
  unfold out2_22
  rw [View.canon_unit_zero zz2, View.ld_unit_zero zz2, val2_at]
  simp only [pay62_at]

theorem out23_at (r : Fin 32) (n : Fin 128) :
    out2_23 x0 x1 x2 x3 x4 x5 x6 x7 x8 x9 x10 x11 x12 x13 x14 (ix2 r n)
      = lanes (fun n => ∑ k : Fin 2048, mrow x0 x1 x2 r k * x7 (ix2 k n)) (fun n => x10 (ix2 0 n)) (fun n => x13 (ix2 r n)) (fun n => x14 (ix2 r n)) n := by
  unfold out2_23
  rw [View.canon_unit_zero zz2, View.ld_unit_zero zz2, View.ld_unit_zero zz2]
  unfold k2_pay60
  rw [lane_at, pay65_at, pay66_at]
  unfold lanes
  by_cases h : n.val < 64
  · rw [if_pos h, dif_pos h, idx_at]
    unfold k2_pay67
    rw [low_at]
    simp only [misc_at, pay61_at]
    congr 2
    unfold turnLane
    by_cases h' : n.val < 32
    · rw [if_pos (by omega : n.val % 64 < 32)]
      have e : (⟨(n.val + 128 - 96) % 128, Nat.mod_lt _ (by decide)⟩ : Fin 128) = ⟨(n.val + 32) % 64, by omega⟩ := Fin.ext (by simp only; omega)
      rw [e]
      simp only [h', if_true]
      rfl
    · rw [if_neg (by omega : ¬ n.val % 64 < 32)]
      have e : (⟨(n.val + 128 - 32) % 128, Nat.mod_lt _ (by decide)⟩ : Fin 128) = ⟨n.val - 32, by omega⟩ := Fin.ext (by simp only; omega)
      rw [e]
      simp only [h', if_false]
      rfl
  · rw [if_neg h, dif_neg h]
    refine if_congr Iff.rfl ?_ (if_congr Iff.rfl ?_ rfl)
    · rw [gate_at, misc_at]
      simp only [pay61_at]
    · rw [misc_at]
      simp only [pay61_at]

/-- A block's keys: both heads normalised, with their gain, and turned. -/
def keys2 (y : S32x256.Idx) : EReal :=
  turned (fun e => ∑ k : Fin 2048, mrow x0 x1 x2 (y 0) k * x4 (ix2 k ⟨128 * ((y 1).val / 128) + e.val, by have : (y 1).val < 256 := (y 1).isLt; omega⟩))
    (fun e => x9 (ix2 0 e)) (fun e => x11 (ix2 (y 0) e)) (fun e => x12 (ix2 (y 0) e)) ⟨(y 1).val % 128, Nat.mod_lt _ (by decide)⟩

theorem keys2_at (r : Fin 32) (h : Fin 2) (e : Fin 128) (n : Fin 256) (hn : n.val = 128 * h.val + e.val) :
    keys2 x0 x1 x2 x4 x9 x11 x12 (ix2 r n) = turned (fun e => ∑ k : Fin 2048, mrow x0 x1 x2 r k * x4 (ix2 k ⟨128 * h.val + e.val, by omega⟩))
      (fun e => x9 (ix2 0 e)) (fun e => x11 (ix2 r e)) (fun e => x12 (ix2 r e)) e := by
  unfold keys2
  have h1 : n.val / 128 = h.val := by omega
  have h2 : ∀ p, (⟨n.val % 128, p⟩ : Fin 128) = e := fun p => Fin.ext (by simp only; omega)
  simp only [ix2]
  simp only [h1, h2]

theorem emb_head2 (o : ℕ) (inb : ∀ a, (![0, o] : Fin 2 → ℕ) a + S32x128.size a ≤ S32x256.size a) (r : Fin 32) (e : Fin 128) (h : o + e.val < 256) :
    (Rect.unit (s := S32x256) ![0, o] S32x128.size inb).emb (ix2 r e) = ix2 r ⟨o + e.val, h⟩ := by
  funext a
  fin_cases a
  · exact Fin.ext (by simp [Rect.emb, Rect.unit])
  · exact Fin.ext (by simp [Rect.emb, Rect.unit])

theorem out21_at (y : S32x256.Idx) : out2_21 x0 x1 x2 x3 x4 x5 x6 x7 x8 x9 x10 x11 x12 x13 x14 y = keys2 x0 x1 x2 x4 x9 x11 x12 y := by
  unfold out2_21
  refine View.canon_apply_of_pieces (Val := Elt Ideal) (keys2 x0 x1 x2 x4 x9 x11 x12) _ ?_ y (cover2_21 _ _ y)
  intro p hp
  simp only [List.mem_cons, List.not_mem_nil, or_false] at hp
  rcases hp with rfl | rfl <;> intro z <;> idx_vars z
  · refine Eq.trans ?_ (congrArg (keys2 x0 x1 x2 x4 x9 x11 x12) (emb_head2 128 _ z0 z1 (by omega))).symm
    rw [keys2_at x0 x1 x2 x4 x9 x11 x12 z0 1 z1 _ rfl]
    show k2_pay38 _ _ _ _ (ix2 z0 z1) = _
    rw [View.ld_unit_zero zz2, rot1_at]
    simp only [pay70_at, pay63_at, pay64_at]
    rfl
  · refine Eq.trans ?_ (congrArg (keys2 x0 x1 x2 x4 x9 x11 x12) (emb_head2 0 _ z0 z1 (by omega))).symm
    rw [keys2_at x0 x1 x2 x4 x9 x11 x12 z0 0 z1 _ rfl]
    show k2_pay36 _ _ _ _ (ix2 z0 z1) = _
    rw [View.ld_unit_zero zz2, rot0_at]
    simp only [pay70_at, pay63_at, pay64_at, Nat.mul_zero, Nat.zero_add, Fin.val_zero]
    rfl

end Block

end Cert.ProjS

end
-- ==== Proof.ProjS.Final2.lean ====
/-
  The second projection's three row arrays after the region: the sample's rows.
-/
module

public import proofs.«01_k».proof.Proof.ProjS.Region2
public import proofs.«01_k».proof.Proof.ProjS.Final1

@[expose] public section

set_option maxRecDepth 16384

noncomputable section

namespace Cert.ProjS

open Cert.Kernel4Ideal Cert.Kernel4Ideal.Gen Idealize.ShloMosaic Idealize.ShloMosaic.TcCoe Idealize.SL.Sem
open Cert.Kernel4Ideal.Facts
open Cert.Proj (modulation modulated root normed half gateK zz2 zz3 turned turnLane lanes)

/-- The values' rows. -/
def vals2Arr (X : Vec Ideal S32x2048 .f32) (SC SH : Vec Ideal S1x32x2048 .f32) (w : Vec Ideal S2048x256 .bf16) : Vec Ideal S32x256 .f32 := fun i =>
  ∑ k : Fin 2048, arow X SC SH (i 0) k * w (ix2 k (i 1))

/-- The keys' rows, turned by their positions' angles. -/
def keys2Arr (X : Vec Ideal S32x2048 .f32) (SC SH : Vec Ideal S1x32x2048 .f32) (w : Vec Ideal S2048x256 .bf16) (g : Vec Ideal S1x128 .f32)
    (C S : Vec Ideal S32x128 .f32) : Vec Ideal S32x256 .f32 := fun i =>
  turned (fun e => ∑ k : Fin 2048, arow X SC SH (i 0) k * w (ix2 k ⟨128 * ((i 1).val / 128) + e.val, by have : (i 1).val < 256 := (i 1).isLt; omega⟩))
    (fun e => g (ix2 0 e)) (fun e => C (ix2 (i 0) e)) (fun e => S (ix2 (i 0) e)) ⟨(i 1).val % 128, Nat.mod_lt _ (by decide)⟩

/-- The narrow projection's rows. -/
def miscArr (X : Vec Ideal S32x2048 .f32) (SC SH : Vec Ideal S1x32x2048 .f32) (w : Vec Ideal S2048x128 .f32) (b : Vec Ideal S1x128 .f32)
    (C S : Vec Ideal S32x128 .f32) : Vec Ideal S32x128 .f32 := fun i =>
  lanes (fun n => ∑ k : Fin 2048, arow X SC SH (i 0) k * w (ix2 k n)) (fun n => b (ix2 0 n)) (fun e => C (ix2 (i 0) e)) (fun e => S (ix2 (i 0) e)) (i 1)

theorem idx2 : ∀ t : Fin grid2.N,
    (win2_0.index t 0 = 0 ∧ win2_0.index t 1 = 0)
    ∧ (win2_1.index t 0 = 0 ∧ win2_1.index t 1 = 0 ∧ win2_1.index t 2 = 0)
    ∧ (win2_2.index t 0 = 0 ∧ win2_2.index t 1 = 0 ∧ win2_2.index t 2 = 0)
    ∧ (win2_4.index t 0 = 0 ∧ win2_4.index t 1 = 0) ∧ (win2_5.index t 0 = 0 ∧ win2_5.index t 1 = 0)
    ∧ (win2_7.index t 0 = 0 ∧ win2_7.index t 1 = 0)
    ∧ (win2_9.index t 0 = 0 ∧ win2_9.index t 1 = 0) ∧ (win2_10.index t 0 = 0 ∧ win2_10.index t 1 = 0) := by
  decide +kernel

theorem idx2' : ∀ t : Fin grid2.N,
    (win2_11.index t 0 = 0 ∧ win2_11.index t 1 = 0) ∧ (win2_12.index t 0 = 0 ∧ win2_12.index t 1 = 0)
    ∧ (win2_13.index t 0 = 0 ∧ win2_13.index t 1 = 0) ∧ (win2_14.index t 0 = 0 ∧ win2_14.index t 1 = 0)
    ∧ (win2_21.index t 0 = 0 ∧ win2_21.index t 1 = 0) ∧ (win2_22.index t 0 = 0 ∧ win2_22.index t 1 = 0)
    ∧ (win2_23.index t 0 = 0 ∧ win2_23.index t 1 = 0) := by
  decide +kernel

variable (V : (c : Dev nD) → (b : Ref sig .tc) → Buf (Elt Ideal) ((c : Thread nD τ).loc b))

def aWK2 (c : Dev nD) : Vec Ideal S2048x256 .bf16 := V c main_v35
def aWV2 (c : Dev nD) : Vec Ideal S2048x256 .bf16 := V c main_v37
def aWM (c : Dev nD) : Vec Ideal S2048x128 .f32 := V c main_v43
def aGK2 (c : Dev nD) : Vec Ideal S1x128 .f32 := V c main_v57
def aBF (c : Dev nD) : Vec Ideal S1x128 .f32 := V c main_v49
def aC2 (c : Dev nD) : Vec Ideal S32x128 .f32 := V c main_v76
def aS2 (c : Dev nD) : Vec Ideal S32x128 .f32 := V c main_v81
def aC1 (c : Dev nD) : Vec Ideal S32x128 .f32 := V c main_v99
def aS1 (c : Dev nD) : Vec Ideal S32x128 .f32 := V c main_v104

theorem rd2_x (c : Dev nD) (t : Fin cfg2.N) (r : Fin 32) (k : Fin 2048) : iblk2 V c 0 t (ix2 r k) = aX V c (ix2 r k) := by
  unfold aX
  blk_point [iblk2, idx2 t]
theorem rd2_sc (c : Dev nD) (t : Fin cfg2.N) (r : Fin 32) (k : Fin 2048) : iblk2 V c 1 t (ix3 0 r k) = aSC V c (ix3 0 r k) := by
  unfold aSC
  blk_point [iblk2, idx2 t]
theorem rd2_sh (c : Dev nD) (t : Fin cfg2.N) (r : Fin 32) (k : Fin 2048) : iblk2 V c 2 t (ix3 0 r k) = aSH V c (ix3 0 r k) := by
  unfold aSH
  blk_point [iblk2, idx2 t]
theorem rd2_wk (c : Dev nD) (t : Fin cfg2.N) (k : Fin 2048) (n : Fin 256) : iblk2 V c 4 t (ix2 k n) = aWK2 V c (ix2 k n) := by
  unfold aWK2
  blk_point [iblk2, idx2 t]
theorem rd2_wv (c : Dev nD) (t : Fin cfg2.N) (k : Fin 2048) (n : Fin 256) : iblk2 V c 5 t (ix2 k n) = aWV2 V c (ix2 k n) := by
  unfold aWV2
  blk_point [iblk2, idx2 t]
theorem rd2_wm (c : Dev nD) (t : Fin cfg2.N) (k : Fin 2048) (n : Fin 128) : iblk2 V c 7 t (ix2 k n) = aWM V c (ix2 k n) := by
  unfold aWM
  blk_point [iblk2, idx2 t]
theorem rd2_gk (c : Dev nD) (t : Fin cfg2.N) (n : Fin 128) : iblk2 V c 9 t (ix2 0 n) = aGK2 V c (ix2 0 n) := by
  unfold aGK2
  blk_point [iblk2, idx2 t]
theorem rd2_bf (c : Dev nD) (t : Fin cfg2.N) (n : Fin 128) : iblk2 V c 10 t (ix2 0 n) = aBF V c (ix2 0 n) := by
  unfold aBF
  blk_point [iblk2, idx2 t]
theorem rd2_c2 (c : Dev nD) (t : Fin cfg2.N) (r : Fin 32) (n : Fin 128) : iblk2 V c 11 t (ix2 r n) = aC2 V c (ix2 r n) := by
  unfold aC2
  blk_point [iblk2, idx2' t]
theorem rd2_s2 (c : Dev nD) (t : Fin cfg2.N) (r : Fin 32) (n : Fin 128) : iblk2 V c 12 t (ix2 r n) = aS2 V c (ix2 r n) := by
  unfold aS2
  blk_point [iblk2, idx2' t]
theorem rd2_c1 (c : Dev nD) (t : Fin cfg2.N) (r : Fin 32) (n : Fin 128) : iblk2 V c 13 t (ix2 r n) = aC1 V c (ix2 r n) := by
  unfold aC1
  blk_point [iblk2, idx2' t]
theorem rd2_s1 (c : Dev nD) (t : Fin cfg2.N) (r : Fin 32) (n : Fin 128) : iblk2 V c 14 t (ix2 r n) = aS1 V c (ix2 r n) := by
  unfold aS1
  blk_point [iblk2, idx2' t]

theorem mrow2 (c : Dev nD) (t : Fin cfg2.N) (r : Fin 32) :
    mrow (iblk2 V c 0 t) (iblk2 V c 1 t) (iblk2 V c 2 t) r = arow (aX V c) (aSC V c) (aSH V c) r := by
  unfold mrow arow
  simp only [rd2_x, rd2_sc, rd2_sh]

theorem final2_22 (c : Dev nD) : (dat2 V c).arrAt 22 cfg2.N = vals2Arr (aX V c) (aSC V c) (aSH V c) (aWV2 V c) := by
  refine (dat2 V c).arrAt_eq_of_covers 22 _ (by decide +kernel) fun t _ y => ?_
  blk_simp
  rw [after2_22]
  idx_vars y
  refine (out22_at _ _ _ _ _ _ _ _ _ _ _ _ _ _ _ y0 y1).trans ?_
  have e : (((cfg2.win 22).blk t).view.emb (ix2 y0 y1) : (⟨2, ![32, 256]⟩ : Shape).Idx) = ix2 (y0) y1 := by
    blk_ext [idx2' t]
  rw [e, mrow2]
  simp only [rd2_wv]
  rfl

theorem final2_21 (c : Dev nD) : (dat2 V c).arrAt 21 cfg2.N = keys2Arr (aX V c) (aSC V c) (aSH V c) (aWK2 V c) (aGK2 V c) (aC2 V c) (aS2 V c) := by
  refine (dat2 V c).arrAt_eq_of_covers 21 _ (by decide +kernel) fun t _ y => ?_
  blk_simp
  rw [after2_21]
  idx_vars y
  refine (out21_at _ _ _ _ _ _ _ _ _ _ _ _ _ _ _ (ix2 y0 y1)).trans ?_
  have e : (((cfg2.win 21).blk t).view.emb (ix2 y0 y1) : (⟨2, ![32, 256]⟩ : Shape).Idx) = ix2 (y0) y1 := by
    blk_ext [idx2' t]
  rw [e]
  unfold keys2 keys2Arr
  simp only [ix2_0, ix2_1]
  rw [mrow2]
  simp only [rd2_wk, rd2_gk, rd2_c2, rd2_s2]

theorem final2_23 (c : Dev nD) : (dat2 V c).arrAt 23 cfg2.N = miscArr (aX V c) (aSC V c) (aSH V c) (aWM V c) (aBF V c) (aC1 V c) (aS1 V c) := by
  refine (dat2 V c).arrAt_eq_of_covers 23 _ (by decide +kernel) fun t _ y => ?_
  blk_simp
  rw [after2_23]
  idx_vars y
  refine (out23_at _ _ _ _ _ _ _ _ _ _ _ _ _ _ _ y0 y1).trans ?_
  have e : (((cfg2.win 23).blk t).view.emb (ix2 y0 y1) : (⟨2, ![32, 128]⟩ : Shape).Idx) = ix2 (y0) y1 := by
    blk_ext [idx2' t]
  rw [e]
  unfold miscArr
  simp only [ix2_0, ix2_1]
  rw [mrow2]
  simp only [rd2_wm, rd2_bf, rd2_c1, rd2_s1]

end Cert.ProjS

end
-- ==== Proof.ProjS.Chain.lean ====
/-
  The projection kernel's six results as the sample's rows (Spec.lean), through the host's stretches and the three regions.
-/
module

public import proofs.«01_k».proof.Proof.Proj.Chain
public import proofs.«01_k».proof.Proof.ProjS.Spec
public import proofs.«01_k».proof.Proof.ProjS.Host
public import proofs.«01_k».proof.Proof.ProjS.Final0
public import proofs.«01_k».proof.Proof.ProjS.Final1
public import proofs.«01_k».proof.Proof.ProjS.Final2

@[expose] public section

set_option maxRecDepth 16384

noncomputable section

namespace Cert.ProjS

open Cert.Kernel4Ideal Cert.Kernel4Ideal.Gen Idealize.ShloMosaic Idealize.ShloMosaic.TcCoe Idealize.SL.Sem
open Cert.Kernel4Ideal.Facts
open Cert.Proj (modulation modulated normed turned turnLane gateK angle lanes lanes_gate lanes_idx)

variable (m : (ℓ : Loc nD τ sig) → Buf (Elt Ideal) ℓ) (ρ : Dev nD → PrngReg) (c : Dev nD)

/-- The arguments' numbers. -/
def args : Args where
  x b k := val3 32 1 2048 (m ((c : Thread nD τ).loc main_arg0)) b 0 k
  c b k := val2 32 2048 (m ((c : Thread nD τ).loc main_arg2)) b k
  w k n := val3 1 2048 5720 (m ((c : Thread nD τ).loc main_arg3)) 0 k n
  a k n := val3 1 2048 12288 (m ((c : Thread nD τ).loc main_arg9)) 0 k n
  ab n := val2 1 12288 (m ((c : Thread nD τ).loc main_arg10)) 0 n
  bf n := val2 1 8 (m ((c : Thread nD τ).loc main_arg4)) 0 n
  gf n := val2 1 128 (m ((c : Thread nD τ).loc main_arg6)) 0 n
  gd n := val2 1 128 (m ((c : Thread nD τ).loc main_arg8)) 0 n

theorem mod_at (b : Fin 32) (n : Fin 12288) :
    val2 40 12288 (W2 m ρ c (Proc.devRef .tc main_v5)) ⟨4 + b.val, by omega⟩ n = (args m c).mod b n := by
  have h : W2 m ρ c (Proc.devRef .tc main_v5) = modArr (aC (V1 m ρ) c) (aW (V1 m ρ) c) (aB (V1 m ρ) c) :=
    (W2_arr m ρ c 3).trans (final0 (V1 m ρ) c)
  unfold val2
  rw [h]
  unfold modArr Args.mod
  simp only [ix2_0, ix2_1]
  have h1 : (fun k => aC (V1 m ρ) c (ix2 ⟨4 + b.val, by omega⟩ k)) = (args m c).c b := funext fun k => h0_c (W0 m ρ c) b k
  have h2 : (fun k => aW (V1 m ρ) c (ix2 k n)) = fun k => (args m c).a k n := funext fun k => h0_w (W0 m ρ c) k n
  have h3 : aB (V1 m ρ) c (ix2 0 n) = (args m c).ab n := h0_b (W0 m ρ c) n
  rw [h1, h2, h3]

theorem arg_W2 (a : Ref sig .tc) (h : a ∈ argRefs) : W2 m ρ c (Proc.devRef .tc a) = m ((c : Thread nD τ).loc a) := W2_args m ρ c a h

theorem x_at (t : Fin 32) (k : Fin 2048) : aX (V3 m ρ) c (ix2 t k) = (args m c).x t k := by
  refine (h1_x (W2 m ρ c) t k).trans ?_
  rw [arg_W2 m ρ c main_arg0 (by decide)]
  rfl
theorem sc_at (b : Fin 32) (k : Fin 2048) : aSC (V3 m ρ) c (ix3 0 b k) = (args m c).mod b ⟨2048 + k.val, by omega⟩ :=
  (h1_sc (W2 m ρ c) b k).trans (mod_at m ρ c b _)
theorem sh_at (b : Fin 32) (k : Fin 2048) : aSH (V3 m ρ) c (ix3 0 b k) = (args m c).mod b ⟨k.val, by omega⟩ :=
  (h1_sh (W2 m ρ c) b k).trans (mod_at m ρ c b _)

/-- A row of the modulated activations, in either region. -/
theorem arow_at (b : Fin 32) :
    arow (aX (V3 m ρ) c) (aSC (V3 m ρ) c) (aSH (V3 m ρ) c) b = (args m c).row b := by
  unfold arow Args.row
  simp only [x_at, sc_at, sh_at]
theorem keep5 (r : Ref sig .tc) (h' : ∀ w : Fin cfg1.W, Pipeline.arrRef spec1 w = r → (cfg1.win w).isOut = false) :
    V4 m ρ c r = V3 m ρ c r := W4_of m ρ c r h'
theorem aX5 : aX (V4 m ρ) c = aX (V3 m ρ) c := keep5 m ρ c main_v105 (by decide +kernel)
theorem aSC5 : aSC (V4 m ρ) c = aSC (V3 m ρ) c := keep5 m ρ c main_v15 (by decide +kernel)
theorem aSH5 : aSH (V4 m ρ) c = aSH (V3 m ρ) c := keep5 m ρ c main_v13 (by decide +kernel)

theorem wk_at (k : Fin 2048) (n : Fin 1024) : aWK (V3 m ρ) c (ix2 k n) = (args m c).w k ⟨1024 + n.val, by omega⟩ := by
  refine (h1_wk (W2 m ρ c) k n).trans ?_
  rw [arg_W2 m ρ c main_arg3 (by decide)]
  rfl
theorem wv_at (k : Fin 2048) (n : Fin 1024) : aWV (V3 m ρ) c (ix2 k n) = (args m c).w k ⟨2048 + n.val, by omega⟩ := by
  refine (h1_wv (W2 m ρ c) k n).trans ?_
  rw [arg_W2 m ρ c main_arg3 (by decide)]
  rfl
theorem gk_at (n : Fin 128) : aGK (V3 m ρ) c (ix2 0 n) = (args m c).gf n := by
  refine (h1_gk (W2 m ρ c) n).trans ?_
  rw [arg_W2 m ρ c main_arg6 (by decide)]
  rfl
theorem wk2_at (k : Fin 2048) (n : Fin 256) : aWK2 (V4 m ρ) c (ix2 k n) = (args m c).w k ⟨4104 + n.val, by omega⟩ := by
  unfold aWK2
  rw [keep5 m ρ c main_v35 (by decide +kernel)]
  refine (h1_wk2 (W2 m ρ c) k n).trans ?_
  rw [arg_W2 m ρ c main_arg3 (by decide)]
  rfl
theorem wv2_at (k : Fin 2048) (n : Fin 256) : aWV2 (V4 m ρ) c (ix2 k n) = (args m c).w k ⟨4360 + n.val, by omega⟩ := by
  unfold aWV2
  rw [keep5 m ρ c main_v37 (by decide +kernel)]
  refine (h1_wv2 (W2 m ρ c) k n).trans ?_
  rw [arg_W2 m ρ c main_arg3 (by decide)]
  rfl
theorem gk2_at (n : Fin 128) : aGK2 (V4 m ρ) c (ix2 0 n) = (args m c).gd n := by
  unfold aGK2
  rw [keep5 m ρ c main_v57 (by decide +kernel)]
  refine (h1_gk2 (W2 m ρ c) n).trans ?_
  rw [arg_W2 m ρ c main_arg8 (by decide)]
  rfl
theorem bf_at (n : Fin 8) : aBF (V4 m ρ) c (ix2 0 ⟨64 + n.val, by omega⟩) = (args m c).bf n := by
  unfold aBF
  rw [keep5 m ρ c main_v49 (by decide +kernel)]
  refine (h1_bf (W2 m ρ c) n).trans ?_
  rw [arg_W2 m ρ c main_arg4 (by decide)]
  rfl
theorem c2_at (p : Fin 32) (n : Fin 128) : aC2 (V4 m ρ) c (ix2 p n) = Args.cos2 n := by
  unfold aC2
  rw [keep5 m ρ c main_v76 (by decide +kernel)]
  exact h1_c2 (W2 m ρ c) p n
theorem s2_at (p : Fin 32) (n : Fin 128) : aS2 (V4 m ρ) c (ix2 p n) = Args.sin2 n := by
  unfold aS2
  rw [keep5 m ρ c main_v81 (by decide +kernel)]
  exact h1_s2 (W2 m ρ c) p n
theorem c1_at (p : Fin 32) (n : Fin 64) : aC1 (V4 m ρ) c (ix2 p ⟨n.val, by omega⟩) = Args.cos1 n := by
  unfold aC1
  rw [keep5 m ρ c main_v99 (by decide +kernel)]
  refine (h1_c1 (W2 m ρ c) p ⟨n.val, by omega⟩).trans ?_
  simp only [Nat.mod_eq_of_lt n.isLt]
  rfl
theorem s1_at (p : Fin 32) (n : Fin 64) : aS1 (V4 m ρ) c (ix2 p ⟨n.val, by omega⟩) = Args.sin1 n := by
  unfold aS1
  rw [keep5 m ρ c main_v104 (by decide +kernel)]
  refine (h1_s1 (W2 m ρ c) p ⟨n.val, by omega⟩).trans ?_
  simp only [Nat.mod_eq_of_lt n.isLt]
  rfl
theorem ki_at (k : Fin 2048) (n : Fin 64) : aWM (V4 m ρ) c (ix2 k ⟨n.val, by omega⟩) = (args m c).w k ⟨5640 + n.val, by omega⟩ := by
  unfold aWM
  rw [keep5 m ρ c main_v43 (by decide +kernel)]
  refine (h1_ki (W2 m ρ c) k n).trans ?_
  rw [arg_W2 m ρ c main_arg3 (by decide)]
  rfl
theorem fl_at (k : Fin 2048) (n : Fin 8) : aWM (V4 m ρ) c (ix2 k ⟨64 + n.val, by omega⟩) = (args m c).w k ⟨3072 + n.val, by omega⟩ := by
  unfold aWM
  rw [keep5 m ρ c main_v43 (by decide +kernel)]
  refine (h1_fl (W2 m ρ c) k n).trans ?_
  rw [arg_W2 m ρ c main_arg3 (by decide)]
  rfl

/-- Region 1's arrays reach the end. -/
theorem keep6 (r : Ref sig .tc) (h' : ∀ w : Fin cfg2.W, Pipeline.arrRef spec2 w = r → (cfg2.win w).isOut = false) :
    W5 m ρ c (Proc.devRef .tc r) = W4 m ρ c (Proc.devRef .tc r) := W5_of m ρ c r h'

theorem kf_arr : W5 m ρ c (Proc.devRef .tc main_v106_3) = keysArr (aX (V3 m ρ) c) (aSC (V3 m ρ) c) (aSH (V3 m ρ) c) (aWK (V3 m ρ) c) (aGK (V3 m ρ) c) :=
  (keep6 m ρ c main_v106_3 (by decide +kernel)).trans ((W4_arr m ρ c 11).trans (final1_11 (V3 m ρ) c))
theorem vf_arr : W5 m ρ c (Proc.devRef .tc main_v106_4) = valsArr (aX (V3 m ρ) c) (aSC (V3 m ρ) c) (aSH (V3 m ρ) c) (aWV (V3 m ρ) c) :=
  (keep6 m ρ c main_v106_4 (by decide +kernel)).trans ((W4_arr m ρ c 12).trans (final1_12 (V3 m ρ) c))
theorem kd_arr : W5 m ρ c (Proc.devRef .tc main_v107_6) = keys2Arr (aX (V3 m ρ) c) (aSC (V3 m ρ) c) (aSH (V3 m ρ) c) (aWK2 (V4 m ρ) c) (aGK2 (V4 m ρ) c) (aC2 (V4 m ρ) c) (aS2 (V4 m ρ) c) := by
  refine ((W5_arr m ρ c 21).trans (final2_21 (V4 m ρ) c)).trans ?_
  rw [aX5, aSC5, aSH5]
theorem vd_arr : W5 m ρ c (Proc.devRef .tc main_v107_7) = vals2Arr (aX (V3 m ρ) c) (aSC (V3 m ρ) c) (aSH (V3 m ρ) c) (aWV2 (V4 m ρ) c) := by
  refine ((W5_arr m ρ c 22).trans (final2_22 (V4 m ρ) c)).trans ?_
  rw [aX5, aSC5, aSH5]
theorem misc_arr : W5 m ρ c (Proc.devRef .tc main_v107_8) = miscArr (aX (V3 m ρ) c) (aSC (V3 m ρ) c) (aSH (V3 m ρ) c) (aWM (V4 m ρ) c) (aBF (V4 m ρ) c) (aC1 (V4 m ρ) c) (aS1 (V4 m ρ) c) := by
  refine ((W5_arr m ρ c 23).trans (final2_23 (V4 m ρ) c)).trans ?_
  rw [aX5, aSC5, aSH5]

theorem res_kf (b : Fin 32) (h : Fin 8) (e : Fin 128) :
    (W6 m ρ c (Proc.devRef .tc main_v108) (ix5 0 b 0 h e : S1x32x1x8x128.Idx) : EReal) = (args m c).kf b h e := by
  refine (h3_kf (W5 m ρ c) b h e).trans ?_
  unfold val2
  rw [kf_arr]
  unfold keysArr Args.kf Args.proj
  have e1 : (h.val * 128 + e.val) / 128 = h.val := by omega
  have e2 : ∀ q, (⟨(h.val * 128 + e.val) % 128, q⟩ : Fin 128) = e := fun q => Fin.ext (by simp only; omega)
  simp only [ix2_0, ix2_1, e1, e2, arow_at, wk_at, gk_at, Nat.mul_comm 128]

theorem res_vf (b : Fin 32) (h : Fin 8) (e : Fin 128) :
    (W6 m ρ c (Proc.devRef .tc main_v109) (ix5 0 b 0 h e : S1x32x1x8x128.Idx) : EReal) = (args m c).vf b h e := by
  refine (h3_vf (W5 m ρ c) b h e).trans ?_
  unfold val2
  rw [vf_arr]
  unfold valsArr Args.vf Args.proj
  simp only [ix2_0, ix2_1, arow_at, wv_at]

theorem res_kd (b : Fin 32) (h : Fin 2) (e : Fin 128) :
    (W6 m ρ c (Proc.devRef .tc main_v112) (ix5 0 b 0 h e : S1x32x1x2x128.Idx) : EReal) = (args m c).kd b h e := by
  refine (h3_kd (W5 m ρ c) b h e).trans ?_
  unfold val2
  rw [kd_arr]
  unfold keys2Arr Args.kd Args.proj
  have e1 : (h.val * 128 + e.val) / 128 = h.val := by omega
  have e2 : ∀ q, (⟨(h.val * 128 + e.val) % 128, q⟩ : Fin 128) = e := fun q => Fin.ext (by simp only; omega)
  simp only [ix2_0, ix2_1, e1, e2, arow_at, wk2_at, gk2_at, c2_at, s2_at, Nat.mul_comm 128]

theorem res_vd (b : Fin 32) (h : Fin 2) (e : Fin 128) :
    (W6 m ρ c (Proc.devRef .tc main_v113) (ix5 0 b 0 h e : S1x32x1x2x128.Idx) : EReal) = (args m c).vd b h e := by
  refine (h3_vd (W5 m ρ c) b h e).trans ?_
  unfold val2
  rw [vd_arr]
  unfold vals2Arr Args.vd Args.proj
  simp only [ix2_0, ix2_1, arow_at, wv2_at]

theorem res_lf (b : Fin 32) (h : Fin 8) :
    (W6 m ρ c (Proc.devRef .tc main_v111) (ix4 0 b 0 h : S1x32x1x8.Idx) : EReal) = (args m c).lf b h := by
  refine (h3_lf (W5 m ρ c) b h).trans ?_
  unfold val2
  rw [misc_arr]
  unfold miscArr Args.lf Args.proj
  refine (lanes_gate _ _ _ _ h).trans ?_
  simp only [ix2_0, arow_at, fl_at, bf_at]

theorem res_ki (b : Fin 32) (e : Fin 64) :
    (W6 m ρ c (Proc.devRef .tc main_v115) (ix4 0 b 0 e : S1x32x1x64.Idx) : EReal) = (args m c).ki b e := by
  refine (h3_ki (W5 m ρ c) b e).trans ?_
  unfold val2
  rw [misc_arr]
  unfold miscArr Args.ki Args.proj
  refine (lanes_idx _ _ _ _ e).trans ?_
  simp only [ix2_0, arow_at, c1_at, s1_at, ki_at]

end Cert.ProjS

end
-- ==== Proof.ProjS.Ref.lean ====
/-
  The reference's six results of the sample as the same functions of the arguments' numbers (Spec.lean).
-/
module

public import proofs.«01_k».proof.Proof.Gen.Reference4Ideal.Run
public import proofs.«01_k».proof.Proof.ProjS.Spec

@[expose] public section

set_option maxRecDepth 16384

noncomputable section

namespace Cert.ProjS.Ref

open Cert.Reference4Ideal Cert.Reference4Ideal.Value Idealize.ShloMosaic Idealize.ShloMosaic.TcCoe
open Cert.Reference4Ideal.Facts
open Cert.Proj (modulation modulated root normed turned turnLane gateK angle)

variable (V0 : Valuation τ sig (Elt Ideal))

/-- The contents of an array, as numbers. -/
abbrev num2 (m n : ℕ) (x : (⟨⟨2, ![m, n]⟩, .f32⟩ : BufTy).Contents (Elt Ideal)) (i : Fin m) (j : Fin n) : EReal := x (ix2 i j)
abbrev num3 (l m n : ℕ) (x : (⟨⟨3, ![l, m, n]⟩, .f32⟩ : BufTy).Contents (Elt Ideal)) (h : Fin l) (i : Fin m) (j : Fin n) : EReal := x (ix3 h i j)

/-- The arguments' numbers. -/
def args : Args where
  x b k := num3 32 1 2048 (V0 (Proc.devRef .tc main_arg0)) b 0 k
  c b k := num2 32 2048 (V0 (Proc.devRef .tc main_arg2)) b k
  w k n := num3 1 2048 5720 (V0 (Proc.devRef .tc main_arg3)) 0 k n
  a k n := num3 1 2048 12288 (V0 (Proc.devRef .tc main_arg9)) 0 k n
  ab n := num2 1 12288 (V0 (Proc.devRef .tc main_arg10)) 0 n
  bf n := num2 1 8 (V0 (Proc.devRef .tc main_arg4)) 0 n
  gf n := num2 1 128 (V0 (Proc.devRef .tc main_arg6)) 0 n
  gd n := num2 1 128 (V0 (Proc.devRef .tc main_arg8)) 0 n

theorem mod_at (b : Fin 32) (n : Fin 12288) : (res_main_v10 V0 (ix3 b 0 n : S32x1x12288.Idx) : EReal) = (args V0).mod b n := by
  unfold Args.mod modulation args
  pointwise [res_main_v10]

theorem proj_at (b : Fin 32) (n : Fin 5720) : (res_main_v32 V0 (ix3 b 0 n : S32x1x5720.Idx) : EReal) = (args V0).proj b n := by
  unfold Args.proj Args.row modulated root
  simp only [← mod_at]
  unfold args
  pointwise [res_main_v32]

theorem k43_at (b : Fin 32) (h : Fin 8) (e : Fin 128) : (res_main_v43 V0 (ix4 b 0 h e : S32x1x8x128.Idx) : EReal)
    = (args V0).proj b ⟨1024 + (h.val * 128 + e.val), by omega⟩ := by
  rw [← proj_at]
  pointwise [res_main_v43]

theorem k64_at (b : Fin 32) (h : Fin 2) (e : Fin 128) : (res_main_v64 V0 (ix4 b 0 h e : S32x1x2x128.Idx) : EReal)
    = (args V0).proj b ⟨4104 + (h.val * 128 + e.val), by omega⟩ := by
  rw [← proj_at]
  pointwise [res_main_v64]

theorem k78_at (b : Fin 32) (h : Fin 2) (e : Fin 128) : (res_main_v78 V0 (ix4 b 0 h e : S32x1x2x128.Idx) : EReal)
    = normed (fun e => (args V0).proj b ⟨4104 + (h.val * 128 + e.val), by omega⟩) (args V0).gd e := by
  unfold normed root
  simp only [← k64_at]
  unfold args
  pointwise [res_main_v78]

theorem a89_at (n : Fin 64) : (res_main_v89 V0 (ix2 0 n : S1x64.Idx) : EReal) = angle 1115684864#32 16384 n.val := by
  unfold angle
  pointwise [res_main_v89, res_main_v2]
  rfl

theorem a119_at (n : Fin 32) : (res_main_v119 V0 (ix2 0 n : S1x32.Idx) : EReal) = angle 1107296256#32 16384 n.val := by
  unfold angle
  pointwise [res_main_v119, res_main_v2]
  rfl

theorem k108_at (b : Fin 32) (e : Fin 64) : (res_main_v108 V0 (ix4 b 0 0 e : S32x1x1x64.Idx) : EReal)
    = (args V0).proj b ⟨5640 + e.val, by omega⟩ := by
  rw [← proj_at]
  pointwise [res_main_v108]

theorem z_at (b : Fin 32) (h : Fin 8) : (res_main_call1_v0 V0 (ix3 b 0 h : S32x1x8.Idx) : EReal)
    = -((args V0).proj b ⟨3072 + h.val, by omega⟩ + (args V0).bf h) := by
  rw [← proj_at]
  unfold args
  pointwise [res_main_call1_v0]

end Cert.ProjS.Ref

end
-- ==== Proof.ProjS.RefRun.lean ====
/-
  The reference's run: its six results are the sample's rows (Spec.lean).
-/
module

public import proofs.«01_k».proof.Proof.Proj.RefRun
public import proofs.«01_k».proof.Proof.ProjS.Ref

@[expose] public section

set_option maxRecDepth 16384

noncomputable section

namespace Cert.ProjS.Ref

open Cert.Reference4Ideal Cert.Reference4Ideal.Value Idealize.ShloMosaic Idealize.ShloMosaic.TcCoe Idealize.SL.Sem
open Cert.Reference4Ideal.Facts
open Cert.Proj (modulation modulated root normed turned turnLane gateK angle)
open Cert.Proj.Ref (gate_eq turn_key turn_index)

variable (V0 : Valuation τ sig (Elt Ideal))

/-- The rows as arrays. -/
def kfArr (A : Args) : S1x32x1x8x128.Idx → EReal := fun i => A.kf (i 1) (i 3) (i 4)
def vfArr (A : Args) : S1x32x1x8x128.Idx → EReal := fun i => A.vf (i 1) (i 3) (i 4)
def lfArr (A : Args) : S1x32x1x8.Idx → EReal := fun i => A.lf (i 1) (i 3)
def kdArr (A : Args) : S1x32x1x2x128.Idx → EReal := fun i => A.kd (i 1) (i 3) (i 4)
def vdArr (A : Args) : S1x32x1x2x128.Idx → EReal := fun i => A.vd (i 1) (i 3) (i 4)
def kiArr (A : Args) : S1x32x1x64.Idx → EReal := fun i => A.ki (i 1) (i 3)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v138) = kfArr (args (StableHlo.launchContents m c))
      ∧ r.2.mem ((c.tc : Thread nD τ).loc main_v139) = vfArr (args (StableHlo.launchContents m c))
      ∧ r.2.mem ((c.tc : Thread nD τ).loc main_v140) = lfArr (args (StableHlo.launchContents m c))
      ∧ r.2.mem ((c.tc : Thread nD τ).loc main_v141) = kdArr (args (StableHlo.launchContents m c))
      ∧ r.2.mem ((c.tc : Thread nD τ).loc main_v142) = vdArr (args (StableHlo.launchContents m c))
      ∧ r.2.mem ((c.tc : Thread nD τ).loc main_v143) = kiArr (args (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine θ_run_mono (Value.run m ρ) fun r h c => ?_
  obtain ⟨h1, h2, h3, h4, h5, h6, hr⟩ := h c
  refine ⟨h1.trans ?_, h2.trans ?_, h3.trans ?_, h4.trans ?_, h5.trans ?_, h6.trans ?_, hr⟩ <;> clear h h1 h2 h3 h4 h5 h6 hr <;>
    generalize StableHlo.launchContents m c = V0 <;> funext i <;> idx_vars i
  · obtain rfl : i2 = 0 := Subsingleton.elim _ _
    show _ = (args V0).kf i1 i3 i4
    unfold Args.kf normed root
    simp only [← k43_at]
    unfold args
    pointwise []
  · obtain rfl : i2 = 0 := Subsingleton.elim _ _
    show _ = (args V0).vf i1 i3 i4
    unfold Args.vf
    rw [← proj_at]
    pointwise []
  · obtain rfl : i2 = 0 := Subsingleton.elim _ _
    show _ = (args V0).lf i1 i3
    unfold Args.lf
    rw [← gate_eq, ← z_at]
    pointwise [res_main_call1_call0_v3, res_main_call1_call0_cst]
    exact congrArg Neg.neg (if_neg (fun h => h rfl))
  · obtain rfl : i2 = 0 := Subsingleton.elim _ _
    show _ = (args V0).kd i1 i3 i4
    unfold Args.kd turned
    simp only [← k78_at]
    unfold Args.cos2 Args.sin2
    pointwise [res_main_v94, res_main_v95, res_main_v91, res_main_v93, a89_at]
    exact turn_key i4 (fun e => res_main_v78 V0 (ix4 i1 0 i3 e)) (fun j => Ideal.cos (angle 1115684864#32 16384 j))
      (fun j => Ideal.sin (angle 1115684864#32 16384 j))
  · obtain rfl : i2 = 0 := Subsingleton.elim _ _
    show _ = (args V0).vd i1 i3 i4
    unfold Args.vd
    rw [← proj_at]
    pointwise []
  · obtain rfl : i2 = 0 := Subsingleton.elim _ _
    show _ = (args V0).ki i1 i3
    unfold Args.ki
    simp only [← k108_at]
    unfold Args.cos1 Args.sin1
    pointwise [res_main_v124, res_main_v125, res_main_v121, res_main_v123, a119_at]
    exact turn_index i3 (fun e => res_main_v108 V0 (ix4 i1 0 0 e)) (fun j => Ideal.cos (angle 1107296256#32 16384 j))
      (fun j => Ideal.sin (angle 1107296256#32 16384 j))

end Cert.ProjS.Ref

end
-- ==== Proof.ProjS.Claims.lean ====
/-
  The claims of the sample's projections: their reference's frame, and that both return the same six arrays.
-/
module

public import proofs.«01_k».proof.Defs
public import proofs.«01_k».proof.Proof.ProjS.Run
public import proofs.«01_k».proof.Proof.ProjS.Chain
public import proofs.«01_k».proof.Proof.ProjS.RefRun
public import Idealize.ShloMosaic.Lib.Claim
public import Idealize.ShloMosaic.Lib.Quiescent

@[expose] public section

set_option maxRecDepth 16384

noncomputable section

namespace Cert.ProjS

open Idealize.ShloMosaic Idealize.ShloMosaic.TcCoe Idealize.SL.Sem

theorem frame_reference : Cert.quiescent_Reference4Ideal := fun m ρ _ =>
  θ_run_mono (Cert.Reference4Ideal.Value.run m ρ) fun r h =>
    ⟨fun c => (h c).2.2.2.2.2.2, sem_eq_zero_of_no_sems (by decide) r.2⟩

section
open Cert.Kernel4Ideal Cert.Kernel4Ideal.Gen

/-- The kernel's six results are the arguments' rows; its arguments end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) = Ref.kfArr (args m c)
      ∧ r.2.mem ((c.tc : Thread nD τ).loc main_v109) = Ref.vfArr (args m c)
      ∧ r.2.mem ((c.tc : Thread nD τ).loc main_v111) = Ref.lfArr (args m c)
      ∧ r.2.mem ((c.tc : Thread nD τ).loc main_v112) = Ref.kdArr (args m c)
      ∧ r.2.mem ((c.tc : Thread nD τ).loc main_v113) = Ref.vdArr (args m c)
      ∧ r.2.mem ((c.tc : Thread nD τ).loc main_v115) = Ref.kiArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine θ_run_mono (run_bufs m ρ) fun r h c => ?_
  refine ⟨(h c _ (mem_uc main_v108 (by decide))).trans ?_, (h c _ (mem_uc main_v109 (by decide))).trans ?_, (h c _ (mem_uc main_v111 (by decide))).trans ?_, (h c _ (mem_uc main_v112 (by decide))).trans ?_, (h c _ (mem_uc main_v113 (by decide))).trans ?_, (h c _ (mem_uc main_v115 (by decide))).trans ?_,
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩ <;>
    funext i <;> idx_vars i
  · fin_cases i0; fin_cases i2; exact res_kf m ρ c i1 i3 i4
  · fin_cases i0; fin_cases i2; exact res_vf m ρ c i1 i3 i4
  · fin_cases i0; fin_cases i2; exact res_lf m ρ c i1 i3
  · fin_cases i0; fin_cases i2; exact res_kd m ρ c i1 i3 i4
  · fin_cases i0; fin_cases i2; exact res_vd m ρ c i1 i3 i4
  · fin_cases i0; fin_cases i2; exact res_ki m ρ c i1 i3

end

/-- Memories that agree on the arguments hold the same numbers. -/
theorem args_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (e0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (e2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (e3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (e4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (e6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (e8 : m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8))
    (e9 : m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9))
    (e10 : m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) :
    Ref.args (StableHlo.launchContents m' c) = args m c := by
  refine Args.ext ?_ ?_ ?_ ?_ ?_ ?_ ?_ ?_
  · funext b k; exact congrFun e0 (ix3 b 0 k)
  · funext b k; exact congrFun e2 (ix2 b k)
  · funext k n; exact congrFun e3 (ix3 0 k n)
  · funext k n; exact congrFun e9 (ix3 0 k n)
  · funext n; exact congrFun e10 (ix2 0 n)
  · funext n; exact congrFun e4 (ix2 0 n)
  · funext n; exact congrFun e6 (ix2 0 n)
  · funext n; exact congrFun e8 (ix2 0 n)

theorem value : Cert.algebraic_Kernel4Ideal_Reference4Ideal := by
  intro m g m' g' _ hagree
  refine ⟨fun c => Ref.kfArr (args m c), fun c => Ref.vfArr (args m c), fun c => Ref.lfArr (args m c), fun c => Ref.kdArr (args m c), fun c => Ref.vdArr (args m c), fun c => Ref.kiArr (args m c), run m g, ?_⟩
  refine θ_run_mono (Ref.run m' g') fun r h c => ?_
  obtain ⟨e0, -, e2, e3, e4, -, e6, -, e8, e9, e10⟩ := hagree c
  have ha := args_agree m m' c e0 e2 e3 e4 e6 e8 e9 e10
  obtain ⟨h1, h2, h3, h4, h5, h6, hr⟩ := h c
  rw [ha] at h1 h2 h3 h4 h5 h6
  exact ⟨h1, h2, h3, h4, h5, h6, hr⟩

end Cert.ProjS

end
-- ==== Proof.lean ====
/-
  The claims of the statement. The kernel's frames are generated; the reference is a host program without semaphores, so its
  frame is its generated run with the counters, of which there are none. The attention's value claim: the kernel's result
  array is `Fox.result` of its operands (Fox/Final.lean), and where the precondition holds so is the reference's
  (Fox/Ref.lean). The experts' call reads tables, so its frames and its value are proved at every pair of tables in range
  (Moe/Claims.lean). The projections' frames are generated; both programs return the rows of Proj/Spec.lean for the prompt
  (Proj/Claims.lean) and of ProjS/Spec.lean for the sample (ProjS/Claims.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_scores_finite
public import proofs.«01_k».proof.Proof.Gen.Pre_tables_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Fox.Ref
public import proofs.«01_k».proof.Proof.Fox.Pre
public import proofs.«01_k».proof.Proof.Moe.Claims
public import proofs.«01_k».proof.Proof.Proj.Claims
public import proofs.«01_k».proof.Proof.ProjS.Claims
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The attention's reference: its run, and no counter to read. -/
theorem fox_reference : Cert.quiescent_ReferenceIdeal := fun m ρ _ =>
  θ_run_mono (Cert.ReferenceIdeal.Value.run m ρ) fun r h =>
    ⟨fun c => (h c).2, sem_eq_zero_of_no_sems (by decide) r.2⟩

/-- The attention's value. -/
theorem fox_value : Cert.algebraic_KernelIdeal_ReferenceIdeal_pre_scores_finite := by
  pair_intro
  · run_from (Cert.KernelIdeal.Value.run_blocks m g)
  · refine θ_run_mono (Cert.ReferenceIdeal.Value.run m' g') fun r h c => ?_
    obtain ⟨e0, e1, e2, e3⟩ := hagree c
    obtain ⟨hq, hk, hc⟩ := Fox.finite_of_pre _ _ _ _ (hpre c)
    exact ⟨(h c).1.trans ((Fox.ref_eq m' c _ _ _ _ e0 e1 e2 e3 hq hk hc).trans (Fox.final (m := m) c).symm),
      (h c).2.1, (h c).2.2.1, (h c).2.2.2.1, (h c).2.2.2.2⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
      Cert.Reference3Ideal.Gen.facts, Cert.Kernel4.Gen.facts, Cert.Kernel4Ideal.Gen.facts, Cert.Reference4Ideal.Gen.facts,
    Cert.Pre_scores_finite.Gen.facts,
    Cert.Pre_tables_in_range.Gen.facts,
    fun m ρ _ => Cert.Kernel.Gen.frame m ρ, fun m ρ _ => Cert.KernelIdeal.Gen.frame m ρ,
    fun m ρ _ => Cert.KernelIdeal.Gen.frame m ρ, fox_reference, fun m ρ _ => fox_reference m ρ trivial,
    Moe.frame_words, Moe.frame_ideal, Moe.frame_reference, fun m ρ _ => Moe.frame_reference m ρ trivial,
    fun m ρ _ => Cert.Kernel3.Gen.frame m ρ, fun m ρ _ => Cert.Kernel3Ideal.Gen.frame m ρ, Proj.frame_reference,
    fun m ρ _ => Cert.Kernel4.Gen.frame m ρ, fun m ρ _ => Cert.Kernel4Ideal.Gen.frame m ρ, ProjS.frame_reference,
    trivial, fox_value, trivial, Moe.value, trivial, Proj.value, trivial, ProjS.value⟩

end Cert.Proof

end
